-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite [hPre_finite : Cert.Pre_finite.Facts] (m : (ℓ : Loc Cert.GateIdeal.nD Cert.GateIdeal.τ Cert.GateIdeal.sig) → Buf (Elt Ideal) ℓ) : Prop :=
  ∀ c : Dev Cert.GateIdeal.nD,
    (Cert.Pre_finite.fn (F := Ideal) (m ((c.tc : Thread Cert.GateIdeal.nD Cert.GateIdeal.τ).loc Cert.GateIdeal.main_arg0))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite [hPre_finite : Cert.Pre_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite.fn (F := Ideal) (m ((c.tc : Thread Cert.GateRefIdeal.nD Cert.GateRefIdeal.τ).loc Cert.GateRefIdeal.main_arg0))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_no_future [hPre_no_future : Cert.Pre_no_future.Facts] (m : (ℓ : Loc Cert.AttnIdeal.nD Cert.AttnIdeal.τ Cert.AttnIdeal.sig) → Buf (Elt Ideal) ℓ) : Prop :=
  ∀ c : Dev Cert.AttnIdeal.nD,
    (Cert.Pre_no_future.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_no_future [hPre_no_future : Cert.Pre_no_future.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_no_future.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_below_inf [hPre_below_inf : Cert.Pre_below_inf.Facts] (m : (ℓ : Loc Cert.ModIdeal.nD Cert.ModIdeal.τ Cert.ModIdeal.sig) → Buf (Elt Ideal) ℓ) : Prop :=
  ∀ c : Dev Cert.ModIdeal.nD,
    (Cert.Pre_below_inf.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2))) = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_below_inf [hPre_below_inf : Cert.Pre_below_inf.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_below_inf.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2))) = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0))
      ∧ r.2.sem = fun _ => 0)

def quiescent_GateIdeal_pre_finite [hGateIdeal : Cert.GateIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0))
      ∧ r.2.sem = fun _ => 0)

def quiescent_GateRefIdeal_pre_finite [hGateRefIdeal : Cert.GateRefIdeal.Facts] [hPre_finite : Cert.Pre_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_no_future [hAttnIdeal : Cert.AttnIdeal.Facts] [hPre_no_future : Cert.Pre_no_future.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_no_future m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_no_future [hAttnRefIdeal : Cert.AttnRefIdeal.Facts] [hPre_no_future : Cert.Pre_no_future.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_no_future m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModIdeal_pre_below_inf [hModIdeal : Cert.ModIdeal.Facts] [hPre_below_inf : Cert.Pre_below_inf.Facts] : Prop :=
  ∀ (m : (ℓ : Loc Cert.ModIdeal.nD Cert.ModIdeal.τ Cert.ModIdeal.sig) → Buf (Elt Ideal) ℓ) (g : Dev Cert.ModIdeal.nD → PrngReg), Pre_ModIdeal_below_inf m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_ModRefIdeal_pre_below_inf [hModRefIdeal : Cert.ModRefIdeal.Facts] [hPre_below_inf : Cert.Pre_below_inf.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_below_inf m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)) →
    ∃ (v0 : (c : Dev Cert.MlpIdeal.nD) → Buf (Elt Ideal) ((c.tc : Thread Cert.MlpIdeal.nD Cert.MlpIdeal.τ).loc Cert.MlpIdeal.main_v19)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v19) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v87) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v26) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Gate_GateIdeal : Prop :=
  IdealRules.named_const.Statement Cert.GateIdeal.κ "mask" .f32 0xF149F2CA#32 ⊥

def algebraic_GateIdeal_GateRefIdeal_pre_finite [hGateIdeal : Cert.GateIdeal.Facts] [hGateRefIdeal : Cert.GateRefIdeal.Facts] [hPre_finite : Cert.Pre_finite.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v46) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0))

def preserves_Attn_AttnIdeal : Prop :=
  True

def algebraic_AttnIdeal_AttnRefIdeal_pre_no_future [hAttnIdeal : Cert.AttnIdeal.Facts] [hAttnRefIdeal : Cert.AttnRefIdeal.Facts] [hPre_no_future : Cert.Pre_no_future.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_no_future m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v69) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Mod_ModIdeal : Prop :=
  True

def algebraic_ModIdeal_ModRefIdeal_pre_below_inf [hModIdeal : Cert.ModIdeal.Facts] [hModRefIdeal : Cert.ModRefIdeal.Facts] [hPre_below_inf : Cert.Pre_below_inf.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_below_inf m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v7) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def Claim : Prop :=
  ∃ (hMlp : Cert.Mlp.Facts) (hMlpIdeal : Cert.MlpIdeal.Facts) (hMlpRefIdeal : Cert.MlpRefIdeal.Facts) (hInProj : Cert.InProj.Facts) (hInProjIdeal : Cert.InProjIdeal.Facts) (hInProjRefIdeal : Cert.InProjRefIdeal.Facts) (hGate : Cert.Gate.Facts) (hGateIdeal : Cert.GateIdeal.Facts) (hGateRefIdeal : Cert.GateRefIdeal.Facts) (hAttn : Cert.Attn.Facts) (hAttnIdeal : Cert.AttnIdeal.Facts) (hAttnRefIdeal : Cert.AttnRefIdeal.Facts) (hMod : Cert.Mod.Facts) (hModIdeal : Cert.ModIdeal.Facts) (hModRefIdeal : Cert.ModRefIdeal.Facts) (hPre_finite : Cert.Pre_finite.Facts) (hPre_no_future : Cert.Pre_no_future.Facts) (hPre_below_inf : Cert.Pre_below_inf.Facts),
    quiescent_Mlp (hMlp := hMlp)
    ∧ quiescent_MlpIdeal (hMlpIdeal := hMlpIdeal)
    ∧ quiescent_MlpRefIdeal (hMlpRefIdeal := hMlpRefIdeal)
    ∧ quiescent_InProj (hInProj := hInProj)
    ∧ quiescent_InProjIdeal (hInProjIdeal := hInProjIdeal)
    ∧ quiescent_InProjRefIdeal (hInProjRefIdeal := hInProjRefIdeal)
    ∧ quiescent_Gate (hGate := hGate)
    ∧ quiescent_GateIdeal (hGateIdeal := hGateIdeal)
    ∧ quiescent_GateIdeal_pre_finite (hGateIdeal := hGateIdeal) (hPre_finite := hPre_finite)
    ∧ quiescent_GateRefIdeal (hGateRefIdeal := hGateRefIdeal)
    ∧ quiescent_GateRefIdeal_pre_finite (hGateRefIdeal := hGateRefIdeal) (hPre_finite := hPre_finite)
    ∧ quiescent_Attn (hAttn := hAttn)
    ∧ quiescent_AttnIdeal (hAttnIdeal := hAttnIdeal)
    ∧ quiescent_AttnIdeal_pre_no_future (hAttnIdeal := hAttnIdeal) (hPre_no_future := hPre_no_future)
    ∧ quiescent_AttnRefIdeal (hAttnRefIdeal := hAttnRefIdeal)
    ∧ quiescent_AttnRefIdeal_pre_no_future (hAttnRefIdeal := hAttnRefIdeal) (hPre_no_future := hPre_no_future)
    ∧ quiescent_Mod (hMod := hMod)
    ∧ quiescent_ModIdeal (hModIdeal := hModIdeal)
    ∧ quiescent_ModIdeal_pre_below_inf (hModIdeal := hModIdeal) (hPre_below_inf := hPre_below_inf)
    ∧ quiescent_ModRefIdeal (hModRefIdeal := hModRefIdeal)
    ∧ quiescent_ModRefIdeal_pre_below_inf (hModRefIdeal := hModRefIdeal) (hPre_below_inf := hPre_below_inf)
    ∧ preserves_Mlp_MlpIdeal
    ∧ algebraic_MlpIdeal_MlpRefIdeal (hMlpIdeal := hMlpIdeal) (hMlpRefIdeal := hMlpRefIdeal)
    ∧ preserves_InProj_InProjIdeal
    ∧ algebraic_InProjIdeal_InProjRefIdeal (hInProjIdeal := hInProjIdeal) (hInProjRefIdeal := hInProjRefIdeal)
    ∧ preserves_Gate_GateIdeal
    ∧ algebraic_GateIdeal_GateRefIdeal_pre_finite (hGateIdeal := hGateIdeal) (hGateRefIdeal := hGateRefIdeal) (hPre_finite := hPre_finite)
    ∧ preserves_Attn_AttnIdeal
    ∧ algebraic_AttnIdeal_AttnRefIdeal_pre_no_future (hAttnIdeal := hAttnIdeal) (hAttnRefIdeal := hAttnRefIdeal) (hPre_no_future := hPre_no_future)
    ∧ preserves_Mod_ModIdeal
    ∧ algebraic_ModIdeal_ModRefIdeal_pre_below_inf (hModIdeal := hModIdeal) (hModRefIdeal := hModRefIdeal) (hPre_below_inf := hPre_below_inf)
-- ==== Pre_below_inf.lean ====
abbrev S4x1024 : Shape := ⟨2, ![4, 1024]⟩
abbrev S1x1024x6144 : Shape := ⟨3, ![1, 1024, 6144]⟩
abbrev S1x6144 : Shape := ⟨2, ![1, 6144]⟩
abbrev S4x1024x1 : Shape := ⟨3, ![4, 1024, 1]⟩
abbrev S_ : Shape := ⟨0, ![]⟩
abbrev S4x1024x6144 : Shape := ⟨3, ![4, 1024, 6144]⟩

class Facts : Prop where
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S_S1x1024x6144 : S_.BroadcastsInDim S1x1024x6144 (![] : Fin 0 → Fin S1x1024x6144.rank)
  bcast_S4x1024x1_S4x1024x6144_0_1_2 : S4x1024x1.BroadcastsInDim S4x1024x6144 (![0, 1, 2] : Fin 3 → Fin S4x1024x6144.rank)
  bcast_S1x1024x6144_S4x1024x6144_0_1_2 : S1x1024x6144.BroadcastsInDim S4x1024x6144 (![0, 1, 2] : Fin 3 → Fin S4x1024x6144.rank)

variable [Facts]

def fn {F : FTy → Type} [FloatOps F] (main_arg0 : FVec F S4x1024 .f32) (main_arg1 : FVec F S1x1024x6144 .f32) (main_arg2 : FVec F S1x6144 .f32) : IVec S4x1024x6144 1 :=
  let main_v0 : FVec F S4x1024x1 .f32 := broadcastInDim S4x1024x1 ![0, 1] bcast_S4x1024_S4x1024x1_0_1 main_arg0
  let main_cst : FVec F S_ .f32 := constant S_ .f32 0x7F800000#32
  let main_v1 : FVec F S4x1024x1 .f32 := broadcastInDim S4x1024x1 ![] bcast_S_S4x1024x1 main_cst
  let main_v2 : IVec S4x1024x1 1 := cmpf .olt main_v0 main_v1
  let main_cst_0 : FVec F S_ .f32 := constant S_ .f32 0x7F800000#32
  let main_v3 : FVec F S1x1024x6144 .f32 := broadcastInDim S1x1024x6144 ![] bcast_S_S1x1024x6144 main_cst_0
  let main_v4 : IVec S1x1024x6144 1 := cmpf .olt main_arg1 main_v3
  let main_v5 : IVec S4x1024x6144 1 := broadcastInDim S4x1024x6144 ![0, 1, 2] bcast_S4x1024x1_S4x1024x6144_0_1_2 main_v2
  let main_v6 : IVec S4x1024x6144 1 := broadcastInDim S4x1024x6144 ![0, 1, 2] bcast_S1x1024x6144_S4x1024x6144_0_1_2 main_v4
  let main_v7 : IVec S4x1024x6144 1 := andi main_v5 main_v6
  main_v7
-- ==== Pre_finite.lean ====
abbrev S4x4096x3072 : Shape := ⟨3, ![4, 4096, 3072]⟩
abbrev S_ : Shape := ⟨0, ![]⟩

class Facts : Prop where
  bitsLt_bf16_f32 : FTy.bits .bf16 < FTy.bits .f32
  bcast_S_S4x4096x3072 : S_.BroadcastsInDim S4x4096x3072 (![] : Fin 0 → Fin S4x4096x3072.rank)

variable [Facts]

def fn {F : FTy → Type} [FloatOps F] (main_arg0 : FVec F S4x4096x3072 .bf16) : IVec S4x4096x3072 1 :=
  let main_v0 : FVec F S4x4096x3072 .f32 := (extf .f32 · bitsLt_bf16_f32) main_arg0
  let main_cst : FVec F S_ .f32 := constant S_ .f32 0x7F800000#32
  let main_v1 : FVec F S4x4096x3072 .f32 := broadcastInDim S4x4096x3072 ![] bcast_S_S4x4096x3072 main_cst
  let main_v2 : IVec S4x4096x3072 1 := cmpf .olt main_v0 main_v1
  let main_cst_0 : FVec F S_ .f32 := constant S_ .f32 0xFF800000#32
  let main_v3 : FVec F S4x4096x3072 .f32 := broadcastInDim S4x4096x3072 ![] bcast_S_S4x4096x3072 main_cst_0
  let main_v4 : IVec S4x4096x3072 1 := cmpf .ogt main_v0 main_v3
  let main_v5 : IVec S4x4096x3072 1 := andi main_v2 main_v4
  main_v5
-- ==== Pre_no_future.lean ====
abbrev S4x4096x3072 : Shape := ⟨3, ![4, 4096, 3072]⟩
abbrev S4x4x2x16x4096 : Shape := ⟨5, ![4, 4, 2, 16, 4096]⟩
abbrev S8x4x256x256 : Shape := ⟨4, ![8, 4, 256, 256]⟩
abbrev S512 : Shape := ⟨1, ![512]⟩
abbrev S_ : Shape := ⟨0, ![]⟩

class Facts : Prop where
  bcast_S_S8x4x256x256 : S_.BroadcastsInDim S8x4x256x256 (![] : Fin 0 → Fin S8x4x256x256.rank)

variable [Facts]

def fn {F : FTy → Type} [FloatOps F] (main_arg0 : FVec F S4x4096x3072 .bf16) (main_arg1 : FVec F S4x4x2x16x4096 .f32) (main_arg2 : FVec F S8x4x256x256 .f32) (main_arg3 : FVec F S512 .f32) : IVec S8x4x256x256 1 :=
  let main_cst : FVec F S_ .f32 := constant S_ .f32 0xFF800000#32
  let main_v0 : FVec F S8x4x256x256 .f32 := broadcastInDim S8x4x256x256 ![] bcast_S_S8x4x256x256 main_cst
  let main_v1 : IVec S8x4x256x256 1 := cmpf .olt main_arg2 main_v0
  let main_cst_0 : FVec F S_ .f32 := constant S_ .f32 0xFF800000#32
  let main_v2 : FVec F S8x4x256x256 .f32 := broadcastInDim S8x4x256x256 ![] bcast_S_S8x4x256x256 main_cst_0
  let main_v3 : IVec S8x4x256x256 1 := cmpf .oeq main_arg2 main_v2
  let main_v4 : IVec S8x4x256x256 1 := ori main_v1 main_v3
  let main_v5 : IVec S8x4x256x256 32 := iotaInDim S8x4x256x256 32 1
  let main_c : IVec S_ 32 := constantI S_ 32 3#32
  let main_v6 : IVec S8x4x256x256 32 := broadcastInDim S8x4x256x256 ![] bcast_S_S8x4x256x256 main_c
  let main_v7 : IVec S8x4x256x256 1 := cmpi .slt main_v5 main_v6
  let main_v8 : IVec S8x4x256x256 1 := ori main_v4 main_v7
  main_v8
-- ==== Mlp.lean ====
abbrev S4x4096x512 : Shape := ⟨3, ![4, 4096, 512]⟩
abbrev S4x4096x1024 : Shape := ⟨3, ![4, 4096, 1024]⟩
abbrev S4x6144 : Shape := ⟨2, ![4, 6144]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S4x6x1024 : Shape := ⟨3, ![4, 6, 1024]⟩
abbrev S512x1024 : Shape := ⟨2, ![512, 1024]⟩
abbrev S1024 : Shape := ⟨1, ![1024]⟩
abbrev S1024x2816 : Shape := ⟨2, ![1024, 2816]⟩
abbrev S2816x1024 : Shape := ⟨2, ![2816, 1024]⟩
abbrev S1x512x512 : Shape := ⟨3, ![1, 512, 512]⟩
abbrev S1x512x1024 : Shape := ⟨3, ![1, 512, 1024]⟩
abbrev S1x6x1024 : Shape := ⟨3, ![1, 6, 1024]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S1x1x1024 : Shape := ⟨3, ![1, 1, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩

abbrev nBuf : Space → Nat
  | .hbm => 32
  | .vmem => 19
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x1024, .f32⟩
  | .hbm, ⟨3, _⟩ => ⟨S4x6144, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S4x6x1024, .f32⟩
  | .hbm, ⟨15, _⟩ => ⟨S512x1024, .bf16⟩
  | .hbm, ⟨16, _⟩ => ⟨S512x1024, .bf16⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024x2816, .f32⟩
  | .hbm, ⟨22, _⟩ => ⟨S1024x2816, .bf16⟩
  | .hbm, ⟨23, _⟩ => ⟨S1024x2816, .f32⟩
  | .hbm, ⟨24, _⟩ => ⟨S1024x2816, .bf16⟩
  | .hbm, ⟨25, _⟩ => ⟨S2816x1024, .f32⟩
  | .hbm, ⟨26, _⟩ => ⟨S2816x1024, .bf16⟩
  | .hbm, ⟨27, _⟩ => ⟨S1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S4x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x6x1024, .f32⟩
  | .local _ .vmem, ⟨7, _⟩ => ⟨S1x6x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MlpRefIdeal.lean ====
abbrev S4x4096x512 : Shape := ⟨3, ![4, 4096, 512]⟩
abbrev S4x4096x1024 : Shape := ⟨3, ![4, 4096, 1024]⟩
abbrev S4x6144 : Shape := ⟨2, ![4, 6144]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S4x1x6144 : Shape := ⟨3, ![4, 1, 6144]⟩
abbrev S4x1x1024 : Shape := ⟨3, ![4, 1, 1024]⟩
abbrev S_ : Shape := ⟨0, ![]⟩
abbrev S1024x1024 : Shape := ⟨2, ![1024, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S4x4096x2816 : Shape := ⟨3, ![4, 4096, 2816]⟩
abbrev S2816x1024 : Shape := ⟨2, ![2816, 1024]⟩

abbrev nBuf : Space → Nat
  | .hbm => 121
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x1024, .f32⟩
  | .hbm, ⟨3, _⟩ => ⟨S4x6144, .f32⟩
  | .hbm, ⟨4, _⟩ => ⟨S1x1024x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1x1024, .f32⟩
  | .hbm, ⟨11, _⟩ => ⟨S1x1024, .f32⟩
  | .hbm, ⟨12, _⟩ => ⟨S4x1x6144, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x4096x512, .f32⟩
  | .hbm, ⟨20, _⟩ => ⟨S4x4096x512, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S1024x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S1024, .f32⟩
  | .hbm, ⟨31, _⟩ => ⟨S1024, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S1x1x1024, .f32⟩
  | .hbm, ⟨56, _⟩ => ⟨S4x4096x1024, .f32⟩
  | .hbm, ⟨57, _⟩ => ⟨S4x4096x1024, .f32⟩
  | .hbm, ⟨58, _⟩ => ⟨S1x1x1024, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x1x1024, .f32⟩
  | .hbm, ⟨63, _⟩ => ⟨S4x1x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S1024x2816, .f32⟩
  | .hbm, ⟨69, _⟩ => ⟨S4x4096x2816, .f32⟩
  | .hbm, ⟨70, _⟩ => ⟨S4x4096x2816, .f32⟩
  | .hbm, ⟨71, _⟩ => ⟨S4x4096x2816, .f32⟩
  | .hbm, ⟨72, _⟩ => ⟨S_, .f32⟩
  | .hbm, ⟨73, _⟩ => ⟨S4x4096x2816, .f32⟩
  | .hbm, ⟨74, _⟩ => ⟨S4x4096x2816, .f32⟩
  | .hbm, ⟨75, _⟩ => ⟨S_, .f32⟩
  | .hbm, ⟨76, _⟩ => ⟨S4x4096x2816, .f32⟩
  | .hbm, ⟨77, _⟩ => ⟨S4x4096x2816, .f32⟩
  | .hbm, ⟨78, _⟩ => ⟨S4x4096x2816, .f32⟩
  | .hbm, ⟨79, _⟩ => ⟨S1024x2816, .f32⟩
  | .hbm, ⟨80, _⟩ => ⟨S4x4096x2816, .f32⟩
  | .hbm, ⟨81, _⟩ => ⟨S4x4096x2816, .f32⟩
  | .hbm, ⟨82, _⟩ => ⟨S2816x1024, .f32⟩
  | .hbm, ⟨83, _⟩ => ⟨S4x4096x1024, .f32⟩
  | .hbm, ⟨84, _⟩ => ⟨S_, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S4x4096x1024, .f32⟩
  | .hbm, ⟨89, _⟩ => ⟨S4x4096x1024, .f32⟩
  | .hbm, ⟨90, _⟩ => ⟨S1024, .f32⟩
  | .hbm, ⟨91, _⟩ => ⟨S1024, .f32⟩
  | .hbm, ⟨92, _⟩ => ⟨S_, .f32⟩
  | .hbm, ⟨93, _⟩ => ⟨S4x4096, .f32⟩
  | .hbm, ⟨94, _⟩ => ⟨S4x4096x1, .f32⟩
  | .hbm, ⟨95, _⟩ => ⟨S_, .f32⟩
  | .hbm, ⟨96, _⟩ => ⟨S4x4096x1, .f32⟩
  | .hbm, ⟨97, _⟩ => ⟨S4x4096x1, .f32⟩
  | .hbm, ⟨98, _⟩ => ⟨S4x4096x1024, .f32⟩
  | .hbm, ⟨99, _⟩ => ⟨S4x4096x1024, .f32⟩
  | .hbm, ⟨100, _⟩ => ⟨S4x4096x1024, .f32⟩
  | .hbm, ⟨101, _⟩ => ⟨S_, .f32⟩
  | .hbm, ⟨102, _⟩ => ⟨S4x4096, .f32⟩
  | .hbm, ⟨103, _⟩ => ⟨S4x4096x1, .f32⟩
  | .hbm, ⟨104, _⟩ => ⟨S_, .f32⟩
  | .hbm, ⟨105, _⟩ => ⟨S4x4096x1, .f32⟩
  | .hbm, ⟨106, _⟩ => ⟨S4x4096x1, .f32⟩
  | .hbm, ⟨107, _⟩ => ⟨S4x4096x1024, .f32⟩
  | .hbm, ⟨108, _⟩ => ⟨S4x4096x1024, .f32⟩
  | .hbm, ⟨109, _⟩ => ⟨S_, .f32⟩
  | .hbm, ⟨110, _⟩ => ⟨S4x4096x1, .f32⟩
  | .hbm, ⟨111, _⟩ => ⟨S4x4096x1, .f32⟩
  | .hbm, ⟨112, _⟩ => ⟨S4x4096x1, .f32⟩
  | .hbm, ⟨113, _⟩ => ⟨S4x4096x1024, .f32⟩
  | .hbm, ⟨114, _⟩ => ⟨S4x4096x1024, .f32⟩
  | .hbm, ⟨115, _⟩ => ⟨S1x1x1024, .f32⟩
  | .hbm, ⟨116, _⟩ => ⟨S4x4096x1024, .f32⟩
  | .hbm, ⟨117, _⟩ => ⟨S4x4096x1024, .f32⟩
  | .hbm, ⟨118, _⟩ => ⟨S1x1x1024, .f32⟩
  | .hbm, ⟨119, _⟩ => ⟨S4x4096x1024, .f32⟩
  | .hbm, ⟨120, _⟩ => ⟨S4x4096x1024, .f32⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_7 : Ref sig .tc := ⟨.hbm, 92, rfl⟩
abbrev main_v64 : Ref sig .tc := ⟨.hbm, 93, rfl⟩
abbrev main_v65 : Ref sig .tc := ⟨.hbm, 94, rfl⟩
abbrev main_cst_8 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_9 : Ref sig .tc := ⟨.hbm, 101, rfl⟩
abbrev main_v71 : Ref sig .tc := ⟨.hbm, 102, rfl⟩
abbrev main_v72 : Ref sig .tc := ⟨.hbm, 103, rfl⟩
abbrev main_cst_10 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_11 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩

abbrev nD : Nat := 1
abbrev τ : Topo := Topo.v7x

variable {F : FTy → Type} [FloatOps F]
-- ==== InProj.lean ====
abbrev S4x4096x1024 : Shape := ⟨3, ![4, 4096, 1024]⟩
abbrev S4x6144 : Shape := ⟨2, ![4, 6144]⟩
abbrev S1x1024x3072 : Shape := ⟨3, ![1, 1024, 3072]⟩
abbrev S_ : Shape := ⟨0, ![]⟩
abbrev S512 : Shape := ⟨1, ![512]⟩
abbrev S1024 : Shape := ⟨1, ![1024]⟩
abbrev S3072 : Shape := ⟨1, ![3072]⟩
abbrev S4x6x1024 : Shape := ⟨3, ![4, 6, 1024]⟩
abbrev S1024x3072 : Shape := ⟨2, ![1024, 3072]⟩
abbrev S1x3072 : Shape := ⟨2, ![1, 3072]⟩
abbrev S4x4096x3072 : Shape := ⟨3, ![4, 4096, 3072]⟩
abbrev S1x1024x1024 : Shape := ⟨3, ![1, 1024, 1024]⟩
abbrev S1x6x1024 : Shape := ⟨3, ![1, 6, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1x1024x3072, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S1024, .f32⟩
  | .hbm, ⟨11, _⟩ => ⟨S3072, .f32⟩
  | .hbm, ⟨12, _⟩ => ⟨S4x6x1024, .f32⟩
  | .hbm, ⟨13, _⟩ => ⟨S1024x3072, .f32⟩
  | .hbm, ⟨14, _⟩ => ⟨S1x3072, .f32⟩
  | .hbm, ⟨15, _⟩ => ⟨S1024x3072, .f32⟩
  | .hbm, ⟨16, _⟩ => ⟨S1024x3072, .f32⟩
  | .hbm, ⟨17, _⟩ => ⟨S1024x3072, .bf16⟩
  | .hbm, ⟨18, _⟩ => ⟨S4x4096x3072, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3072, .bf16⟩
  | .local _ .vmem, ⟨5, _⟩ => ⟨S1x1024x3072, .bf16⟩
  | .local _ .vmem, ⟨6, _⟩ => ⟨S1x1024x3072, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S4x4096x1024 : Shape := ⟨3, ![4, 4096, 1024]⟩
abbrev S4x6144 : Shape := ⟨2, ![4, 6144]⟩
abbrev S1x1024x3072 : Shape := ⟨3, ![1, 1024, 3072]⟩
abbrev S4x1x6144 : Shape := ⟨3, ![4, 1, 6144]⟩
abbrev S4x1x1024 : Shape := ⟨3, ![4, 1, 1024]⟩
abbrev S_ : Shape := ⟨0, ![]⟩
abbrev S1024x3072 : Shape := ⟨2, ![1024, 3072]⟩
abbrev S4x4096x3072 : Shape := ⟨3, ![4, 4096, 3072]⟩
abbrev S4x4096x512 : Shape := ⟨3, ![4, 4096, 512]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1x1024x3072, .f32⟩
  | .hbm, ⟨3, _⟩ => ⟨S4x1x6144, .f32⟩
  | .hbm, ⟨4, _⟩ => ⟨S4x1x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S_, .f32⟩
  | .hbm, ⟨11, _⟩ => ⟨S4x1x1024, .f32⟩
  | .hbm, ⟨12, _⟩ => ⟨S4x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S1024x3072, .f32⟩
  | .hbm, ⟨18, _⟩ => ⟨S4x4096x3072, .f32⟩
  | .hbm, ⟨19, _⟩ => ⟨S4x4096x512, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S_, .f32⟩
  | .hbm, ⟨26, _⟩ => ⟨S4x4096x512, .f32⟩
  | .hbm, ⟨27, _⟩ => ⟨S4x4096x512, .f32⟩
  | .hbm, ⟨28, _⟩ => ⟨S_, .f32⟩
  | .hbm, ⟨29, _⟩ => ⟨S4x4096x512, .f32⟩
  | .hbm, ⟨30, _⟩ => ⟨S4x4096x512, .f32⟩
  | .hbm, ⟨31, _⟩ => ⟨S4x4096x3072, .f32⟩
  | .hbm, ⟨32, _⟩ => ⟨S4x4096x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Gate.lean ====
abbrev S4x4096x3072 : Shape := ⟨3, ![4, 4096, 3072]⟩
abbrev S4x4x2x16x4096 : Shape := ⟨5, ![4, 4, 2, 16, 4096]⟩
abbrev S1x4096x128 : Shape := ⟨3, ![1, 4096, 128]⟩
abbrev S1x1x2x16x4096 : Shape := ⟨5, ![1, 1, 2, 16, 4096]⟩
abbrev S4096x128 : Shape := ⟨2, ![4096, 128]⟩
abbrev S16x256x128 : Shape := ⟨3, ![16, 256, 128]⟩
abbrev S16x128 : Shape := ⟨2, ![16, 128]⟩
abbrev S16x4096 : Shape := ⟨2, ![16, 4096]⟩
abbrev S32x128 : Shape := ⟨2, ![32, 128]⟩
abbrev S32x4096 : Shape := ⟨2, ![32, 4096]⟩
abbrev S4096 : Shape := ⟨1, ![4096]⟩
abbrev S1x4096 : Shape := ⟨2, ![1, 4096]⟩
abbrev S1x1x1x16x4096 : Shape := ⟨5, ![1, 1, 1, 16, 4096]⟩

abbrev nBuf : Space → Nat
  | .hbm => 2
  | .vmem => 6
  | .smem => 0
  | _ => 0

abbrev bufTy : (tb : Table) → Fin (tcTables nBuf tb) → BufTy
  | .hbm, ⟨0, _⟩ => ⟨S4x4096x3072, .bf16⟩
  | .hbm, ⟨1, _⟩ => ⟨S4x4x2x16x4096, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x1x2x16x4096, .f32⟩
  | .local _ .vmem, ⟨5, _⟩ => ⟨S1x1x2x16x4096, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateIdeal.lean ====
variable {F : FTy → Type} [FloatOps F] [Named F]
def κ : String → Option EReal := fun
  | "mask" => some ⊥
  | _ => none
-- ==== GateRefIdeal.lean ====
abbrev S4x4096x3072 : Shape := ⟨3, ![4, 4096, 3072]⟩
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S4x8x16x256x64 : Shape := ⟨5, ![4, 8, 16, 256, 64]⟩
abbrev S_ : Shape := ⟨0, ![]⟩
abbrev S4x8x16x64 : Shape := ⟨4, ![4, 8, 16, 64]⟩
abbrev S4096 : Shape := ⟨1, ![4096]⟩
abbrev S4x8x4096x16 : Shape := ⟨4, ![4, 8, 4096, 16]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S4x8x4096x3 : Shape := ⟨4, ![4, 8, 4096, 3]⟩
abbrev S1x1x4096x1 : Shape := ⟨4, ![1, 1, 4096, 1]⟩
abbrev S4x8x4096x3x1 : Shape := ⟨5, ![4, 8, 4096, 3, 1]⟩
abbrev S1x1x1x1x16 : Shape := ⟨5, ![1, 1, 1, 1, 16]⟩
abbrev S4x8x4096x3x16 : Shape := ⟨5, ![4, 8, 4096, 3, 16]⟩
abbrev S1x1x4096x16 : Shape := ⟨4, ![1, 1, 4096, 16]⟩
abbrev S4x8x16x4096 : Shape := ⟨4, ![4, 8, 16, 4096]⟩
abbrev S4x4x2x16x4096 : Shape := ⟨5, ![4, 4, 2, 16, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S4x4096x512, .bf16⟩
  | .hbm, ⟨2, _⟩ => ⟨S4x4096x512, .f32⟩
  | .hbm, ⟨3, _⟩ => ⟨S4x4096x8x64, .f32⟩
  | .hbm, ⟨4, _⟩ => ⟨S4x8x4096x64, .f32⟩
  | .hbm, ⟨5, _⟩ => ⟨S4x4096x512, .bf16⟩
  | .hbm, ⟨6, _⟩ => ⟨S4x4096x512, .f32⟩
  | .hbm, ⟨7, _⟩ => ⟨S4x4096x8x64, .f32⟩
  | .hbm, ⟨8, _⟩ => ⟨S4x8x4096x64, .f32⟩
  | .hbm, ⟨9, _⟩ => ⟨S4x8x16x256x64, .f32⟩
  | .hbm, ⟨10, _⟩ => ⟨S_, .f32⟩
  | .hbm, ⟨11, _⟩ => ⟨S4x8x16x64, .f32⟩
  | .hbm, ⟨12, _⟩ => ⟨S_, .f32⟩
  | .hbm, ⟨13, _⟩ => ⟨S4x8x16x64, .f32⟩
  | .hbm, ⟨14, _⟩ => ⟨S4x8x16x64, .f32⟩
  | .hbm, ⟨15, _⟩ => ⟨S4096, .i32⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4x8x4096x16, .f32⟩
  | .hbm, ⟨35, _⟩ => ⟨S16, .i32⟩
  | .hbm, ⟨36, _⟩ => ⟨S1x16, .i32⟩
  | .hbm, ⟨37, _⟩ => ⟨S4096x1, .i32⟩
  | .hbm, ⟨38, _⟩ => ⟨S4096x16, .i32⟩
  | .hbm, ⟨39, _⟩ => ⟨S4096x16, .i32⟩
  | .hbm, ⟨40, _⟩ => ⟨S4096x16, .i1⟩
  | .hbm, ⟨41, _⟩ => ⟨S_, .f32⟩
  | .hbm, ⟨42, _⟩ => ⟨S_, .f32⟩
  | .hbm, ⟨43, _⟩ => ⟨S4x8x4096x16, .i1⟩
  | .hbm, ⟨44, _⟩ => ⟨S4x8x4096x16, .f32⟩
  | .hbm, ⟨45, _⟩ => ⟨S4x8x4096x16, .f32⟩
  | .hbm, ⟨46, _⟩ => ⟨S4x8x4096x3, .f32⟩
  | .hbm, ⟨47, _⟩ => ⟨S4x8x4096x3, .i32⟩
  | .hbm, ⟨48, _⟩ => ⟨S4096x1, .i32⟩
  | .hbm, ⟨49, _⟩ => ⟨S1x1x4096x1, .i32⟩
  | .hbm, ⟨50, _⟩ => ⟨S4x8x4096x3, .i32⟩
  | .hbm, ⟨51, _⟩ => ⟨S4x8x4096x3, .i1⟩
  | .hbm, ⟨52, _⟩ => ⟨S16, .i32⟩
  | .hbm, ⟨53, _⟩ => ⟨S4x8x4096x3x1, .i32⟩
  | .hbm, ⟨54, _⟩ => ⟨S1x1x1x1x16, .i32⟩
  | .hbm, ⟨55, _⟩ => ⟨S4x8x4096x3x16, .i32⟩
  | .hbm, ⟨56, _⟩ => ⟨S4x8x4096x3x16, .i32⟩
  | .hbm, ⟨57, _⟩ => ⟨S4x8x4096x3x16, .i1⟩
  | .hbm, ⟨58, _⟩ => ⟨S4x8x4096x3x1, .i1⟩
  | .hbm, ⟨59, _⟩ => ⟨S4x8x4096x3x16, .i1⟩
  | .hbm, ⟨60, _⟩ => ⟨S4x8x4096x3x16, .i1⟩
  | .hbm, ⟨61, _⟩ => ⟨S_, .i1⟩
  | .hbm, ⟨62, _⟩ => ⟨S4x8x4096x16, .i1⟩
  | .hbm, ⟨63, _⟩ => ⟨S1x16, .i32⟩
  | .hbm, ⟨64, _⟩ => ⟨S4096x1, .i32⟩
  | .hbm, ⟨65, _⟩ => ⟨S4096x16, .i32⟩
  | .hbm, ⟨66, _⟩ => ⟨S4096x16, .i32⟩
  | .hbm, ⟨67, _⟩ => ⟨S4096x16, .i1⟩
  | .hbm, ⟨68, _⟩ => ⟨S1x1x4096x16, .i1⟩
  | .hbm, ⟨69, _⟩ => ⟨S4x8x4096x16, .i1⟩
  | .hbm, ⟨70, _⟩ => ⟨S4x8x4096x16, .i1⟩
  | .hbm, ⟨71, _⟩ => ⟨S_, .f32⟩
  | .hbm, ⟨72, _⟩ => ⟨S_, .f32⟩
  | .hbm, ⟨73, _⟩ => ⟨S4x8x4096x16, .f32⟩
  | .hbm, ⟨74, _⟩ => ⟨S4x8x4096x16, .f32⟩
  | .hbm, ⟨75, _⟩ => ⟨S4x8x4096x16, .f32⟩
  | .hbm, ⟨76, _⟩ => ⟨S4x8x16x4096, .f32⟩
  | .hbm, ⟨77, _⟩ => ⟨S4x4x2x16x4096, .f32⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_values : Ref sig .tc := ⟨.hbm, 46, rfl⟩
abbrev main_indices : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_3 : Ref sig .tc := ⟨.hbm, 71, rfl⟩
abbrev main_cst_4 : Ref sig .tc := ⟨.hbm, 72, rfl⟩
abbrev main_call2_v0 : Ref sig .tc := ⟨.hbm, 73, rfl⟩
abbrev main_call2_v1 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩

abbrev nD : Nat := 1
abbrev τ : Topo := Topo.v7x

variable {F : FTy → Type} [FloatOps F]
-- ==== Attn.lean ====
abbrev S4x4096x3072 : Shape := ⟨3, ![4, 4096, 3072]⟩
abbrev S4x4x2x16x4096 : Shape := ⟨5, ![4, 4, 2, 16, 4096]⟩
abbrev S8x4x256x256 : Shape := ⟨4, ![8, 4, 256, 256]⟩
abbrev S512 : Shape := ⟨1, ![512]⟩
abbrev S1x512 : Shape := ⟨2, ![1, 512]⟩
abbrev S4x4096x512 : Shape := ⟨3, ![4, 4096, 512]⟩
abbrev S1x512x128 : Shape := ⟨3, ![1, 512, 128]⟩
abbrev S1x4096x128 : Shape := ⟨3, ![1, 4096, 128]⟩
abbrev S1x1x2x16x512 : Shape := ⟨5, ![1, 1, 2, 16, 512]⟩
abbrev S2x4x256x256 : Shape := ⟨4, ![2, 4, 256, 256]⟩
abbrev S1x128 : Shape := ⟨2, ![1, 128]⟩
abbrev S16x2x80x256 : Shape := ⟨4, ![16, 2, 80, 256]⟩
abbrev S4x16x256x256 : Shape := ⟨4, ![4, 16, 256, 256]⟩
abbrev S4x80x256 : Shape := ⟨3, ![4, 80, 256]⟩
abbrev S16x256 : Shape := ⟨2, ![16, 256]⟩
abbrev S1x256x128 : Shape := ⟨3, ![1, 256, 128]⟩
abbrev S256x128 : Shape := ⟨2, ![256, 128]⟩
abbrev S128x256 : Shape := ⟨2, ![128, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S1x256 : Shape := ⟨2, ![1, 256]⟩
abbrev S512x128 : Shape := ⟨2, ![512, 128]⟩
abbrev S512x256 : Shape := ⟨2, ![512, 256]⟩
abbrev S256x256 : Shape := ⟨2, ![256, 256]⟩
abbrev S1x1x256x256 : Shape := ⟨4, ![1, 1, 256, 256]⟩
abbrev S1x1x1x1x256 : Shape := ⟨5, ![1, 1, 1, 1, 256]⟩
abbrev S256 : Shape := ⟨1, ![256]⟩
abbrev S1x1024x128 : Shape := ⟨3, ![1, 1024, 128]⟩
abbrev S1024x128 : Shape := ⟨2, ![1024, 128]⟩
abbrev S1024x256 : Shape := ⟨2, ![1024, 256]⟩
abbrev S1x1x80x256 : Shape := ⟨4, ![1, 1, 80, 256]⟩
abbrev S80x256 : Shape := ⟨2, ![80, 256]⟩
abbrev S1x80x256 : Shape := ⟨3, ![1, 80, 256]⟩
abbrev S80x512 : Shape := ⟨2, ![80, 512]⟩
abbrev S80x1024 : Shape := ⟨2, ![80, 1024]⟩
abbrev S1x64x256 : Shape := ⟨3, ![1, 64, 256]⟩
abbrev S1x1x256 : Shape := ⟨3, ![1, 1, 256]⟩

abbrev nBuf : Space → Nat
  | .hbm => 6
  | .vmem => 17
  | .smem => 0
  | _ => 0

abbrev bufTy : (tb : Table) → Fin (tcTables nBuf tb) → BufTy
  | .hbm, ⟨0, _⟩ => ⟨S4x4096x3072, .bf16⟩
  | .hbm, ⟨1, _⟩ => ⟨S4x4x2x16x4096, .f32⟩
  | .hbm, ⟨2, _⟩ => ⟨S8x4x256x256, .f32⟩
  | .hbm, ⟨3, _⟩ => ⟨S512, .f32⟩
  | .hbm, ⟨4, _⟩ => ⟨S1x512, .f32⟩
  | .hbm, ⟨5, _⟩ => ⟨S4x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x2x16x512, .f32⟩
  | .local _ .vmem, ⟨7, _⟩ => ⟨S1x1x2x16x512, .f32⟩
  | .local _ .vmem, ⟨8, _⟩ => ⟨S2x4x256x256, .f32⟩
  | .local _ .vmem, ⟨9, _⟩ => ⟨S2x4x256x256, .f32⟩
  | .local _ .vmem, ⟨10, _⟩ => ⟨S1x128, .f32⟩
  | .local _ .vmem, ⟨11, _⟩ => ⟨S1x128, .f32⟩
  | .local _ .vmem, ⟨12, _⟩ => ⟨S1x512x128, .bf16⟩
  | .local _ .vmem, ⟨13, _⟩ => ⟨S1x512x128, .bf16⟩
  | .local _ .vmem, ⟨14, _⟩ => ⟨S16x2x80x256, .bf16⟩
  | .local _ .vmem, ⟨15, _⟩ => ⟨S4x16x256x256, .f32⟩
  | .local _ .vmem, ⟨16, _⟩ => ⟨S4x80x256, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c0_i32_15 : BitVec 32 := 0#32
  let v40 : BitVec 1 := Scalar.cmpi .sgt v38 c0_i32_15
  let v41 : BitVec 32 := Scalar.extui v40
  let c0_i32_16 : BitVec 32 := 0#32
  let v42 : BitVec 1 := Scalar.cmpi .ne v41 c0_i32_16
  v42

def k0_off1 (i : grid0.Coords) (c0_i32_94 : BitVec 32) (c0_i32_93 : BitVec 32) : Fin 4 → Nat :=
  let c0_97 : Index := 0#32
  let c3_i32 : BitVec 32 := 3#32
  let c0_i32_96 : BitVec 32 := 0#32
  let c2_i32_92 : BitVec 32 := 2#32
  let arg2 : BitVec 32 := BitVec.ofNat 32 (i 2).val
  let v185 : BitVec 32 := Scalar.muli c2_i32_92 arg2
  let v186 : BitVec 32 := Scalar.addi v185 c0_i32_93
  let v187 : BitVec 32 := Scalar.subi c0_i32_94 v186
  let c2_i32_95 : BitVec 32 := 2#32
  let v188 : BitVec 32 := Scalar.addi v187 c2_i32_95
  let v189 : BitVec 32 := Scalar.maxsi c0_i32_96 v188
  let v190 : BitVec 32 := Scalar.minsi c3_i32 v189
  let v191 : Index := Scalar.indexCast v190
  let c0_98 : Index := 0#32
  let c0_99 : Index := 0#32
  ![0, v191.toNat, 0, 0]
def k0_off2 (i : grid0.Coords) (c0_i32_132 : BitVec 32) (c0_i32_131 : BitVec 32) : Fin 4 → Nat :=
  let c1_136 : Index := 1#32
  let c3_i32_135 : BitVec 32 := 3#32
  let c0_i32_134 : BitVec 32 := 0#32
  let c2_i32_130 : BitVec 32 := 2#32
  let arg2 : BitVec 32 := BitVec.ofNat 32 (i 2).val
  let v228 : BitVec 32 := Scalar.muli c2_i32_130 arg2
  let v229 : BitVec 32 := Scalar.addi v228 c0_i32_131
  let v230 : BitVec 32 := Scalar.subi c0_i32_132 v229
  let c2_i32_133 : BitVec 32 := 2#32
  let v231 : BitVec 32 := Scalar.addi v230 c2_i32_133
  let v232 : BitVec 32 := Scalar.maxsi c0_i32_134 v231
  let v233 : BitVec 32 := Scalar.minsi c3_i32_135 v232
  let v234 : Index := Scalar.indexCast v233
  let c0_137 : Index := 0#32
  let c0_138 : Index := 0#32
  ![1, v234.toNat, 0, 0]
@[reducible] def k0_t1_loop (i : grid0.Coords) : Scf.Loop 32 :=
  let c0_i32_24 : BitVec 32 := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_26 : BitVec 32 := 1#32
  ⟨c0_i32_24, v65, c1_i32_26⟩
def k0_mult1 (i : grid0.Coords) (k0_t1 : Fin (k0_t1_loop i).trips) : BitVec 32 :=
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let c256_i32 : BitVec 32 := 256#32
  let v183 : BitVec 32 := Scalar.muli v182 c256_i32
  v183
def k0_off3 (i : grid0.Coords) (k0_t1 : Fin (k0_t1_loop i).trips) : Fin 3 → Nat :=
  let c0_89 : Index := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let c256_i32 : BitVec 32 := 256#32
  let v183 : BitVec 32 := Scalar.muli v182 c256_i32
  let v184 : BitVec 32 := v183
  let v185 : Index := Scalar.indexCast v184
  let c0_90 : Index := 0#32
  ![0, v185.toNat, 0]
def k0_off4 (i : grid0.Coords) (k0_t1 : Fin (k0_t1_loop i).trips) (c0_i32_92 : BitVec 32) (c0_i32_94 : BitVec 32) : Fin 4 → Nat :=
  let c0_97 : Index := 0#32
  let c3_i32 : BitVec 32 := 3#32
  let c0_i32_96 : BitVec 32 := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let v189 : BitVec 32 := Scalar.addi v182 c0_i32_92
  let c2_i32_93 : BitVec 32 := 2#32
  let v191 : BitVec 32 := Scalar.muli c2_i32_93 arg2
  let v192 : BitVec 32 := Scalar.addi v191 c0_i32_94
  let v193 : BitVec 32 := Scalar.subi v189 v192
  let c2_i32_95 : BitVec 32 := 2#32
  let v194 : BitVec 32 := Scalar.addi v193 c2_i32_95
  let v195 : BitVec 32 := Scalar.maxsi c0_i32_96 v194
  let v196 : BitVec 32 := Scalar.minsi c3_i32 v195
  let v197 : Index := Scalar.indexCast v196
  let c0_98 : Index := 0#32
  let c0_99 : Index := 0#32
  ![0, v197.toNat, 0, 0]
def k0_off5 (i : grid0.Coords) (k0_t1 : Fin (k0_t1_loop i).trips) (c0_i32_92 : BitVec 32) : Fin 5 → Nat :=
  let c0_100 : Index := 0#32
  let c0_101 : Index := 0#32
  let c0_102 : Index := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let v189 : BitVec 32 := Scalar.addi v182 c0_i32_92
  let v201 : Index := Scalar.indexCast v189
  let c0_103 : Index := 0#32
  ![0, 0, 0, v201.toNat, 0]
def k0_off6 (i : grid0.Coords) (k0_t1 : Fin (k0_t1_loop i).trips) (c0_i32_92 : BitVec 32) : Fin 4 → Nat :=
  let c0_104 : Index := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let v189 : BitVec 32 := Scalar.addi v182 c0_i32_92
  let v206 : Index := Scalar.indexCast v189
  let c0_105 : Index := 0#32
  let c0_106 : Index := 0#32
  ![0, v206.toNat, 0, 0]
def k0_off7 (i : grid0.Coords) (k0_t1 : Fin (k0_t1_loop i).trips) (c0_i32_160 : BitVec 32) (c0_i32_162 : BitVec 32) : Fin 4 → Nat :=
  let c1_166 : Index := 1#32
  let c3_i32_165 : BitVec 32 := 3#32
  let c0_i32_164 : BitVec 32 := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let v286 : BitVec 32 := Scalar.addi v182 c0_i32_160
  let c2_i32_161 : BitVec 32 := 2#32
  let v288 : BitVec 32 := Scalar.muli c2_i32_161 arg2
  let v289 : BitVec 32 := Scalar.addi v288 c0_i32_162
  let v290 : BitVec 32 := Scalar.subi v286 v289
  let c2_i32_163 : BitVec 32 := 2#32
  let v291 : BitVec 32 := Scalar.addi v290 c2_i32_163
  let v292 : BitVec 32 := Scalar.maxsi c0_i32_164 v291
  let v293 : BitVec 32 := Scalar.minsi c3_i32_165 v292
  let v294 : Index := Scalar.indexCast v293
  let c0_167 : Index := 0#32
  let c0_168 : Index := 0#32
  ![1, v294.toNat, 0, 0]
def k0_off8 (i : grid0.Coords) (k0_t1 : Fin (k0_t1_loop i).trips) (c0_i32_160 : BitVec 32) : Fin 5 → Nat :=
  let c0_169 : Index := 0#32
  let c0_170 : Index := 0#32
  let c1_171 : Index := 1#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let v286 : BitVec 32 := Scalar.addi v182 c0_i32_160
  let v298 : Index := Scalar.indexCast v286
  let c0_172 : Index := 0#32
  ![0, 0, 1, v298.toNat, 0]
def k0_off9 (i : grid0.Coords) (k0_t1 : Fin (k0_t1_loop i).trips) (c0_i32_160 : BitVec 32) : Fin 4 → Nat :=
  let c1_173 : Index := 1#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let v286 : BitVec 32 := Scalar.addi v182 c0_i32_160
  let v303 : Index := Scalar.indexCast v286
  let c0_174 : Index := 0#32
  let c0_175 : Index := 0#32
  ![1, v303.toNat, 0, 0]
def k0_off10 (i : grid0.Coords) (k0_t1 : Fin (k0_t1_loop i).trips) (c0_i32_229 : BitVec 32) : Fin 5 → Nat :=
  let c0_238 : Index := 0#32
  let c0_239 : Index := 0#32
  let c0_240 : Index := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let v383 : BitVec 32 := Scalar.addi v182 c0_i32_229
  let v395 : Index := Scalar.indexCast v383
  let c256_241 : Index := 256#32
  ![0, 0, 0, v395.toNat, 256]
def k0_off11 (i : grid0.Coords) (k0_t1 : Fin (k0_t1_loop i).trips) (c0_i32_229 : BitVec 32) : Fin 4 → Nat :=
  let c2_242 : Index := 2#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let v383 : BitVec 32 := Scalar.addi v182 c0_i32_229
  let v400 : Index := Scalar.indexCast v383
  let c0_243 : Index := 0#32
  let c0_244 : Index := 0#32
  ![2, v400.toNat, 0, 0]
def k0_off12 (i : grid0.Coords) (k0_t1 : Fin (k0_t1_loop i).trips) (c0_i32_298 : BitVec 32) : Fin 5 → Nat :=
  let c0_307 : Index := 0#32
  let c0_308 : Index := 0#32
  let c1_309 : Index := 1#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let v480 : BitVec 32 := Scalar.addi v182 c0_i32_298
  let v492 : Index := Scalar.indexCast v480
  let c256_310 : Index := 256#32
  ![0, 0, 1, v492.toNat, 256]
def k0_off13 (i : grid0.Coords) (k0_t1 : Fin (k0_t1_loop i).trips) (c0_i32_298 : BitVec 32) : Fin 4 → Nat :=
  let c3_311 : Index := 3#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c1_i32_26 : BitVec 32 := 1#32
  let arg13 : BitVec 32 := Scf.iv c0_i32_24 c1_i32_26 k0_t1
  let v181 : BitVec 32 := Scalar.muli c4_i32_88 arg13
  let v182 : BitVec 32 := Scalar.addi v38 v181
  let v480 : BitVec 32 := Scalar.addi v182 c0_i32_298
  let v497 : Index := Scalar.indexCast v480
  let c0_312 : Index := 0#32
  let c0_313 : Index := 0#32
  ![3, v497.toNat, 0, 0]
@[reducible] def k0_t2_loop (i : grid0.Coords) : Scf.Loop 32 :=
  let c0_i32_24 : BitVec 32 := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let v62 : BitVec 32 := Scalar.addi c0_i32_24 v61
  let c1_i32_27 : BitVec 32 := 1#32
  ⟨v65, v62, c1_i32_27⟩
def k0_mult2 (i : grid0.Coords) (k0_t2 : Fin (k0_t2_loop i).trips) : BitVec 32 :=
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let c256_i32 : BitVec 32 := 256#32
  let v183 : BitVec 32 := Scalar.muli v182 c256_i32
  v183
def k0_off14 (i : grid0.Coords) (k0_t2 : Fin (k0_t2_loop i).trips) : Fin 3 → Nat :=
  let c0_89 : Index := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let c256_i32 : BitVec 32 := 256#32
  let v183 : BitVec 32 := Scalar.muli v182 c256_i32
  let v184 : BitVec 32 := v183
  let v185 : Index := Scalar.indexCast v184
  let c0_90 : Index := 0#32
  ![0, v185.toNat, 0]
def k0_off15 (i : grid0.Coords) (k0_t2 : Fin (k0_t2_loop i).trips) (c0_i32_92 : BitVec 32) (c0_i32_94 : BitVec 32) : Fin 4 → Nat :=
  let c0_97 : Index := 0#32
  let c3_i32 : BitVec 32 := 3#32
  let c0_i32_96 : BitVec 32 := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let v189 : BitVec 32 := Scalar.addi v182 c0_i32_92
  let c2_i32_93 : BitVec 32 := 2#32
  let v191 : BitVec 32 := Scalar.muli c2_i32_93 arg2
  let v192 : BitVec 32 := Scalar.addi v191 c0_i32_94
  let v193 : BitVec 32 := Scalar.subi v189 v192
  let c2_i32_95 : BitVec 32 := 2#32
  let v194 : BitVec 32 := Scalar.addi v193 c2_i32_95
  let v195 : BitVec 32 := Scalar.maxsi c0_i32_96 v194
  let v196 : BitVec 32 := Scalar.minsi c3_i32 v195
  let v197 : Index := Scalar.indexCast v196
  let c0_98 : Index := 0#32
  let c0_99 : Index := 0#32
  ![0, v197.toNat, 0, 0]
def k0_off16 (i : grid0.Coords) (k0_t2 : Fin (k0_t2_loop i).trips) (c0_i32_92 : BitVec 32) : Fin 5 → Nat :=
  let c0_100 : Index := 0#32
  let c0_101 : Index := 0#32
  let c0_102 : Index := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let v189 : BitVec 32 := Scalar.addi v182 c0_i32_92
  let v201 : Index := Scalar.indexCast v189
  let c0_103 : Index := 0#32
  ![0, 0, 0, v201.toNat, 0]
def k0_off17 (i : grid0.Coords) (k0_t2 : Fin (k0_t2_loop i).trips) (c0_i32_92 : BitVec 32) : Fin 4 → Nat :=
  let c0_104 : Index := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let v189 : BitVec 32 := Scalar.addi v182 c0_i32_92
  let v206 : Index := Scalar.indexCast v189
  let c0_105 : Index := 0#32
  let c0_106 : Index := 0#32
  ![0, v206.toNat, 0, 0]
def k0_off18 (i : grid0.Coords) (k0_t2 : Fin (k0_t2_loop i).trips) (c0_i32_160 : BitVec 32) (c0_i32_162 : BitVec 32) : Fin 4 → Nat :=
  let c1_166 : Index := 1#32
  let c3_i32_165 : BitVec 32 := 3#32
  let c0_i32_164 : BitVec 32 := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let v286 : BitVec 32 := Scalar.addi v182 c0_i32_160
  let c2_i32_161 : BitVec 32 := 2#32
  let v288 : BitVec 32 := Scalar.muli c2_i32_161 arg2
  let v289 : BitVec 32 := Scalar.addi v288 c0_i32_162
  let v290 : BitVec 32 := Scalar.subi v286 v289
  let c2_i32_163 : BitVec 32 := 2#32
  let v291 : BitVec 32 := Scalar.addi v290 c2_i32_163
  let v292 : BitVec 32 := Scalar.maxsi c0_i32_164 v291
  let v293 : BitVec 32 := Scalar.minsi c3_i32_165 v292
  let v294 : Index := Scalar.indexCast v293
  let c0_167 : Index := 0#32
  let c0_168 : Index := 0#32
  ![1, v294.toNat, 0, 0]
def k0_off19 (i : grid0.Coords) (k0_t2 : Fin (k0_t2_loop i).trips) (c0_i32_160 : BitVec 32) : Fin 5 → Nat :=
  let c0_169 : Index := 0#32
  let c0_170 : Index := 0#32
  let c1_171 : Index := 1#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let v286 : BitVec 32 := Scalar.addi v182 c0_i32_160
  let v298 : Index := Scalar.indexCast v286
  let c0_172 : Index := 0#32
  ![0, 0, 1, v298.toNat, 0]
def k0_off20 (i : grid0.Coords) (k0_t2 : Fin (k0_t2_loop i).trips) (c0_i32_160 : BitVec 32) : Fin 4 → Nat :=
  let c1_173 : Index := 1#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let v286 : BitVec 32 := Scalar.addi v182 c0_i32_160
  let v303 : Index := Scalar.indexCast v286
  let c0_174 : Index := 0#32
  let c0_175 : Index := 0#32
  ![1, v303.toNat, 0, 0]
def k0_off21 (i : grid0.Coords) (k0_t2 : Fin (k0_t2_loop i).trips) (c0_i32_229 : BitVec 32) : Fin 5 → Nat :=
  let c0_238 : Index := 0#32
  let c0_239 : Index := 0#32
  let c0_240 : Index := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let v383 : BitVec 32 := Scalar.addi v182 c0_i32_229
  let v395 : Index := Scalar.indexCast v383
  let c256_241 : Index := 256#32
  ![0, 0, 0, v395.toNat, 256]
def k0_off22 (i : grid0.Coords) (k0_t2 : Fin (k0_t2_loop i).trips) (c0_i32_229 : BitVec 32) : Fin 4 → Nat :=
  let c2_242 : Index := 2#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let v383 : BitVec 32 := Scalar.addi v182 c0_i32_229
  let v400 : Index := Scalar.indexCast v383
  let c0_243 : Index := 0#32
  let c0_244 : Index := 0#32
  ![2, v400.toNat, 0, 0]
def k0_off23 (i : grid0.Coords) (k0_t2 : Fin (k0_t2_loop i).trips) (c0_i32_298 : BitVec 32) : Fin 5 → Nat :=
  let c0_307 : Index := 0#32
  let c0_308 : Index := 0#32
  let c1_309 : Index := 1#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let v480 : BitVec 32 := Scalar.addi v182 c0_i32_298
  let v492 : Index := Scalar.indexCast v480
  let c256_310 : Index := 256#32
  ![0, 0, 1, v492.toNat, 256]
def k0_off24 (i : grid0.Coords) (k0_t2 : Fin (k0_t2_loop i).trips) (c0_i32_298 : BitVec 32) : Fin 4 → Nat :=
  let c3_311 : Index := 3#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_24 : BitVec 32 := 0#32
  let c0_i32_18 : BitVec 32 := 0#32
  let v45 : BitVec 1 := Scalar.cmpi .sgt v28 c0_i32_18
  let v46 : BitVec 32 := Scalar.extui v45
  let c0_i32_19 : BitVec 32 := 0#32
  let v47 : BitVec 1 := Scalar.cmpi .slt v28 c0_i32_19
  let v48 : BitVec 32 := Scalar.extui v47
  let v49 : BitVec 32 := Scalar.subi v46 v48
  let c4_i32_17 : BitVec 32 := 4#32
  let c0_i32_20 : BitVec 32 := 0#32
  let v50 : BitVec 1 := Scalar.cmpi .sgt c4_i32_17 c0_i32_20
  let v51 : BitVec 32 := Scalar.extui v50
  let c0_i32_21 : BitVec 32 := 0#32
  let v52 : BitVec 1 := Scalar.cmpi .slt c4_i32_17 c0_i32_21
  let v53 : BitVec 32 := Scalar.extui v52
  let v54 : BitVec 32 := Scalar.subi v51 v53
  let v55 : BitVec 1 := Scalar.cmpi .ne v49 v54
  let v56 : BitVec 32 := Scalar.remsi v28 c4_i32_17
  let c0_i32_22 : BitVec 32 := 0#32
  let v57 : BitVec 1 := Scalar.cmpi .ne v56 c0_i32_22
  let v58 : BitVec 1 := Scalar.andi v55 v57
  let v44 : BitVec 32 := Scalar.divsi v28 c4_i32_17
  let c1_i32_23 : BitVec 32 := 1#32
  let v59 : BitVec 32 := Scalar.subi v44 c1_i32_23
  let v60 : BitVec 32 := Scalar.select v58 v59 v44
  let v61 : BitVec 32 := Scalar.subi v60 c0_i32_24
  let c1_i32_25 : BitVec 32 := 1#32
  let v63 : BitVec 32 := Scalar.divsi v61 c1_i32_25
  let v64 : BitVec 32 := Scalar.muli v63 c1_i32_25
  let v65 : BitVec 32 := Scalar.addi c0_i32_24 v64
  let c1_i32_27 : BitVec 32 := 1#32
  let arg13 : BitVec 32 := Scf.iv v65 c1_i32_27 k0_t2
  let v181 : BitVec 32 := Scalar.muli c4_i32_88 arg13
  let v182 : BitVec 32 := Scalar.addi v38 v181
  let v480 : BitVec 32 := Scalar.addi v182 c0_i32_298
  let v497 : Index := Scalar.indexCast v480
  let c0_312 : Index := 0#32
  let c0_313 : Index := 0#32
  ![3, v497.toNat, 0, 0]
@[reducible] def k0_t3_loop (i : grid0.Coords) : Scf.Loop 32 :=
  let c0_i32_42 : BitVec 32 := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c0_i32_35 : BitVec 32 := 0#32
  let v76 : BitVec 1 := Scalar.cmpi .sgt v28 c0_i32_35
  let v77 : BitVec 32 := Scalar.extui v76
  let c0_i32_36 : BitVec 32 := 0#32
  let v78 : BitVec 1 := Scalar.cmpi .slt v28 c0_i32_36
  let v79 : BitVec 32 := Scalar.extui v78
  let v80 : BitVec 32 := Scalar.subi v77 v79
  let c4_i32_34 : BitVec 32 := 4#32
  let c0_i32_37 : BitVec 32 := 0#32
  let v81 : BitVec 1 := Scalar.cmpi .sgt c4_i32_34 c0_i32_37
  let v82 : BitVec 32 := Scalar.extui v81
  let c0_i32_38 : BitVec 32 := 0#32
  let v83 : BitVec 1 := Scalar.cmpi .slt c4_i32_34 c0_i32_38
  let v84 : BitVec 32 := Scalar.extui v83
  let v85 : BitVec 32 := Scalar.subi v82 v84
  let v86 : BitVec 1 := Scalar.cmpi .ne v80 v85
  let v87 : BitVec 32 := Scalar.remsi v28 c4_i32_34
  let c0_i32_39 : BitVec 32 := 0#32
  let v88 : BitVec 1 := Scalar.cmpi .ne v87 c0_i32_39
  let v89 : BitVec 1 := Scalar.andi v86 v88
  let v75 : BitVec 32 := Scalar.divsi v28 c4_i32_34
  let c1_i32_40 : BitVec 32 := 1#32
  let v90 : BitVec 32 := Scalar.subi v75 c1_i32_40
  let v91 : BitVec 32 := Scalar.select v89 v90 v75
  let v92 : BitVec 32 := Scalar.subi v91 c0_i32_42
  let c1_i32_43 : BitVec 32 := 1#32
  let v94 : BitVec 32 := Scalar.divsi v92 c1_i32_43
  let v95 : BitVec 32 := Scalar.muli v94 c1_i32_43
  let v96 : BitVec 32 := Scalar.addi c0_i32_42 v95
  let c1_i32_44 : BitVec 32 := 1#32
  ⟨c0_i32_42, v96, c1_i32_44⟩
def k0_off25 (i : grid0.Coords) (k0_t3 : Fin (k0_t3_loop i).trips) (c0_i32_89 : BitVec 32) : Fin 4 → Nat :=
  let c0_92 : Index := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c1_i32_44 : BitVec 32 := 1#32
  let arg13 : BitVec 32 := Scf.iv c0_i32_42 c1_i32_44 k0_t3
  let v181 : BitVec 32 := Scalar.muli c4_i32_88 arg13
  let v182 : BitVec 32 := Scalar.addi v38 v181
  let v183 : BitVec 32 := Scalar.addi v182 c0_i32_89
  let v187 : Index := Scalar.indexCast v183
  let c0_93 : Index := 0#32
  let c0_94 : Index := 0#32
  ![0, v187.toNat, 0, 0]
def k0_off26 (i : grid0.Coords) (k0_t3 : Fin (k0_t3_loop i).trips) (c0_i32_89 : BitVec 32) : Fin 4 → Nat :=
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c1_i32_44 : BitVec 32 := 1#32
  let arg13 : BitVec 32 := Scf.iv c0_i32_42 c1_i32_44 k0_t3
  let v181 : BitVec 32 := Scalar.muli c4_i32_88 arg13
  let v182 : BitVec 32 := Scalar.addi v38 v181
  let v183 : BitVec 32 := Scalar.addi v182 c0_i32_89
  let v215 : Index := Scalar.indexCast v183
  let c0_104 : Index := 0#32
  let c0_105 : Index := 0#32
  let c0_106 : Index := 0#32
  ![v215.toNat, 0, 0, 0]
def k0_off27 (i : grid0.Coords) (k0_t3 : Fin (k0_t3_loop i).trips) (c0_i32_89 : BitVec 32) : Fin 4 → Nat :=
  let c1_123 : Index := 1#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c1_i32_44 : BitVec 32 := 1#32
  let arg13 : BitVec 32 := Scf.iv c0_i32_42 c1_i32_44 k0_t3
  let v181 : BitVec 32 := Scalar.muli c4_i32_88 arg13
  let v182 : BitVec 32 := Scalar.addi v38 v181
  let v183 : BitVec 32 := Scalar.addi v182 c0_i32_89
  let v236 : Index := Scalar.indexCast v183
  let c0_124 : Index := 0#32
  let c0_125 : Index := 0#32
  ![1, v236.toNat, 0, 0]
def k0_off28 (i : grid0.Coords) (k0_t3 : Fin (k0_t3_loop i).trips) (c0_i32_89 : BitVec 32) : Fin 4 → Nat :=
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c1_i32_44 : BitVec 32 := 1#32
  let arg13 : BitVec 32 := Scf.iv c0_i32_42 c1_i32_44 k0_t3
  let v181 : BitVec 32 := Scalar.muli c4_i32_88 arg13
  let v182 : BitVec 32 := Scalar.addi v38 v181
  let v183 : BitVec 32 := Scalar.addi v182 c0_i32_89
  let v264 : Index := Scalar.indexCast v183
  let c1_135 : Index := 1#32
  let c0_136 : Index := 0#32
  let c0_137 : Index := 0#32
  ![v264.toNat, 1, 0, 0]
def k0_off29 (i : grid0.Coords) (k0_t3 : Fin (k0_t3_loop i).trips) (c0_i32_89 : BitVec 32) : Fin 4 → Nat :=
  let c2_154 : Index := 2#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c1_i32_44 : BitVec 32 := 1#32
  let arg13 : BitVec 32 := Scf.iv c0_i32_42 c1_i32_44 k0_t3
  let v181 : BitVec 32 := Scalar.muli c4_i32_88 arg13
  let v182 : BitVec 32 := Scalar.addi v38 v181
  let v183 : BitVec 32 := Scalar.addi v182 c0_i32_89
  let v285 : Index := Scalar.indexCast v183
  let c0_155 : Index := 0#32
  let c0_156 : Index := 0#32
  ![2, v285.toNat, 0, 0]
def k0_off30 (i : grid0.Coords) (k0_t3 : Fin (k0_t3_loop i).trips) (c0_i32_89 : BitVec 32) : Fin 4 → Nat :=
  let c3_185 : Index := 3#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c1_i32_44 : BitVec 32 := 1#32
  let arg13 : BitVec 32 := Scf.iv c0_i32_42 c1_i32_44 k0_t3
  let v181 : BitVec 32 := Scalar.muli c4_i32_88 arg13
  let v182 : BitVec 32 := Scalar.addi v38 v181
  let v183 : BitVec 32 := Scalar.addi v182 c0_i32_89
  let v334 : Index := Scalar.indexCast v183
  let c0_186 : Index := 0#32
  let c0_187 : Index := 0#32
  ![3, v334.toNat, 0, 0]
@[reducible] def k0_t4_loop (i : grid0.Coords) : Scf.Loop 32 :=
  let c0_i32_42 : BitVec 32 := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c0_i32_35 : BitVec 32 := 0#32
  let v76 : BitVec 1 := Scalar.cmpi .sgt v28 c0_i32_35
  let v77 : BitVec 32 := Scalar.extui v76
  let c0_i32_36 : BitVec 32 := 0#32
  let v78 : BitVec 1 := Scalar.cmpi .slt v28 c0_i32_36
  let v79 : BitVec 32 := Scalar.extui v78
  let v80 : BitVec 32 := Scalar.subi v77 v79
  let c4_i32_34 : BitVec 32 := 4#32
  let c0_i32_37 : BitVec 32 := 0#32
  let v81 : BitVec 1 := Scalar.cmpi .sgt c4_i32_34 c0_i32_37
  let v82 : BitVec 32 := Scalar.extui v81
  let c0_i32_38 : BitVec 32 := 0#32
  let v83 : BitVec 1 := Scalar.cmpi .slt c4_i32_34 c0_i32_38
  let v84 : BitVec 32 := Scalar.extui v83
  let v85 : BitVec 32 := Scalar.subi v82 v84
  let v86 : BitVec 1 := Scalar.cmpi .ne v80 v85
  let v87 : BitVec 32 := Scalar.remsi v28 c4_i32_34
  let c0_i32_39 : BitVec 32 := 0#32
  let v88 : BitVec 1 := Scalar.cmpi .ne v87 c0_i32_39
  let v89 : BitVec 1 := Scalar.andi v86 v88
  let v75 : BitVec 32 := Scalar.divsi v28 c4_i32_34
  let c1_i32_40 : BitVec 32 := 1#32
  let v90 : BitVec 32 := Scalar.subi v75 c1_i32_40
  let v91 : BitVec 32 := Scalar.select v89 v90 v75
  let v92 : BitVec 32 := Scalar.subi v91 c0_i32_42
  let c1_i32_43 : BitVec 32 := 1#32
  let v94 : BitVec 32 := Scalar.divsi v92 c1_i32_43
  let v95 : BitVec 32 := Scalar.muli v94 c1_i32_43
  let v96 : BitVec 32 := Scalar.addi c0_i32_42 v95
  let v93 : BitVec 32 := Scalar.addi c0_i32_42 v92
  let c1_i32_45 : BitVec 32 := 1#32
  ⟨v96, v93, c1_i32_45⟩
def k0_off31 (i : grid0.Coords) (k0_t4 : Fin (k0_t4_loop i).trips) (c0_i32_89 : BitVec 32) : Fin 4 → Nat :=
  let c0_92 : Index := 0#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c0_i32_35 : BitVec 32 := 0#32
  let v76 : BitVec 1 := Scalar.cmpi .sgt v28 c0_i32_35
  let v77 : BitVec 32 := Scalar.extui v76
  let c0_i32_36 : BitVec 32 := 0#32
  let v78 : BitVec 1 := Scalar.cmpi .slt v28 c0_i32_36
  let v79 : BitVec 32 := Scalar.extui v78
  let v80 : BitVec 32 := Scalar.subi v77 v79
  let c4_i32_34 : BitVec 32 := 4#32
  let c0_i32_37 : BitVec 32 := 0#32
  let v81 : BitVec 1 := Scalar.cmpi .sgt c4_i32_34 c0_i32_37
  let v82 : BitVec 32 := Scalar.extui v81
  let c0_i32_38 : BitVec 32 := 0#32
  let v83 : BitVec 1 := Scalar.cmpi .slt c4_i32_34 c0_i32_38
  let v84 : BitVec 32 := Scalar.extui v83
  let v85 : BitVec 32 := Scalar.subi v82 v84
  let v86 : BitVec 1 := Scalar.cmpi .ne v80 v85
  let v87 : BitVec 32 := Scalar.remsi v28 c4_i32_34
  let c0_i32_39 : BitVec 32 := 0#32
  let v88 : BitVec 1 := Scalar.cmpi .ne v87 c0_i32_39
  let v89 : BitVec 1 := Scalar.andi v86 v88
  let v75 : BitVec 32 := Scalar.divsi v28 c4_i32_34
  let c1_i32_40 : BitVec 32 := 1#32
  let v90 : BitVec 32 := Scalar.subi v75 c1_i32_40
  let v91 : BitVec 32 := Scalar.select v89 v90 v75
  let v92 : BitVec 32 := Scalar.subi v91 c0_i32_42
  let c1_i32_43 : BitVec 32 := 1#32
  let v94 : BitVec 32 := Scalar.divsi v92 c1_i32_43
  let v95 : BitVec 32 := Scalar.muli v94 c1_i32_43
  let v96 : BitVec 32 := Scalar.addi c0_i32_42 v95
  let c1_i32_45 : BitVec 32 := 1#32
  let arg13 : BitVec 32 := Scf.iv v96 c1_i32_45 k0_t4
  let v181 : BitVec 32 := Scalar.muli c4_i32_88 arg13
  let v182 : BitVec 32 := Scalar.addi v38 v181
  let v183 : BitVec 32 := Scalar.addi v182 c0_i32_89
  let v187 : Index := Scalar.indexCast v183
  let c0_93 : Index := 0#32
  let c0_94 : Index := 0#32
  ![0, v187.toNat, 0, 0]
def k0_off32 (i : grid0.Coords) (k0_t4 : Fin (k0_t4_loop i).trips) (c0_i32_89 : BitVec 32) : Fin 4 → Nat :=
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c0_i32_35 : BitVec 32 := 0#32
  let v76 : BitVec 1 := Scalar.cmpi .sgt v28 c0_i32_35
  let v77 : BitVec 32 := Scalar.extui v76
  let c0_i32_36 : BitVec 32 := 0#32
  let v78 : BitVec 1 := Scalar.cmpi .slt v28 c0_i32_36
  let v79 : BitVec 32 := Scalar.extui v78
  let v80 : BitVec 32 := Scalar.subi v77 v79
  let c4_i32_34 : BitVec 32 := 4#32
  let c0_i32_37 : BitVec 32 := 0#32
  let v81 : BitVec 1 := Scalar.cmpi .sgt c4_i32_34 c0_i32_37
  let v82 : BitVec 32 := Scalar.extui v81
  let c0_i32_38 : BitVec 32 := 0#32
  let v83 : BitVec 1 := Scalar.cmpi .slt c4_i32_34 c0_i32_38
  let v84 : BitVec 32 := Scalar.extui v83
  let v85 : BitVec 32 := Scalar.subi v82 v84
  let v86 : BitVec 1 := Scalar.cmpi .ne v80 v85
  let v87 : BitVec 32 := Scalar.remsi v28 c4_i32_34
  let c0_i32_39 : BitVec 32 := 0#32
  let v88 : BitVec 1 := Scalar.cmpi .ne v87 c0_i32_39
  let v89 : BitVec 1 := Scalar.andi v86 v88
  let v75 : BitVec 32 := Scalar.divsi v28 c4_i32_34
  let c1_i32_40 : BitVec 32 := 1#32
  let v90 : BitVec 32 := Scalar.subi v75 c1_i32_40
  let v91 : BitVec 32 := Scalar.select v89 v90 v75
  let v92 : BitVec 32 := Scalar.subi v91 c0_i32_42
  let c1_i32_43 : BitVec 32 := 1#32
  let v94 : BitVec 32 := Scalar.divsi v92 c1_i32_43
  let v95 : BitVec 32 := Scalar.muli v94 c1_i32_43
  let v96 : BitVec 32 := Scalar.addi c0_i32_42 v95
  let c1_i32_45 : BitVec 32 := 1#32
  let arg13 : BitVec 32 := Scf.iv v96 c1_i32_45 k0_t4
  let v181 : BitVec 32 := Scalar.muli c4_i32_88 arg13
  let v182 : BitVec 32 := Scalar.addi v38 v181
  let v183 : BitVec 32 := Scalar.addi v182 c0_i32_89
  let v215 : Index := Scalar.indexCast v183
  let c0_104 : Index := 0#32
  let c0_105 : Index := 0#32
  let c0_106 : Index := 0#32
  ![v215.toNat, 0, 0, 0]
def k0_off33 (i : grid0.Coords) (k0_t4 : Fin (k0_t4_loop i).trips) (c0_i32_89 : BitVec 32) : Fin 4 → Nat :=
  let c1_123 : Index := 1#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c0_i32_35 : BitVec 32 := 0#32
  let v76 : BitVec 1 := Scalar.cmpi .sgt v28 c0_i32_35
  let v77 : BitVec 32 := Scalar.extui v76
  let c0_i32_36 : BitVec 32 := 0#32
  let v78 : BitVec 1 := Scalar.cmpi .slt v28 c0_i32_36
  let v79 : BitVec 32 := Scalar.extui v78
  let v80 : BitVec 32 := Scalar.subi v77 v79
  let c4_i32_34 : BitVec 32 := 4#32
  let c0_i32_37 : BitVec 32 := 0#32
  let v81 : BitVec 1 := Scalar.cmpi .sgt c4_i32_34 c0_i32_37
  let v82 : BitVec 32 := Scalar.extui v81
  let c0_i32_38 : BitVec 32 := 0#32
  let v83 : BitVec 1 := Scalar.cmpi .slt c4_i32_34 c0_i32_38
  let v84 : BitVec 32 := Scalar.extui v83
  let v85 : BitVec 32 := Scalar.subi v82 v84
  let v86 : BitVec 1 := Scalar.cmpi .ne v80 v85
  let v87 : BitVec 32 := Scalar.remsi v28 c4_i32_34
  let c0_i32_39 : BitVec 32 := 0#32
  let v88 : BitVec 1 := Scalar.cmpi .ne v87 c0_i32_39
  let v89 : BitVec 1 := Scalar.andi v86 v88
  let v75 : BitVec 32 := Scalar.divsi v28 c4_i32_34
  let c1_i32_40 : BitVec 32 := 1#32
  let v90 : BitVec 32 := Scalar.subi v75 c1_i32_40
  let v91 : BitVec 32 := Scalar.select v89 v90 v75
  let v92 : BitVec 32 := Scalar.subi v91 c0_i32_42
  let c1_i32_43 : BitVec 32 := 1#32
  let v94 : BitVec 32 := Scalar.divsi v92 c1_i32_43
  let v95 : BitVec 32 := Scalar.muli v94 c1_i32_43
  let v96 : BitVec 32 := Scalar.addi c0_i32_42 v95
  let c1_i32_45 : BitVec 32 := 1#32
  let arg13 : BitVec 32 := Scf.iv v96 c1_i32_45 k0_t4
  let v181 : BitVec 32 := Scalar.muli c4_i32_88 arg13
  let v182 : BitVec 32 := Scalar.addi v38 v181
  let v183 : BitVec 32 := Scalar.addi v182 c0_i32_89
  let v236 : Index := Scalar.indexCast v183
  let c0_124 : Index := 0#32
  let c0_125 : Index := 0#32
  ![1, v236.toNat, 0, 0]
def k0_off34 (i : grid0.Coords) (k0_t4 : Fin (k0_t4_loop i).trips) (c0_i32_89 : BitVec 32) : Fin 4 → Nat :=
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c0_i32_35 : BitVec 32 := 0#32
  let v76 : BitVec 1 := Scalar.cmpi .sgt v28 c0_i32_35
  let v77 : BitVec 32 := Scalar.extui v76
  let c0_i32_36 : BitVec 32 := 0#32
  let v78 : BitVec 1 := Scalar.cmpi .slt v28 c0_i32_36
  let v79 : BitVec 32 := Scalar.extui v78
  let v80 : BitVec 32 := Scalar.subi v77 v79
  let c4_i32_34 : BitVec 32 := 4#32
  let c0_i32_37 : BitVec 32 := 0#32
  let v81 : BitVec 1 := Scalar.cmpi .sgt c4_i32_34 c0_i32_37
  let v82 : BitVec 32 := Scalar.extui v81
  let c0_i32_38 : BitVec 32 := 0#32
  let v83 : BitVec 1 := Scalar.cmpi .slt c4_i32_34 c0_i32_38
  let v84 : BitVec 32 := Scalar.extui v83
  let v85 : BitVec 32 := Scalar.subi v82 v84
  let v86 : BitVec 1 := Scalar.cmpi .ne v80 v85
  let v87 : BitVec 32 := Scalar.remsi v28 c4_i32_34
  let c0_i32_39 : BitVec 32 := 0#32
  let v88 : BitVec 1 := Scalar.cmpi .ne v87 c0_i32_39
  let v89 : BitVec 1 := Scalar.andi v86 v88
  let v75 : BitVec 32 := Scalar.divsi v28 c4_i32_34
  let c1_i32_40 : BitVec 32 := 1#32
  let v90 : BitVec 32 := Scalar.subi v75 c1_i32_40
  let v91 : BitVec 32 := Scalar.select v89 v90 v75
  let v92 : BitVec 32 := Scalar.subi v91 c0_i32_42
  let c1_i32_43 : BitVec 32 := 1#32
  let v94 : BitVec 32 := Scalar.divsi v92 c1_i32_43
  let v95 : BitVec 32 := Scalar.muli v94 c1_i32_43
  let v96 : BitVec 32 := Scalar.addi c0_i32_42 v95
  let c1_i32_45 : BitVec 32 := 1#32
  let arg13 : BitVec 32 := Scf.iv v96 c1_i32_45 k0_t4
  let v181 : BitVec 32 := Scalar.muli c4_i32_88 arg13
  let v182 : BitVec 32 := Scalar.addi v38 v181
  let v183 : BitVec 32 := Scalar.addi v182 c0_i32_89
  let v264 : Index := Scalar.indexCast v183
  let c1_135 : Index := 1#32
  let c0_136 : Index := 0#32
  let c0_137 : Index := 0#32
  ![v264.toNat, 1, 0, 0]
def k0_off35 (i : grid0.Coords) (k0_t4 : Fin (k0_t4_loop i).trips) (c0_i32_89 : BitVec 32) : Fin 4 → Nat :=
  let c2_154 : Index := 2#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c0_i32_35 : BitVec 32 := 0#32
  let v76 : BitVec 1 := Scalar.cmpi .sgt v28 c0_i32_35
  let v77 : BitVec 32 := Scalar.extui v76
  let c0_i32_36 : BitVec 32 := 0#32
  let v78 : BitVec 1 := Scalar.cmpi .slt v28 c0_i32_36
  let v79 : BitVec 32 := Scalar.extui v78
  let v80 : BitVec 32 := Scalar.subi v77 v79
  let c4_i32_34 : BitVec 32 := 4#32
  let c0_i32_37 : BitVec 32 := 0#32
  let v81 : BitVec 1 := Scalar.cmpi .sgt c4_i32_34 c0_i32_37
  let v82 : BitVec 32 := Scalar.extui v81
  let c0_i32_38 : BitVec 32 := 0#32
  let v83 : BitVec 1 := Scalar.cmpi .slt c4_i32_34 c0_i32_38
  let v84 : BitVec 32 := Scalar.extui v83
  let v85 : BitVec 32 := Scalar.subi v82 v84
  let v86 : BitVec 1 := Scalar.cmpi .ne v80 v85
  let v87 : BitVec 32 := Scalar.remsi v28 c4_i32_34
  let c0_i32_39 : BitVec 32 := 0#32
  let v88 : BitVec 1 := Scalar.cmpi .ne v87 c0_i32_39
  let v89 : BitVec 1 := Scalar.andi v86 v88
  let v75 : BitVec 32 := Scalar.divsi v28 c4_i32_34
  let c1_i32_40 : BitVec 32 := 1#32
  let v90 : BitVec 32 := Scalar.subi v75 c1_i32_40
  let v91 : BitVec 32 := Scalar.select v89 v90 v75
  let v92 : BitVec 32 := Scalar.subi v91 c0_i32_42
  let c1_i32_43 : BitVec 32 := 1#32
  let v94 : BitVec 32 := Scalar.divsi v92 c1_i32_43
  let v95 : BitVec 32 := Scalar.muli v94 c1_i32_43
  let v96 : BitVec 32 := Scalar.addi c0_i32_42 v95
  let c1_i32_45 : BitVec 32 := 1#32
  let arg13 : BitVec 32 := Scf.iv v96 c1_i32_45 k0_t4
  let v181 : BitVec 32 := Scalar.muli c4_i32_88 arg13
  let v182 : BitVec 32 := Scalar.addi v38 v181
  let v183 : BitVec 32 := Scalar.addi v182 c0_i32_89
  let v285 : Index := Scalar.indexCast v183
  let c0_155 : Index := 0#32
  let c0_156 : Index := 0#32
  ![2, v285.toNat, 0, 0]
def k0_off36 (i : grid0.Coords) (k0_t4 : Fin (k0_t4_loop i).trips) (c0_i32_89 : BitVec 32) : Fin 4 → Nat :=
  let c3_185 : Index := 3#32
  let c2_i32 : BitVec 32 := 2#32
  let arg2 : BitVec 32 := BitVec.ofNat 32 (i 2).val
  let v27 : BitVec 32 := Scalar.muli c2_i32 arg2
  let c2_i32_9 : BitVec 32 := 2#32
  let v28 : BitVec 32 := Scalar.addi v27 c2_i32_9
  let c4_i32 : BitVec 32 := 4#32
  let c0_i32_10 : BitVec 32 := 0#32
  let v29 : BitVec 1 := Scalar.cmpi .eq c4_i32 c0_i32_10
  let c1_i32 : BitVec 32 := 1#32
  let v30 : BitVec 32 := Scalar.select v29 c1_i32 c4_i32
  let v31 : BitVec 32 := Scalar.remsi v28 v30
  let c0_i32_12 : BitVec 32 := 0#32
  let v33 : BitVec 1 := Scalar.cmpi .slt v31 c0_i32_12
  let c0_i32_13 : BitVec 32 := 0#32
  let v34 : BitVec 1 := Scalar.cmpi .slt v30 c0_i32_13
  let v35 : BitVec 1 := Scalar.xori v33 v34
  let c0_i32_11 : BitVec 32 := 0#32
  let v32 : BitVec 1 := Scalar.cmpi .ne v31 c0_i32_11
  let v36 : BitVec 1 := Scalar.andi v35 v32
  let v37 : BitVec 32 := Scalar.addi v31 v30
  let v38 : BitVec 32 := Scalar.select v36 v37 v31
  let c4_i32_88 : BitVec 32 := 4#32
  let c0_i32_42 : BitVec 32 := 0#32
  let c0_i32_35 : BitVec 32 := 0#32
  let v76 : BitVec 1 := Scalar.cmpi .sgt v28 c0_i32_35
  let v77 : BitVec 32 := Scalar.extui v76
  let c0_i32_36 : BitVec 32 := 0#32
  let v78 : BitVec 1 := Scalar.cmpi .slt v28 c0_i32_36
  let v79 : BitVec 32 := Scalar.extui v78
  let v80 : BitVec 32 := Scalar.subi v77 v79
  let c4_i32_34 : BitVec 32 := 4#32
  let c0_i32_37 : BitVec 32 := 0#32
  let v81 : BitVec 1 := Scalar.cmpi .sgt c4_i32_34 c0_i32_37
  let v82 : BitVec 32 := Scalar.extui v81
  let c0_i32_38 : BitVec 32 := 0#32
  let v83 : BitVec 1 := Scalar.cmpi .slt c4_i32_34 c0_i32_38
  let v84 : BitVec 32 := Scalar.extui v83
  let v85 : BitVec 32 := Scalar.subi v82 v84
  let v86 : BitVec 1 := Scalar.cmpi .ne v80 v85
  let v87 : BitVec 32 := Scalar.remsi v28 c4_i32_34
  let c0_i32_39 : BitVec 32 := 0#32
  let v88 : BitVec 1 := Scalar.cmpi .ne v87 c0_i32_39
  let v89 : BitVec 1 := Scalar.andi v86 v88
  let v75 : BitVec 32 := Scalar.divsi v28 c4_i32_34
  let c1_i32_40 : BitVec 32 := 1#32
  let v90 : BitVec 32 := Scalar.subi v75 c1_i32_40
  let v91 : BitVec 32 := Scalar.select v89 v90 v75
  let v92 : BitVec 32 := Scalar.subi v91 c0_i32_42
  let c1_i32_43 : BitVec 32 := 1#32
  let v94 : BitVec 32 := Scalar.divsi v92 c1_i32_43
  let v95 : BitVec 32 := Scalar.muli v94 c1_i32_43
  let v96 : BitVec 32 := Scalar.addi c0_i32_42 v95
  let c1_i32_45 : BitVec 32 := 1#32
  let arg13 : BitVec 32 := Scf.iv v96 c1_i32_45 k0_t4
  let v181 : BitVec 32 := Scalar.muli c4_i32_88 arg13
  let v182 : BitVec 32 := Scalar.addi v38 v181
  let v183 : BitVec 32 := Scalar.addi v182 c0_i32_89
  let v334 : Index := Scalar.indexCast v183
  let c0_186 : Index := 0#32
  let c0_187 : Index := 0#32
  ![3, v334.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnRefIdeal.lean ====
abbrev S4x4096x3072 : Shape := ⟨3, ![4, 4096, 3072]⟩
abbrev S4x4x2x16x4096 : Shape := ⟨5, ![4, 4, 2, 16, 4096]⟩
abbrev S8x4x256x256 : Shape := ⟨4, ![8, 4, 256, 256]⟩
abbrev S512 : Shape := ⟨1, ![512]⟩
abbrev S4x4096x512 : Shape := ⟨3, ![4, 4096, 512]⟩
abbrev S4x4096x8x64 : Shape := ⟨4, ![4, 4096, 8, 64]⟩
abbrev S4x8x4096x64 : Shape := ⟨4, ![4, 8, 4096, 64]⟩
abbrev S16x256x16x256 : Shape := ⟨4, ![16, 256, 16, 256]⟩
abbrev S8x1x256x256 : Shape := ⟨4, ![8, 1, 256, 256]⟩
abbrev S8x256x256 : Shape := ⟨3, ![8, 256, 256]⟩
abbrev S8x1x256x1x256 : Shape := ⟨5, ![8, 1, 256, 1, 256]⟩
abbrev S_ : Shape := ⟨0, ![]⟩
abbrev S8x16x256x16x256 : Shape := ⟨5, ![8, 16, 256, 16, 256]⟩
abbrev S4x8x16x1x4096 : Shape := ⟨5, ![4, 8, 16, 1, 4096]⟩
abbrev S4x8x4096x4096 : Shape := ⟨4, ![4, 8, 4096, 4096]⟩
abbrev S1x8x4096x4096 : Shape := ⟨4, ![1, 8, 4096, 4096]⟩
abbrev S4x8x16x256x4096 : Shape := ⟨5, ![4, 8, 16, 256, 4096]⟩
abbrev S4x8x4096 : Shape := ⟨3, ![4, 8, 4096]⟩
abbrev S4x8x1x4096 : Shape := ⟨4, ![4, 8, 1, 4096]⟩
abbrev S4x8x4096x1 : Shape := ⟨4, ![4, 8, 4096, 1]⟩
abbrev S1x1x512 : Shape := ⟨3, ![1, 1, 512]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S4x4x2x16x4096, .f32⟩
  | .hbm, ⟨2, _⟩ => ⟨S8x4x256x256, .f32⟩
  | .hbm, ⟨3, _⟩ => ⟨S512, .f32⟩
  | .hbm, ⟨4, _⟩ => ⟨S4x4096x512, .bf16⟩
  | .hbm, ⟨5, _⟩ => ⟨S4x4096x512, .f32⟩
  | .hbm, ⟨6, _⟩ => ⟨S4x4096x8x64, .f32⟩
  | .hbm, ⟨7, _⟩ => ⟨S4x8x4096x64, .f32⟩
  | .hbm, ⟨8, _⟩ => ⟨S4x4096x512, .bf16⟩
  | .hbm, ⟨9, _⟩ => ⟨S4x4096x512, .f32⟩
  | .hbm, ⟨10, _⟩ => ⟨S4x4096x8x64, .f32⟩
  | .hbm, ⟨11, _⟩ => ⟨S4x8x4096x64, .f32⟩
  | .hbm, ⟨12, _⟩ => ⟨S4x4096x512, .bf16⟩
  | .hbm, ⟨13, _⟩ => ⟨S4x4096x512, .f32⟩
  | .hbm, ⟨14, _⟩ => ⟨S4x4096x8x64, .f32⟩
  | .hbm, ⟨15, _⟩ => ⟨S4x8x4096x64, .f32⟩
  | .hbm, ⟨16, _⟩ => ⟨S16x256x16x256, .i32⟩
  | .hbm, ⟨17, _⟩ => ⟨S16x256x16x256, .i32⟩
  | .hbm, ⟨18, _⟩ => ⟨S8x1x256x256, .f32⟩
  | .hbm, ⟨19, _⟩ => ⟨S8x256x256, .f32⟩
  | .hbm, ⟨20, _⟩ => ⟨S8x1x256x1x256, .f32⟩
  | .hbm, ⟨21, _⟩ => ⟨S8x1x256x256, .f32⟩
  | .hbm, ⟨22, _⟩ => ⟨S8x256x256, .f32⟩
  | .hbm, ⟨23, _⟩ => ⟨S8x1x256x1x256, .f32⟩
  | .hbm, ⟨24, _⟩ => ⟨S8x1x256x256, .f32⟩
  | .hbm, ⟨25, _⟩ => ⟨S8x256x256, .f32⟩
  | .hbm, ⟨26, _⟩ => ⟨S8x1x256x1x256, .f32⟩
  | .hbm, ⟨27, _⟩ => ⟨S8x1x256x256, .f32⟩
  | .hbm, ⟨28, _⟩ => ⟨S8x256x256, .f32⟩
  | .hbm, ⟨29, _⟩ => ⟨S8x1x256x1x256, .f32⟩
  | .hbm, ⟨30, _⟩ => ⟨S16x256x16x256, .i1⟩
  | .hbm, ⟨31, _⟩ => ⟨S16x256x16x256, .i1⟩
  | .hbm, ⟨32, _⟩ => ⟨S_, .i32⟩
  | .hbm, ⟨33, _⟩ => ⟨S16x256x16x256, .i32⟩
  | .hbm, ⟨34, _⟩ => ⟨S16x256x16x256, .i32⟩
  | .hbm, ⟨35, _⟩ => ⟨S16x256x16x256, .i1⟩
  | .hbm, ⟨36, _⟩ => ⟨S8x16x256x16x256, .i1⟩
  | .hbm, ⟨37, _⟩ => ⟨S8x16x256x16x256, .f32⟩
  | .hbm, ⟨38, _⟩ => ⟨S8x16x256x16x256, .f32⟩
  | .hbm, ⟨39, _⟩ => ⟨S8x16x256x16x256, .f32⟩
  | .hbm, ⟨40, _⟩ => ⟨S8x16x256x16x256, .i1⟩
  | .hbm, ⟨41, _⟩ => ⟨S8x16x256x16x256, .f32⟩
  | .hbm, ⟨42, _⟩ => ⟨S8x16x256x16x256, .f32⟩
  | .hbm, ⟨43, _⟩ => ⟨S8x16x256x16x256, .i1⟩
  | .hbm, ⟨44, _⟩ => ⟨S8x16x256x16x256, .f32⟩
  | .hbm, ⟨45, _⟩ => ⟨S8x16x256x16x256, .f32⟩
  | .hbm, ⟨46, _⟩ => ⟨S4x8x16x1x4096, .f32⟩
  | .hbm, ⟨47, _⟩ => ⟨S4x8x4096x4096, .f32⟩
  | .hbm, ⟨48, _⟩ => ⟨S1x8x4096x4096, .f32⟩
  | .hbm, ⟨49, _⟩ => ⟨S4x8x4096x4096, .f32⟩
  | .hbm, ⟨50, _⟩ => ⟨S4x8x4096x4096, .f32⟩
  | .hbm, ⟨51, _⟩ => ⟨S4x8x16x256x4096, .f32⟩
  | .hbm, ⟨52, _⟩ => ⟨S4x8x16x256x4096, .f32⟩
  | .hbm, ⟨53, _⟩ => ⟨S4x8x16x256x4096, .f32⟩
  | .hbm, ⟨54, _⟩ => ⟨S4x8x4096x4096, .f32⟩
  | .hbm, ⟨55, _⟩ => ⟨S_, .f32⟩
  | .hbm, ⟨56, _⟩ => ⟨S4x8x4096, .f32⟩
  | .hbm, ⟨57, _⟩ => ⟨S4x8x1x4096, .f32⟩
  | .hbm, ⟨58, _⟩ => ⟨S4x8x4096x4096, .f32⟩
  | .hbm, ⟨59, _⟩ => ⟨S4x8x4096x4096, .f32⟩
  | .hbm, ⟨60, _⟩ => ⟨S_, .f32⟩
  | .hbm, ⟨61, _⟩ => ⟨S4x8x4096x4096, .f32⟩
  | .hbm, ⟨62, _⟩ => ⟨S4x8x4096x4096, .f32⟩
  | .hbm, ⟨63, _⟩ => ⟨S4x8x4096x64, .f32⟩
  | .hbm, ⟨64, _⟩ => ⟨S_, .f32⟩
  | .hbm, ⟨65, _⟩ => ⟨S4x8x4096, .f32⟩
  | .hbm, ⟨66, _⟩ => ⟨S4x8x4096x1, .f32⟩
  | .hbm, ⟨67, _⟩ => ⟨S4x8x4096x64, .f32⟩
  | .hbm, ⟨68, _⟩ => ⟨S4x8x4096x64, .f32⟩
  | .hbm, ⟨69, _⟩ => ⟨S4x8x4096x64, .f32⟩
  | .hbm, ⟨70, _⟩ => ⟨S_, .f32⟩
  | .hbm, ⟨71, _⟩ => ⟨S4x8x4096, .f32⟩
  | .hbm, ⟨72, _⟩ => ⟨S4x8x4096x1, .f32⟩
  | .hbm, ⟨73, _⟩ => ⟨S_, .f32⟩
  | .hbm, ⟨74, _⟩ => ⟨S4x8x4096x1, .f32⟩
  | .hbm, ⟨75, _⟩ => ⟨S4x8x4096x1, .f32⟩
  | .hbm, ⟨76, _⟩ => ⟨S_, .f32⟩
  | .hbm, ⟨77, _⟩ => ⟨S4x8x4096x1, .f32⟩
  | .hbm, ⟨78, _⟩ => ⟨S4x8x4096x1, .f32⟩
  | .hbm, ⟨79, _⟩ => ⟨S4x8x4096x1, .f32⟩
  | .hbm, ⟨80, _⟩ => ⟨S4x8x4096x64, .f32⟩
  | .hbm, ⟨81, _⟩ => ⟨S4x8x4096x64, .f32⟩
  | .hbm, ⟨82, _⟩ => ⟨S4x4096x8x64, .f32⟩
  | .hbm, ⟨83, _⟩ => ⟨S4x4096x512, .f32⟩
  | .hbm, ⟨84, _⟩ => ⟨S1x1x512, .f32⟩
  | .hbm, ⟨85, _⟩ => ⟨S4x4096x512, .f32⟩
  | .hbm, ⟨86, _⟩ => ⟨S4x4096x512, .f32⟩
  | .hbm, ⟨87, _⟩ => ⟨S4x4096x512, .bf16⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v31 : Ref sig .tc := ⟨.hbm, 39, rfl⟩
abbrev main_call1_v0 : Ref sig .tc := ⟨.hbm, 40, rfl⟩
abbrev main_call1_v1 : Ref sig .tc := ⟨.hbm, 41, rfl⟩
abbrev main_v32 : Ref sig .tc := ⟨.hbm, 42, rfl⟩
abbrev main_call2_v0 : Ref sig .tc := ⟨.hbm, 43, rfl⟩
abbrev main_call2_v1 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_0 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_1 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_2 : Ref sig .tc := ⟨.hbm, 70, rfl⟩
abbrev main_v55 : Ref sig .tc := ⟨.hbm, 71, rfl⟩
abbrev main_v56 : Ref sig .tc := ⟨.hbm, 72, rfl⟩
abbrev main_cst_3 : Ref sig .tc := ⟨.hbm, 73, rfl⟩
abbrev main_v57 : Ref sig .tc := ⟨.hbm, 74, rfl⟩
abbrev main_v58 : Ref sig .tc := ⟨.hbm, 75, rfl⟩
abbrev main_cst_4 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Mod.lean ====
abbrev S4x1024 : Shape := ⟨2, ![4, 1024]⟩
abbrev S1x1024x6144 : Shape := ⟨3, ![1, 1024, 6144]⟩
abbrev S1x6144 : Shape := ⟨2, ![1, 6144]⟩
abbrev S_ : Shape := ⟨0, ![]⟩
abbrev S8x1024 : Shape := ⟨2, ![8, 1024]⟩
abbrev S1024x6144 : Shape := ⟨2, ![1024, 6144]⟩
abbrev S6144 : Shape := ⟨1, ![6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1x1024x6144, .f32⟩
  | .hbm, ⟨2, _⟩ => ⟨S1x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S1024x6144, .f32⟩
  | .hbm, ⟨7, _⟩ => ⟨S6144, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S4x1024 : Shape := ⟨2, ![4, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S4x6144 : Shape := ⟨2, ![4, 6144]⟩
abbrev S8x6144 : Shape := ⟨2, ![8, 6144]⟩
abbrev S6144 : Shape := ⟨1, ![6144]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1x1024x6144, .f32⟩
  | .hbm, ⟨2, _⟩ => ⟨S1x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1024x6144, .f32⟩
  | .hbm, ⟨13, _⟩ => ⟨S4x6144, .f32⟩
  | .hbm, ⟨14, _⟩ => ⟨S_, .i32⟩
  | .hbm, ⟨15, _⟩ => ⟨S_, .f32⟩
  | .hbm, ⟨16, _⟩ => ⟨S8x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Proof.InProj.lean ====
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.Value
public import Idealize.ShloMosaic.Lib.Pointwise
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen

variable (m : (ℓ : Loc nD τ sig) → Buf (Elt Ideal) ℓ) (ρ : Dev nD → PrngReg)

/-- The factor a column of the projection carries: the scale of the first attention's queries, the scale of the second's, or one. -/
def colScale (l : Fin 3072) : EReal :=
  if l.val < 512 then Ideal.ofBits .f32 0x3E000000#32
  else if l.val < 1536 then 1
  else if l.val < 2048 then Ideal.ofBits .f32 0x3E38AA3B#32
  else 1

/-- The two scales are finite and not negative. -/
theorem scales : (0 ≤ Ideal.ofBits .f32 0x3E000000#32 ∧ Ideal.ofBits .f32 0x3E000000#32 ≠ ⊤)
    ∧ (0 ≤ Ideal.ofBits .f32 0x3E38AA3B#32 ∧ Ideal.ofBits .f32 0x3E38AA3B#32 ≠ ⊤) := by
  refine ⟨⟨?_, ?_⟩, ⟨?_, ?_⟩⟩ <;> simp [Ideal.ofBits, Ideal.ieee, -EReal.coe_mul] <;> first | exact EReal.coe_ne_top _ | (norm_cast; norm_num)

/-- Every column's factor is finite and not negative. -/
theorem colScale_fin (l : Fin 3072) : 0 ≤ colScale l ∧ colScale l ≠ ⊤ := by
  unfold colScale
  have h1 : (0 : EReal) ≤ 1 ∧ (1 : EReal) ≠ ⊤ := ⟨zero_le_one, EReal.coe_ne_top 1⟩
  split_ifs
  · exact scales.1
  · exact h1
  · exact scales.2
  · exact h1

/-- A finite nonnegative factor moves into a sum of extended reals. -/
theorem sum_mul_fin {n : Nat} (f : Fin n → EReal) (c : EReal) (h : 0 ≤ c ∧ c ≠ ⊤) : (∑ k, f k) * c = ∑ k, f k * c := by
  refine Finset.induction_on (Finset.univ : Finset (Fin n)) (by simp) fun a s ha ih => ?_
  rw [Finset.sum_insert ha, Finset.sum_insert ha, EReal.right_distrib_of_nonneg_of_ne_top h.1 h.2, ih]

/-- One element of what a grid point stores: the modulated row of the input times a column of the scaled weight. -/
theorem pay_apply (v0 : Vec Ideal S1x1024x1024 .f32) (v2 v8 : Vec Ideal S1x1x1024 .f32) (v13 : Vec Ideal S1024x3072 .bf16)
    (r : Fin 1024) (l : Fin 3072) :
    k0_pay1 v0 v2 v8 v13 (ix3 0 r l)
      = ∑ k : Fin 1024, (v0 (ix3 0 r k) * (1 + v2 (ix3 0 0 k)) + v8 (ix3 0 0 k)) * v13 (ix2 k l) := by
  pointwise [k0_pay1]

/-- The reference's product before the scales, at an index. -/
theorem ref_dot (x0 : FVec Ideal S4x4096x1024 .f32) (x1 : FVec Ideal S4x6144 .f32) (x2 : FVec Ideal S1x1024x3072 .f32)
    (b : Fin 4) (s : Fin 4096) (l : Fin 3072) :
    Cert.InProjRefIdeal.Read.val_main_v14 (F := Ideal) x0 x1 x2 (ix3 b s l)
      = ∑ k : Fin 1024, (x0 (ix3 b s k) * (1 + x1 (ix2 b ⟨1024 + k.val, by omega⟩)) + x1 (ix2 b ⟨k.val, by omega⟩)) * x2 (ix3 0 k l) := by
  pointwise [Cert.InProjRefIdeal.Read.val_main_v14, Cert.InProjRefIdeal.Read.val_main_v13, Cert.InProjRefIdeal.Read.val_main_v12, Cert.InProjRefIdeal.Read.val_main_v11, Cert.InProjRefIdeal.Read.val_main_v10, Cert.InProjRefIdeal.Read.val_main_v9, Cert.InProjRefIdeal.Read.val_main_v8, Cert.InProjRefIdeal.Read.val_main_v7, Cert.InProjRefIdeal.Read.val_main_v2, Cert.InProjRefIdeal.Read.val_main_v1, Cert.InProjRefIdeal.Read.val_main_v0, Cert.InProjRefIdeal.Read.val_main_cst]

/-- The reference's result at an index: the product's element times its column's factor. -/
theorem ref_apply (x0 : FVec Ideal S4x4096x1024 .f32) (x1 : FVec Ideal S4x6144 .f32) (x2 : FVec Ideal S1x1024x3072 .f32)
    (b : Fin 4) (s : Fin 4096) (l : Fin 3072) :
    Cert.InProjRefIdeal.Read.val_main_v26 (F := Ideal) x0 x1 x2 (ix3 b s l) = Cert.InProjRefIdeal.Read.val_main_v14 (F := Ideal) x0 x1 x2 (ix3 b s l) * colScale l := by
  obtain ⟨e, he⟩ : ∃ e, e = colScale l := ⟨_, rfl⟩
  rw [← he]
  have hl := l.isLt
  have hj : ∀ j : Fin 3072, j.val = l.val → Cert.InProjRefIdeal.Read.val_main_v14 (F := Ideal) x0 x1 x2 (ix3 b s j) = Cert.InProjRefIdeal.Read.val_main_v14 (F := Ideal) x0 x1 x2 (ix3 b s l) :=
    fun j h => by rw [Fin.ext h]
  unfold colScale at he
  pointwise [Cert.InProjRefIdeal.Read.val_main_v26, Cert.InProjRefIdeal.Read.val_main_v25, Cert.InProjRefIdeal.Read.val_main_v24, Cert.InProjRefIdeal.Read.val_main_v23, Cert.InProjRefIdeal.Read.val_main_v22, Cert.InProjRefIdeal.Read.val_main_v21, Cert.InProjRefIdeal.Read.val_main_v20, Cert.InProjRefIdeal.Read.val_main_v19, Cert.InProjRefIdeal.Read.val_main_v18, Cert.InProjRefIdeal.Read.val_main_v17, Cert.InProjRefIdeal.Read.val_main_v16, Cert.InProjRefIdeal.Read.val_main_v15, Cert.InProjRefIdeal.Read.val_main_cst_0, Cert.InProjRefIdeal.Read.val_main_cst_1]
  by_cases h1 : l.val < 512
  · rw [if_pos h1] at he; subst he; exact dif_pos h1
  rw [if_neg h1] at he
  refine (dif_neg h1).trans ?_
  by_cases h2 : l.val - 512 < 512
  · rw [if_pos (by omega)] at he; subst he; exact (dif_pos h2).trans ((hj _ (by dsimp only; omega)).trans (mul_one _).symm)
  refine (dif_neg h2).trans ?_
  by_cases h3 : l.val - 512 - 512 < 512
  · rw [if_pos (by omega)] at he; subst he; exact (dif_pos h3).trans ((hj _ (by dsimp only; omega)).trans (mul_one _).symm)
  rw [if_neg (by omega)] at he
  refine (dif_neg h3).trans ?_
  by_cases h4 : l.val - 512 - 512 - 512 < 512
  · rw [if_pos (by omega)] at he; subst he; exact (dif_pos h4).trans (congrArg (· * _) (hj _ (by dsimp only; omega)))
  rw [if_neg (by omega)] at he
  subst he
  refine (dif_neg h4).trans ?_
  by_cases h5 : l.val - 512 - 512 - 512 - 512 < 512
  · exact (dif_pos h5).trans ((hj _ (by dsimp only; omega)).trans (mul_one _).symm)
  exact (dif_neg h5).trans ((hj _ (by dsimp only; omega)).trans (mul_one _).symm)

/-- The scaled weight's staged array as the host operations compose it. -/
theorem V_w (c : Dev nD) : (V m c main_v10 : FVec Ideal S1024x3072 .bf16)
    = truncf .bf16 (mulf (shapeCast S1024x3072 (m ((c : Thread nD τ).loc main_arg2) : FVec Ideal S1x1024x3072 .f32) shapeCasts_S1x1024x3072_S1024x3072)
        (broadcastInDim S1024x3072 ![0, 1] bcast_S1x3072_S1024x3072_0_1 (broadcastInDim S1x3072 ![1] bcast_S3072_S1x3072_1
          (concatenate S3072 0 [⟨S512, broadcastInDim S512 ![] bcast_S_S512 (constant (F := Ideal) S_ .f32 0x3E000000#32)⟩,
            ⟨S1024, broadcastInDim S1024 ![] bcast_S_S1024 (constant (F := Ideal) S_ .f32 0x3F800000#32)⟩,
            ⟨S512, broadcastInDim S512 ![] bcast_S_S512 (constant (F := Ideal) S_ .f32 0x3E38AA3B#32)⟩,
            ⟨S1024, broadcastInDim S1024 ![] bcast_S_S1024 (constant (F := Ideal) S_ .f32 0x3F800000#32)⟩]
            concatenates_S512_S1024_S512_S1024_S3072_d0)))) bitsLt_bf16_f32 := by
  unfold V hostOps0
  after_results <;> rfl

/-- The scaled weight at an index: the weight times its column's factor. -/
theorem w_apply (c : Dev nD) (k : Fin 1024) (l : Fin 3072) :
    (V m c main_v10 : FVec Ideal S1024x3072 .bf16) (ix2 k l)
      = HMul.hMul (α := EReal) (β := EReal) ((m ((c : Thread nD τ).loc main_arg2) : FVec Ideal S1x1024x3072 .f32) (ix3 0 k l)) (colScale l) := by
  rw [V_w]
  pointwise
  unfold colScale
  have hl := l.isLt
  split_ifs <;> first | omega | rfl

/-- The modulation's staged array at an index. -/
theorem mod_apply (c : Dev nD) (b : Fin 4) (j : Fin 6) (k : Fin 1024) :
    (V m c main_v5 : FVec Ideal S4x6x1024 .f32) (ix3 b j k)
      = (m ((c : Thread nD τ).loc main_arg1) : FVec Ideal S4x6144 .f32) (ix2 b ⟨j.val * 1024 + k.val, by omega⟩) := by
  unfold V hostOps0
  after_reads_at

/-- The grid point's batch row and its block of rows. -/
theorem idx0 : ∀ t : Fin cfg0.N, win0_0.index t 0 = t.val / 4 ∧ win0_0.index t 1 = t.val % 4 ∧ win0_0.index t 2 = 0 := by decide +kernel
theorem idx1 : ∀ t : Fin cfg0.N, win0_1.index t 0 = t.val / 4 ∧ win0_1.index t 1 = 0 ∧ win0_1.index t 2 = 0 := by decide +kernel
theorem idx2 : ∀ t : Fin cfg0.N, win0_2.index t 0 = 0 ∧ win0_2.index t 1 = 0 := by decide +kernel
theorem idx3 : ∀ t : Fin cfg0.N, win0_3.index t 0 = t.val / 4 ∧ win0_3.index t 1 = t.val % 4 ∧ win0_3.index t 2 = 0 := by decide +kernel

theorem lt_N (t : Fin cfg0.N) : t.val < 16 := by have := t.isLt; have h : cfg0.N = 16 := N_0; omega

/-- The input's block at a grid point, read in the whole input. -/
theorem blk0 (c : Dev nD) (t : Fin cfg0.N) (r : Fin 1024) (k : Fin 1024) :
    (iblk m c 0 t : FVec Ideal S1x1024x1024 .f32) (ix3 0 r k)
      = (m ((c : Thread nD τ).loc main_arg0) : FVec Ideal S4x4096x1024 .f32)
          (ix3 ⟨t.val / 4, by have := lt_N t; omega⟩ ⟨t.val % 4 * 1024 + r.val, by omega⟩ k) := by
  show V m c main_arg0 ((win0_0.rect t).emb (ix3 0 r k)) = _
  rw [V_main_arg0]
  congr 1
  funext a
  apply Fin.ext
  have e := idx0 t
  match a with
  | ⟨0, _⟩ => exact (win0_0.rect_emb_val t _ 0).trans (by rw [e.1]; show t.val / 4 * 1 + 0 = t.val / 4; omega)
  | ⟨1, _⟩ => exact (win0_0.rect_emb_val t _ 1).trans (by rw [e.2.1]; rfl)
  | ⟨2, _⟩ => exact (win0_0.rect_emb_val t _ 2).trans (by rw [e.2.2]; show 0 * 1024 + k.val = k.val; omega)

/-- The modulation's block at a grid point, read in the modulation argument. -/
theorem blk1 (c : Dev nD) (t : Fin cfg0.N) (j : Fin 6) (k : Fin 1024) :
    (iblk m c 1 t : FVec Ideal S1x6x1024 .f32) (ix3 0 j k)
      = (m ((c : Thread nD τ).loc main_arg1) : FVec Ideal S4x6144 .f32)
          (ix2 ⟨t.val / 4, by have := lt_N t; omega⟩ ⟨j.val * 1024 + k.val, by omega⟩) := by
  refine Eq.trans ?_ (mod_apply m c _ j k)
  show (V m c main_v5 : FVec Ideal S4x6x1024 .f32) ((win0_1.rect t).emb (ix3 0 j k)) = _
  congr 1
  funext a
  apply Fin.ext
  have e := idx1 t
  match a with
  | ⟨0, _⟩ => exact (win0_1.rect_emb_val t _ 0).trans (by rw [e.1]; show t.val / 4 * 1 + 0 = t.val / 4; omega)
  | ⟨1, _⟩ => exact (win0_1.rect_emb_val t _ 1).trans (by rw [e.2.1]; show 0 * 6 + j.val = j.val; omega)
  | ⟨2, _⟩ => exact (win0_1.rect_emb_val t _ 2).trans (by rw [e.2.2]; show 0 * 1024 + k.val = k.val; omega)

/-- The weight's block at every grid point is the whole scaled weight. -/
theorem blk2 (c : Dev nD) (t : Fin cfg0.N) (k : Fin 1024) (l : Fin 3072) :
    (iblk m c 2 t : FVec Ideal S1024x3072 .bf16) (ix2 k l)
      = HMul.hMul (α := EReal) (β := EReal) ((m ((c : Thread nD τ).loc main_arg2) : FVec Ideal S1x1024x3072 .f32) (ix3 0 k l)) (colScale l) := by
  refine Eq.trans ?_ (w_apply m c k l)
  show (V m c main_v10 : FVec Ideal S1024x3072 .bf16) ((win0_2.rect t).emb (ix2 k l)) = _
  congr 1
  funext a
  apply Fin.ext
  have e := idx2 t
  match a with
  | ⟨0, _⟩ => exact (win0_2.rect_emb_val t _ 0).trans (by rw [e.1]; show 0 * 1024 + k.val = k.val; omega)
  | ⟨1, _⟩ => exact (win0_2.rect_emb_val t _ 1).trans (by rw [e.2]; show 0 * 3072 + l.val = l.val; omega)

/-- The reference's result on the arguments of device `c`. -/
abbrev G (c : Dev nD) : FVec Ideal S4x4096x3072 .bf16 :=
  Cert.InProjRefIdeal.Read.val_main_v26 (F := Ideal) (m ((c : Thread nD τ).loc main_arg0)) (m ((c : Thread nD τ).loc main_arg1)) (m ((c : Thread nD τ).loc main_arg2))

/-- One element of what a grid point stores, as an element of the reference's result. -/
theorem out_apply (c : Dev nD) (t : Fin cfg0.N) (r : Fin 1024) (l : Fin 3072) :
    out0_3 (iblk m c 0 t) (iblk m c 1 t) (iblk m c 2 t) (ix3 0 r l : S1x1024x3072.Idx)
      = G m c (ix3 ⟨t.val / 4, by have := lt_N t; omega⟩ ⟨t.val % 4 * 1024 + r.val, by omega⟩ l) := by
  unfold out0_3
  rw [View.canon_unit_zero (by funext a; fin_cases a <;> rfl)]
  refine (pay_apply _ _ _ _ r l).trans ?_
  refine Eq.trans ?_ (ref_apply _ _ _ _ _ _).symm
  rw [ref_dot, sum_mul_fin _ _ (colScale_fin _)]
  refine Finset.sum_congr rfl fun k _ => ?_
  have h0 := ((by pointwise [r0_0] : View.ld (iblk m c 0 t) r0_0 (ix3 0 r k) = iblk m c 0 t (ix3 0 r k : S1x1024x1024.Idx))).trans (blk0 m c t r k)
  have h1 := ((by pointwise [r0_1] : View.ld (iblk m c 1 t) r0_1 (ix3 0 0 k) = iblk m c 1 t (ix3 0 1 k : S1x6x1024.Idx))).trans (blk1 m c t 1 k)
  have h2 := ((by pointwise [r0_2] : View.ld (iblk m c 1 t) r0_2 (ix3 0 0 k) = iblk m c 1 t (ix3 0 0 k : S1x6x1024.Idx))).trans (blk1 m c t 0 k)
  have h3 := ((by pointwise [r0_3] : View.ld (iblk m c 2 t) r0_3 (ix2 k l) = iblk m c 2 t (ix2 k l : S1024x3072.Idx))).trans (blk2 m c t k l)
  rw [h0, h1, h2, h3, mul_assoc]
  have e0 : ∀ h, (⟨(0 : Fin 6).val * 1024 + k.val, h⟩ : Fin 6144) = ⟨k.val, by omega⟩ := fun _ => Fin.ext (by show 0 * 1024 + k.val = k.val; omega)
  have e1 : ∀ h, (⟨(1 : Fin 6).val * 1024 + k.val, h⟩ : Fin 6144) = ⟨1024 + k.val, by omega⟩ := fun _ => Fin.ext (by show 1 * 1024 + k.val = 1024 + k.val; omega)
  rw [e0, e1]

/-- What a grid point writes back is its block of the reference's result. -/
theorem flushed_eq (c : Dev nD) (t : Fin cfg0.N) :
    (dats m 0 c).flushed 3 t = ((cfg0.win 3).blk t).view.read (Elt Ideal) (G m c) := by
  rw [Value.flushed3]
  funext y
  show out0_3 (iblk m c 0 t) (iblk m c 1 t) (iblk m c 2 t) (y : S1x1024x3072.Idx) = G m c ((win0_3.rect t).emb y)
  have hy : (y : S1x1024x3072.Idx) = ix3 0 ⟨(y 1).val, (y 1).isLt⟩ ⟨(y 2).val, (y 2).isLt⟩ := by
    funext a
    match a with
    | ⟨0, _⟩ => exact Fin.ext (by have : (y 0).val < 1 := (y 0).isLt; show (y 0).val = 0; omega)
    | ⟨1, _⟩ => rfl
    | ⟨2, _⟩ => rfl
  refine (congrArg _ hy).trans ((out_apply m c t _ _).trans (congrArg (G m c) ?_))
  funext a
  apply Fin.ext
  have e := idx3 t
  have h0 : (y 0).val = 0 := by have : (y 0).val < 1 := (y 0).isLt; omega
  match a with
  | ⟨0, _⟩ => exact ((win0_3.rect_emb_val t y 0).trans (by rw [e.1]; show t.val / 4 * 1 + (y 0).val = t.val / 4; omega)).symm
  | ⟨1, _⟩ => exact ((win0_3.rect_emb_val t y 1).trans (by rw [e.2.1]; rfl)).symm
  | ⟨2, _⟩ => exact ((win0_3.rect_emb_val t y 2).trans (by rw [e.2.2]; show 0 * 3072 + (y 2).val = (y 2).val; omega)).symm

/-- Every index of the result is in the block of the grid point of its batch row and its thousand rows. -/
theorem cover (i : S4x4096x3072.Idx) :
    ∃ t : Fin cfg0.N, (cfg0.win 3).flush t = true ∧ i ∈ ((cfg0.win 3).blk t).view.set := by
  have h0 : (i 0 : Nat) < 4 := (i 0).isLt
  have h1 : (i 1 : Nat) < 4096 := (i 1).isLt
  have h2 : (i 2 : Nat) < 3072 := (i 2).isLt
  have hN : cfg0.N = 16 := N_0
  refine ⟨⟨(i 0 : Nat) * 4 + (i 1 : Nat) / 1024, by omega⟩, flush0_3 _, ?_⟩
  generalize ht : (⟨(i 0 : Nat) * 4 + (i 1 : Nat) / 1024, _⟩ : Fin cfg0.N) = t
  have htv : t.val = (i 0 : Nat) * 4 + (i 1 : Nat) / 1024 := by rw [← ht]
  show i ∈ ((View.whole main_v11).slice (win0_3.rect t)).set
  rw [View.set_slice_whole, Rect.mem_set_unit]
  have e := idx3 t
  intro a
  match a with
  | ⟨0, _⟩ => show win0_3.index t 0 * 1 ≤ (i 0 : Nat) ∧ (i 0 : Nat) < win0_3.index t 0 * 1 + 1
              rw [e.1]; omega
  | ⟨1, _⟩ => show win0_3.index t 1 * 1024 ≤ (i 1 : Nat) ∧ (i 1 : Nat) < win0_3.index t 1 * 1024 + 1024
              rw [e.2.1]; omega
  | ⟨2, _⟩ => show win0_3.index t 2 * 3072 ≤ (i 2 : Nat) ∧ (i 2 : Nat) < win0_3.index t 2 * 3072 + 3072
              rw [e.2.2]; omega

/-- The result array ends at the reference's result. -/
theorem final (c : Dev nD) : (dats m 0 c).arrAt 3 cfg0.N = G m c :=
  (dats m 0 c).arrAt_eq_of_cover 3 (G m c) (fun t _ => flushed_eq m c t) cover

end Cert.InProjIdeal.Hand

namespace Cert.Proof.InProjClaims

/-- The run of the reference leaves its arguments and declares no counter. -/
theorem frame_ref : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

/-- At the extended reals the tiled projection's result is the reference's, from arguments that agree. -/
theorem algebraic : Cert.algebraic_InProjIdeal_InProjRefIdeal := by
  intro m ρ m' ρ' _ hagree
  refine ⟨fun c => Cert.InProjIdeal.Hand.G m c, ?_, ?_⟩
  · exact (θ_run Cert.InProjIdeal.defs _ _).mono
      (fun _ h c => ⟨(h c).1.trans (Cert.InProjIdeal.Hand.final m c), (h c).2⟩)
      (Cert.InProjIdeal.Value.run_blocks (F := Ideal) m ρ)
  · refine (θ_run Cert.InProjRefIdeal.defs _ _).mono (fun _ h c => ⟨(h c).1.trans ?_, (h c).2⟩)
      (Cert.InProjRefIdeal.Value.run (F := Ideal) m' ρ')
    refine (Cert.InProjRefIdeal.Read.val_main_v26_eq (F := Ideal) m' c).trans ?_
    unfold Cert.InProjIdeal.Hand.G
    rw [(hagree c).1, (hagree c).2.1, (hagree c).2.2]

end Cert.Proof.InProjClaims
end
-- ==== Proof.Rounds.lean ====
module

public import Idealize.ShloMosaic.Lib.SortPrefix
public import Idealize.ShloMosaic.Lib.Pointwise

@[expose] public section

noncomputable section

open Idealize.ShloMosaic

/-! Three rounds of "take the first greatest entry of sixteen, then overwrite it with −∞" find the same entries as the
first three positions of a stable descending sort, at every entry that is not −∞. -/

namespace Cert.Rounds

/-- The number an entry's position is, among the extended reals. -/
def num (x : Fin 16) : EReal := ((x.val : ℝ) : EReal)

/-- The round's arithmetic: `n` is the least position whose entry equals the greatest entry (sixteen standing for "no position"). -/
def Pick (g : Fin 16 → EReal) (n : Fin 16) : Prop :=
  num n = Finset.fold min ⊤ (fun x => if g x = Finset.fold max ⊥ g Finset.univ then num x else 16) Finset.univ

open Classical in
/-- One round: the picked entry becomes −∞. -/
def step (g : Fin 16 → EReal) (x : Fin 16) : EReal := if Pick g x then ⊥ else g x

/-- `p` comes before `q` in the descending stable order of the entries `g`. -/
def Bef (g : Fin 16 → EReal) (p q : Fin 16) : Bool :=
  decide (g q < g p) || (decide (g p = g q) && decide (p < q))

/-- `n` comes before every other position. -/
def Best (g : Fin 16 → EReal) (n : Fin 16) : Prop := ∀ p, p ≠ n → Bef g n p = true

/-- The descending order with ties broken by position is a strict total order. -/
theorem total (g : Fin 16 → EReal) : StrictTotalBefore (Bef g) := by
  have h := StrictTotalBefore.of_key_then_position (n := 16) (fun a b : EReal => decide (b < a)) g
    (fun a => by simp) (fun a b c => by simpa using fun h1 h2 => lt_trans h2 h1)
    (fun a b => by
      rcases lt_trichotomy a b with h | h | h
      · exact Or.inr (Or.inr (by simpa using h))
      · exact Or.inr (Or.inl h)
      · exact Or.inl (by simpa using h))
  convert h using 3
  unfold Bef
  congr
/-- At most one position is first. -/
theorem best_unique {g : Fin 16 → EReal} {a b : Fin 16} (ha : Best g a) (hb : Best g b) : a = b := by
  by_contra hne
  have h1 := ha b (Ne.symm hne)
  have h2 := hb a hne
  rw [(total g).asymm _ _ h1] at h2
  exact absurd h2 (by decide)

theorem num_le {a b : Fin 16} : num a ≤ num b ↔ a ≤ b := by
  unfold num
  rw [EReal.coe_le_coe_iff, Nat.cast_le, Fin.le_def]

theorem num_inj {a b : Fin 16} (h : num a = num b) : a = b :=
  le_antisymm (num_le.mp h.le) (num_le.mp h.ge)

theorem num_le_sixteen (a : Fin 16) : num a ≤ 16 := by
  have : (16 : EReal) = ((16 : ℝ) : EReal) := rfl
  rw [this]; unfold num
  rw [EReal.coe_le_coe_iff]
  exact_mod_cast a.isLt.le

/-- The entry of the first position is at least every entry. -/
theorem best_le {g : Fin 16 → EReal} {b : Fin 16} (hb : Best g b) (x : Fin 16) : g x ≤ g b := by
  by_cases e : x = b
  · rw [e]
  · have := hb x e
    simp only [Bef, Bool.or_eq_true, Bool.and_eq_true, decide_eq_true_eq] at this
    rcases this with h | ⟨h, _⟩
    · exact h.le
    · exact h.ge

/-- The round picks exactly the first position. -/
theorem pick_iff {g : Fin 16 → EReal} {b : Fin 16} (hb : Best g b) (n : Fin 16) : Pick g n ↔ n = b := by
  have hmax : Finset.fold max ⊥ g Finset.univ = g b := by
    refine le_antisymm ((Finset.fold_max_le _).mpr ⟨bot_le, fun x _ => best_le hb x⟩) ?_
    exact (Finset.le_fold_max _).mpr (Or.inr ⟨b, Finset.mem_univ _, le_rfl⟩)
  have hmin : Finset.fold min ⊤ (fun x => if g x = Finset.fold max ⊥ g Finset.univ then num x else 16) Finset.univ = num b := by
    rw [hmax]
    refine le_antisymm ((Finset.fold_min_le _).mpr (Or.inr ⟨b, Finset.mem_univ _, by rw [if_pos rfl]⟩)) ?_
    refine (Finset.le_fold_min _).mpr ⟨le_top, fun x _ => ?_⟩
    split_ifs with h
    · rw [num_le]
      by_cases e : x = b
      · rw [e]
      · have := hb x e
        simp only [Bef, Bool.or_eq_true, Bool.and_eq_true, decide_eq_true_eq] at this
        rcases this with h' | ⟨_, h'⟩
        · exact absurd h h'.ne
        · exact h'.le
    · exact num_le_sixteen b
  unfold Pick
  rw [hmin]
  exact ⟨num_inj, fun h => by rw [h]⟩

/-- The sort's positions, in the order with ties broken by position. -/
def src (g : Fin 16 → EReal) (i : Fin 16) : Fin 16 := sortedFrom (Bef g) i

theorem src_before (g : Fin 16 → EReal) {i j : Fin 16} (h : i < j) : Bef g (src g i) (src g j) = true := by
  have hn := sortedFrom_noInversion (Bef g) (Bef g) (fun a b h => (total g).asymm a b h) (fun _ _ h => h) (total g).negTrans i j h
  have hne : src g i ≠ src g j := fun e => absurd (sortedFrom_injective (Bef g) e) (ne_of_lt h)
  rcases (total g).total _ _ hne with h' | h'
  · exact h'
  · unfold src at h'; rw [hn] at h'; exact absurd h' (by decide)

theorem src_le (g : Fin 16 → EReal) {i j : Fin 16} (h : i ≤ j) : g (src g j) ≤ g (src g i) := by
  rcases h.eq_or_lt with e | h
  · rw [e]
  · have := src_before g h
    simp only [Bef, Bool.or_eq_true, Bool.and_eq_true, decide_eq_true_eq] at this
    rcases this with h | ⟨h, _⟩
    · exact h.le
    · exact h.ge

theorem src_surj (g : Fin 16 → EReal) (p : Fin 16) : ∃ i, src g i = p := sortedFrom_surjective (Bef g) p

theorem best_zero (g : Fin 16 → EReal) : Best g (src g 0) := by
  intro p hp
  obtain ⟨i, rfl⟩ := src_surj g p
  exact src_before g (lt_of_le_of_ne (Fin.zero_le i) fun e => hp (by rw [e]))

/-- Overwriting earlier positions with −∞ makes a later position that is not −∞ the first. -/
theorem best_of_rest (g g' : Fin 16 → EReal) (k : Fin 16) (hk : g (src g k) ≠ ⊥)
    (h1 : ∀ i, i < k → g' (src g i) = ⊥) (h2 : ∀ i, k ≤ i → g' (src g i) = g (src g i)) : Best g' (src g k) := by
  intro p hp
  obtain ⟨i, rfl⟩ := src_surj g p
  rcases lt_or_ge i k with h | h
  · simp only [Bef, Bool.or_eq_true, decide_eq_true_eq]
    left
    rw [h1 i h, h2 k le_rfl]
    exact bot_lt_iff_ne_bot.mpr hk
  · have hlt : k < i := lt_of_le_of_ne h fun e => hp (by rw [e])
    have := src_before g hlt
    simp only [Bef] at this ⊢
    rw [h2 i h, h2 k le_rfl]
    exact this

theorem step_of_best {g : Fin 16 → EReal} {b : Fin 16} (hb : Best g b) (x : Fin 16) : step g x = if x = b then ⊥ else g x := by
  unfold step
  by_cases e : x = b
  · rw [if_pos ((pick_iff hb x).mpr e), if_pos e]
  · rw [if_neg (fun h => e ((pick_iff hb x).mp h)), if_neg e]

theorem src_ne (g : Fin 16 → EReal) {i j : Fin 16} (h : i ≠ j) : src g i ≠ src g j :=
  fun e => h (sortedFrom_injective (Bef g) e)

/-- After every entry of a round's input is −∞ wherever it was not among the first ones, an entry that is not −∞ is among the first ones. -/
theorem index_lt (g : Fin 16 → EReal) (k : Fin 16) (hk : g (src g k) = ⊥) (n : Fin 16) (hn : g n ≠ ⊥) : ∃ i, i < k ∧ src g i = n := by
  obtain ⟨i, rfl⟩ := src_surj g n
  refine ⟨i, ?_, rfl⟩
  by_contra h
  exact hn (le_bot_iff.mp (hk ▸ src_le g (not_lt.mp h)))

/-- Three rounds pick, among the entries that are not −∞, exactly the first three of the stable descending order. -/
theorem three_src (g : Fin 16 → EReal) (n : Fin 16) (hn : g n ≠ ⊥) :
    (Pick g n ∨ Pick (step g) n ∨ Pick (step (step g)) n) ↔ (src g 0 = n ∨ src g 1 = n ∨ src g 2 = n) := by
  have b0 := best_zero g
  have s1 := step_of_best b0
  by_cases h1 : g (src g 1) = ⊥
  · obtain ⟨i, hi, rfl⟩ := index_lt g 1 h1 n hn
    have : i = 0 := by
      apply Fin.ext
      have := Fin.lt_def.mp hi
      simp at this ⊢
      omega
    subst this
    exact ⟨fun _ => Or.inl rfl, fun _ => Or.inl ((pick_iff b0 _).mpr rfl)⟩
  · have b1 : Best (step g) (src g 1) := by
      refine best_of_rest g (step g) 1 h1 (fun i hi => ?_) (fun i hi => ?_)
      · have : i = 0 := by
          apply Fin.ext
          have := Fin.lt_def.mp hi
          simp at this ⊢
          omega
        rw [this, s1, if_pos rfl]
      · rw [s1, if_neg (src_ne g (by rintro rfl; exact absurd hi (by decide)))]
    have s2 := step_of_best b1
    by_cases h2 : g (src g 2) = ⊥
    · obtain ⟨i, hi, rfl⟩ := index_lt g 2 h2 n hn
      have : i = 0 ∨ i = 1 := by
        have := Fin.lt_def.mp hi
        simp only [Fin.ext_iff]
        simp at this ⊢
        omega
      rcases this with rfl | rfl
      · exact ⟨fun _ => Or.inl rfl, fun _ => Or.inl ((pick_iff b0 _).mpr rfl)⟩
      · exact ⟨fun _ => Or.inr (Or.inl rfl), fun _ => Or.inr (Or.inl ((pick_iff b1 _).mpr rfl))⟩
    · have b2 : Best (step (step g)) (src g 2) := by
        refine best_of_rest g _ 2 h2 (fun i hi => ?_) (fun i hi => ?_)
        · have : i = 0 ∨ i = 1 := by
            have := Fin.lt_def.mp hi
            simp only [Fin.ext_iff]
            simp at this ⊢
            omega
          rcases this with rfl | rfl
          · rw [s2, if_neg (src_ne g (by decide)), s1, if_pos rfl]
          · rw [s2, if_pos rfl]
        · rw [s2, if_neg (src_ne g (by rintro rfl; exact absurd hi (by decide))), s1,
            if_neg (src_ne g (by rintro rfl; exact absurd hi (by decide)))]
      rw [pick_iff b0, pick_iff b1, pick_iff b2, eq_comm, eq_comm (a := n), eq_comm (a := n)]

/-- A stable sort of positions listed in increasing order breaks its ties by position. -/
theorem stable_ties (g : Fin 16 → EReal) (l : List (Fin 16)) (hl : l.Pairwise (· < ·)) :
    stableSort (fun k k' => decide (g k' < g k)) l = stableSort (Bef g) l := by
  induction l with
  | nil => rfl
  | cons a l ih =>
    rw [List.pairwise_cons] at hl
    unfold stableSort
    rw [ih hl.2]
    refine insertBefore_congr _ _ a _ fun b hb => ?_
    have hlt := hl.1 b ((perm_stableSort (Bef g) l).mem_iff.mp hb)
    simp [Bef, not_lt.mpr hlt.le]

theorem sorted_src (g : Fin 16 → EReal) (i : Fin 16) : sortedFrom (fun k k' => decide (g k' < g k)) i = src g i := by
  have h : sortPositions 16 (fun k k' => decide (g k' < g k)) = sortPositions 16 (Bef g) :=
    stable_ties g _ (List.pairwise_lt_finRange 16)
  unfold src sortedFrom
  simp only [h, List.get_eq_getElem, Fin.val_cast]

end Cert.Rounds
-- ==== Proof.GateCols.lean ====
module

public import proofs.«01_k».proof.Defs
public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.Value
public import Idealize.ShloMosaic.Lib.Pointwise
public import Idealize.ShloMosaic.Lib.StableHlo.ReadAt
public import Idealize.ShloMosaic.Lib.Quiescent
public import proofs.«01_k».proof.Proof.Rounds

@[expose] public section

set_option maxRecDepth 16384

noncomputable section

open Idealize.ShloMosaic Idealize.ShloMosaic.TcCoe Idealize.SL.Sem
open Idealize.ShloMosaic.Pipeline (Dat)

/-! The routing call: every query's row of sixteen block gates, three rounds of picking the greatest past block, the
mask written out as 0 and −∞; against the reference's stable top three. -/

namespace Cert.GateIdeal.Hand

open Cert.GateIdeal Cert.GateIdeal.Gen Cert.Rounds

/-- A word divided by 256 as the kernel rounds it down. -/
def ownWord (w : BitVec 32) : BitVec 32 :=
  Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector w 256#32) 0#32))
      (IntOp.subi (IntOp.divsi ArithUnit.vector w 256#32) 1#32)
      (IntOp.divsi ArithUnit.vector w 256#32)

theorem ownWord_eq : ∀ s : Fin 4096, ownWord (BitVec.ofNat 32 s.val) = BitVec.ofNat 32 (s.val / 256) := by decide +kernel

/-- A query's own block. -/
def own (s : Fin 4096) : Fin 16 := ⟨s.val / 256, by omega⟩

theorem pay4_apply (n : Fin 16) (s : Fin 4096) : k0_pay4 (ix2 n s) = BitVec.ofNat 32 (own s).val := by
  refine Eq.trans ?_ (ownWord_eq s)
  unfold ownWord
  pointwise [k0_pay4]

theorem slt_word : ∀ a b : Fin 16, IntOp.cmpi CmpIPredicate.slt (BitVec.ofNat 32 a.val) (BitVec.ofNat 32 b.val) = 1#1 ↔ a < b := by decide +kernel
theorem eq_word : ∀ a b : Fin 16, IntOp.cmpi CmpIPredicate.eq (BitVec.ofNat 32 a.val) (BitVec.ofNat 32 b.val) = 1#1 ↔ a = b := by decide +kernel
theorem lane_lt : ∀ a : Fin 128, IntOp.cmpi CmpIPredicate.slt (BitVec.ofNat 32 a.val) 64#32 = 1#1 ↔ a.val < 64 := by decide +kernel
theorem lane_ge : ∀ a : Fin 128, IntOp.cmpi CmpIPredicate.sge (BitVec.ofNat 32 a.val) 64#32 = 1#1 ↔ ¬ a.val < 64 := by decide +kernel

theorem ofBool_iff (P : Prop) [Decidable P] : BitVec.ofBool (decide P) = 1#1 ↔ P := by
  by_cases h : P <;> simp [h]

/-- A selection by a bit that says `P`. -/
theorem select_iff {α : Type} {c : BitVec 1} {P : Prop} [Decidable P] (h : c = 1#1 ↔ P) (a b : α) :
    Scalar.select c a b = if P then a else b := by
  unfold Scalar.select
  by_cases hp : P
  · rw [if_pos hp]; simp [h.mpr hp]
  · rw [if_neg hp]
    have : c ≠ 1#1 := fun e => hp (h.mp e)
    simp [this]

theorem pay5_apply (n : Fin 16) (s : Fin 4096) : k0_pay5 (ix2 n s) = 1#1 ↔ n < own s := by
  rw [← slt_word, ← pay4_apply n s]
  pointwise [k0_pay5]

theorem pay6_apply (n : Fin 16) (l : Fin 128) : k0_pay6 (ix2 n l) = 1#1 ↔ l.val < 64 := by
  rw [← lane_lt]
  pointwise [k0_pay6]

theorem num_word : ∀ n : Fin 16, (BitVec.ofNat 32 n.val).toInt = (n.val : Int) := by decide +kernel

theorem pay3_apply (n : Fin 16) (s : Fin 4096) : k0_pay3 (F := Ideal) (ix2 n s) = num n := by
  pointwise [k0_pay3]
  show ((((BitVec.ofNat 32 n.val).toInt : ℤ) : ℝ) : EReal) = num n
  rw [num_word]
  simp [num]

theorem bits_bot : Ideal.ofBits FTy.f32 4286578688#32 = ⊥ := by simp [Ideal.ofBits, Ideal.ieee]
theorem bits_top : Ideal.ofBits FTy.f32 2139095040#32 = ⊤ := by simp [Ideal.ofBits, Ideal.ieee]
theorem bits_sixteen : Ideal.ofBits FTy.f32 1098907648#32 = 16 := by
  have : (16 : EReal) = ((16 : ℝ) : EReal) := rfl
  rw [this]
  simp [Ideal.ofBits, Ideal.ieee, -EReal.coe_mul]; norm_num
theorem mask_bot : (Named.named (F := Ideal) κ "mask" 4048155338#32 : Ideal .f32) = ⊥ := rfl

theorem add_sum_zero (A B : EReal) (f : Fin 128 → EReal) (hA : A = B) (hf : ∀ l, f l = 0) : A + ∑ l, f l = B := by
  rw [Finset.sum_eq_zero fun l _ => hf l, add_zero, hA]

theorem step_eq (g : Fin 16 → EReal) (x : Fin 16) [Decidable (Pick g x)] : (if Pick g x then ⊥ else g x) = step g x := by
  unfold step
  congr

/-- The nested choices of a round's mask as one condition. -/
theorem choices (A B P0 P1 P2 : Prop) [Decidable A] [Decidable B] [Decidable P0] [Decidable P1] [Decidable P2]
    [Decidable (A ∨ (B ∧ (P0 ∨ P1 ∨ P2)))] :
    (if A then 0 else if B then (if P2 then 0 else if P1 then 0 else if P0 then 0 else ⊥) else ⊥ : EReal)
      = if A ∨ (B ∧ (P0 ∨ P1 ∨ P2)) then 0 else ⊥ := by
  by_cases hA : A <;> by_cases hB : B <;> by_cases h0 : P0 <;> by_cases h1 : P1 <;> by_cases h2 : P2 <;> simp [hA, hB, h0, h1, h2]

section head
variable (v1 : FVec Ideal S4096x128 .bf16) (v8 : FVec Ideal S16x128 .f32)

/-- A query's gate of a block with only the lanes in `P` of the block's mean kept, the blocks not yet past at −∞. -/
def score (P : Fin 128 → Prop) [DecidablePred P] (s : Fin 4096) (n : Fin 16) : EReal :=
  if n < own s then (∑ l, (if P l then v8 (ix2 n l) else 0) * v1 (ix2 s l)) else ⊥

theorem pay8_apply (hf : ∀ n l, v8 (ix2 n l) - v8 (ix2 n l) = 0) (n : Fin 16) (s : Fin 4096) :
    k0_pay8 (F := Ideal) v1 v8 k0_pay5 k0_pay6 (k0_pay7 (F := Ideal)) (ix2 n s) = score v1 v8 (fun l => l.val < 64) s n := by
  pointwise [k0_pay8, k0_pay7]
  rw [select_iff (pay5_apply n s), bits_bot]
  unfold score
  simp only [select_iff (pay6_apply n _)]
  congr 1
  refine add_sum_zero _ _ _ (Finset.sum_congr rfl fun l _ => ?_) fun l => ?_
  · split_ifs
    · rfl
    · exact (zero_mul (v1 (ix2 s l) : EReal)).symm
  split_ifs
  · rw [hf]; exact zero_mul _
  · show ((0 : EReal) - 0) * (v1 (ix2 s l) : EReal) = 0
    rw [sub_zero, zero_mul]

theorem pay15_apply (hf : ∀ n l, v8 (ix2 n l) - v8 (ix2 n l) = 0) (n : Fin 16) (s : Fin 4096) :
    k0_pay15 (F := Ideal) v1 v8 (iota .tc S16x128 32 [1] iota_S16x128_d1_w32) k0_pay5 (ix2 n s) = score v1 v8 (fun l => ¬ l.val < 64) s n := by
  pointwise [k0_pay15]
  rw [select_iff (pay5_apply n s), bits_bot]
  unfold score
  simp only [select_iff (lane_ge _)]
  congr 1
  refine add_sum_zero _ _ _ (Finset.sum_congr rfl fun l _ => ?_) fun l => ?_
  · split_ifs
    · exact (zero_mul (v1 (ix2 s l) : EReal)).symm
    · rfl
  · split_ifs
    · show ((0 : EReal) - 0) * (v1 (ix2 s l) : EReal) = 0
      rw [sub_zero, zero_mul]
    · rw [hf]; exact zero_mul _

end head

section rounds
variable (v1 : FVec Ideal S4096x128 .bf16) (v8 : FVec Ideal S16x128 .f32) (v39 : IVec S16x128 1) (v40 : FVec Ideal S16x128 .f32)

/-- The column of gates of a query in the first head of the pair. -/
def col (s : Fin 4096) (n : Fin 16) : EReal := k0_pay8 (F := Ideal) v1 v8 k0_pay5 v39 v40 (ix2 n s)

theorem pay9_apply (n : Fin 16) (s : Fin 4096) :
    k0_pay9 (F := Ideal) v1 v8 (k0_pay3 (F := Ideal)) k0_pay5 v39 v40 (ix2 n s) = 1#1 ↔ Pick (col v1 v8 v39 v40 s) n := by
  pointwise [k0_pay9]
  rw [bits_bot, bits_top, bits_sixteen]
  simp only [pay3_apply]
  exact ofBool_iff _

theorem pay10_apply (n : Fin 16) (s : Fin 4096) :
    k0_pay10 (F := Ideal) v1 v8 (k0_pay3 (F := Ideal)) k0_pay5 v39 v40 (ix2 n s) = step (col v1 v8 v39 v40 s) n := by
  classical
  pointwise [k0_pay10]
  rw [select_iff (pay9_apply v1 v8 v39 v40 n s), bits_bot]
  exact step_eq (col v1 v8 v39 v40 s) n

theorem pay11_apply (n : Fin 16) (s : Fin 4096) :
    k0_pay11 (F := Ideal) v1 v8 (k0_pay3 (F := Ideal)) k0_pay5 v39 v40 (ix2 n s) = 1#1 ↔ Pick (step (col v1 v8 v39 v40 s)) n := by
  pointwise [k0_pay11]
  rw [bits_bot, bits_top, bits_sixteen]
  simp only [pay3_apply, pay10_apply]
  exact ofBool_iff _

theorem pay12_apply (n : Fin 16) (s : Fin 4096) [Decidable (Pick (step (col v1 v8 v39 v40 s)) n)] [Decidable (Pick (col v1 v8 v39 v40 s) n)] :
    k0_pay12 (F := Ideal) v1 v8 (k0_pay3 (F := Ideal)) k0_pay5 v39 v40 (ix2 n s)
      = if Pick (step (col v1 v8 v39 v40 s)) n then 0 else if Pick (col v1 v8 v39 v40 s) n then 0 else ⊥ := by
  pointwise [k0_pay12]
  rw [select_iff (pay11_apply v1 v8 v39 v40 n s), select_iff (pay9_apply v1 v8 v39 v40 n s), mask_bot]

theorem pay13_apply (n : Fin 16) (s : Fin 4096) :
    k0_pay13 (F := Ideal) v1 v8 (k0_pay3 (F := Ideal)) k0_pay5 v39 v40 (ix2 n s) = 1#1
      ↔ step (step (col v1 v8 v39 v40 s)) n = Finset.fold max ⊥ (step (step (col v1 v8 v39 v40 s))) Finset.univ := by
  classical
  have h : ∀ x, Scalar.select (k0_pay11 (F := Ideal) v1 v8 (k0_pay3 (F := Ideal)) k0_pay5 v39 v40 (ix2 x s)) ⊥
      (step (col v1 v8 v39 v40 s) x) = step (step (col v1 v8 v39 v40 s)) x := fun x => by
    rw [select_iff (pay11_apply v1 v8 v39 v40 x s), step_eq]
  pointwise [k0_pay13]
  rw [bits_bot]
  simp only [pay10_apply, h]
  exact ofBool_iff _

/-- What a query's column of the mask holds: 0 at its own block and at the past blocks the three rounds picked. -/
def maskOf (g : Fin 16 → EReal) (o n : Fin 16) : EReal :=
  open Classical in
  if n = o ∨ (n < o ∧ (Pick g n ∨ Pick (step g) n ∨ Pick (step (step g)) n)) then 0 else ⊥

theorem pay14_apply (n : Fin 16) (s : Fin 4096) :
    k0_pay14 (F := Ideal) (iota .tc S16x4096 32 [0] iota_S16x4096_d0_w32) (k0_pay3 (F := Ideal)) k0_pay4 k0_pay5
        (k0_pay12 (F := Ideal) v1 v8 (k0_pay3 (F := Ideal)) k0_pay5 v39 v40)
        (k0_pay13 (F := Ideal) v1 v8 (k0_pay3 (F := Ideal)) k0_pay5 v39 v40) (Scalar.ofBits .f32 0x41800000#32) (ix5 0 0 0 n s)
      = maskOf (col v1 v8 v39 v40 s) (own s) n := by
  classical
  pointwise [k0_pay14]
  rw [pay4_apply, select_iff (eq_word n (own s)), select_iff (pay5_apply n s), mask_bot, bits_top, bits_sixteen]
  simp only [pay3_apply, pay12_apply, select_iff (pay13_apply v1 v8 v39 v40 _ s)]
  have hP : (num n = Finset.fold min ⊤ (fun x => if step (step (col v1 v8 v39 v40 s)) x = Finset.fold max ⊥ (step (step (col v1 v8 v39 v40 s))) Finset.univ then num x else 16) Finset.univ) ↔ Pick (step (step (col v1 v8 v39 v40 s))) n := Iff.rfl
  simp only [hP]
  unfold maskOf
  exact choices _ _ _ _ _

end rounds

section second
variable (v10 : IVec S16x4096 32)  (v116 : FVec Ideal S16x4096 .f32) (v127 : IVec S16x4096 1)

theorem pay17_apply (v1 : FVec Ideal S4096x128 .bf16) (v8 : FVec Ideal S16x128 .f32) (v9 : IVec S16x128 32) (n : Fin 16) (s : Fin 4096) :
    k0_pay17 (F := Ideal) v1 v8 v9 (k0_pay3 (F := Ideal)) k0_pay5 (ix2 n s) = 1#1
      ↔ Pick (fun x => k0_pay15 (F := Ideal) v1 v8 v9 k0_pay5 (ix2 x s)) n := by
  pointwise [k0_pay17]
  rw [bits_bot, bits_top, bits_sixteen]
  simp only [pay3_apply]
  exact ofBool_iff _

theorem pay18_apply (g : Fin 16 → EReal) (n : Fin 16) (s : Fin 4096) (hg : ∀ x, v116 (ix2 x s) = g x) (h : ∀ x, v127 (ix2 x s) = 1#1 ↔ Pick g x) :
    k0_pay18 (F := Ideal) (iota .tc S16x4096 32 [0] iota_S16x4096_d0_w32) (k0_pay3 (F := Ideal)) k0_pay4 k0_pay5
        v116 (k0_pay16 (F := Ideal)) v127 (ix5 0 0 0 n s)
      = maskOf g (own s) n := by
  classical
  have h1 : ∀ x, Scalar.select (v127 (ix2 x s)) ⊥ (g x) = step g x := fun x => by
    rw [select_iff (h x), step_eq]
  have h2 : ∀ f n, (num n = Finset.fold min ⊤ (fun x => if f x = Finset.fold max ⊥ f Finset.univ then num x else 16) Finset.univ) ↔ Pick f n :=
    fun _ _ => Iff.rfl
  have h3 : ∀ x, (if Pick (step g) x then ⊥ else step g x) = step (step g) x := fun x => step_eq (step g) x
  pointwise [k0_pay18, k0_pay16]
  rw [pay4_apply, select_iff (eq_word n (own s)), select_iff (pay5_apply n s), mask_bot, bits_top, bits_sixteen, bits_bot]
  simp only [pay3_apply, hg, h1, h2, h3, select_iff (h n)]
  unfold maskOf
  exact choices _ _ _ _ _

end second
end Cert.GateIdeal.Hand
-- ==== Proof.GateRefs.lean ====
module

public import proofs.«01_k».proof.Defs
public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.Value
public import Idealize.ShloMosaic.Lib.Pointwise
public import Idealize.ShloMosaic.Lib.StableHlo.ReadAt
public import Idealize.ShloMosaic.Lib.Quiescent
public import proofs.«01_k».proof.Proof.Rounds

@[expose] public section

set_option maxRecDepth 16384

noncomputable section

open Idealize.ShloMosaic Idealize.ShloMosaic.TcCoe Idealize.SL.Sem
open Idealize.ShloMosaic.Pipeline (Dat)

/-! The routing reference read at an index: the gate of a block, the past blocks' mask, and the stable top three. -/

namespace Cert.GateRefIdeal.Hand

open Cert.GateRefIdeal Cert.GateRefIdeal.Read Cert.Rounds

variable (x0 : FVec Ideal S4x4096x3072 .bf16)

/-- The mean key of a block, at one lane of a head. -/
def kmean (b : Fin 4) (h : Fin 8) (n : Fin 16) (d : Fin 64) : EReal :=
  Ideal.div (∑ j : Fin 256, x0 (ix3 b ⟨n.val * 256 + j.val, by omega⟩ ⟨2048 + (h.val * 64 + d.val), by omega⟩)) (Ideal.ofBits FTy.f32 1132462080#32)

/-- A query's gates: its product with each past block's mean key, and −∞ elsewhere. -/
def gates (b : Fin 4) (h : Fin 8) (s : Fin 4096) (n : Fin 16) : EReal :=
  if n.val < s.val / 256 then ∑ d : Fin 64, x0 (ix3 b s ⟨1536 + (h.val * 64 + d.val), by omega⟩) * kmean x0 b h n d else ⊥

/-- A word divided by 256 as the reference rounds it down. -/
def ownWord (w : BitVec 32) : BitVec 32 :=
  Scalar.select
      (IntOp.andi
        (IntOp.cmpi (w := 32) CmpIPredicate.ne
          (if w = 0 then 0 else if w.msb = true then -1 else 1)
          (if (256#32) = 0 then 0
          else if BitVec.msb 256#32 = true then -1 else 1))
        (IntOp.cmpi CmpIPredicate.ne (IntOp.remsi ArithUnit.host w 256#32)
          0#32))
      (IntOp.subi (IntOp.divsi ArithUnit.host w 256#32) 1#32)
      (IntOp.divsi ArithUnit.host w 256#32)

theorem ownWord_eq : ∀ s : Fin 4096, ownWord (BitVec.ofNat 32 s.val) = BitVec.ofNat 32 (s.val / 256) := by decide +kernel

theorem v13_apply (s : Fin 4096) : val_main_v13 (F := Ideal) (ix1 s) = BitVec.ofNat 32 (s.val / 256) := by
  refine Eq.trans ?_ (ownWord_eq s)
  unfold ownWord
  pointwise [val_main_v13, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c, val_main_v12]
  rfl

theorem slt_word : ∀ a b : Fin 16, IntOp.cmpi CmpIPredicate.slt (BitVec.ofNat 32 a.val) (BitVec.ofNat 32 b.val) = 1#1 ↔ a < b := by decide +kernel
theorem eq_word : ∀ a b : Fin 16, IntOp.cmpi CmpIPredicate.eq (BitVec.ofNat 32 a.val) (BitVec.ofNat 32 b.val) = 1#1 ↔ a = b := by decide +kernel

theorem select_iff {α : Type} {c : BitVec 1} {P : Prop} [Decidable P] (h : c = 1#1 ↔ P) (a b : α) :
    Scalar.select c a b = if P then a else b := by
  unfold Scalar.select
  by_cases hp : P
  · rw [if_pos hp]; simp [h.mpr hp]
  · rw [if_neg hp]
    have : c ≠ 1#1 := fun e => hp (h.mp e)
    simp [this]

/-- A query's own block. -/
def own (s : Fin 4096) : Fin 16 := ⟨s.val / 256, by omega⟩

theorem v20_apply (s : Fin 4096) (n : Fin 16) : val_main_v20 (F := Ideal) (ix2 s n) = 1#1 ↔ n.val < s.val / 256 := by
  refine Iff.trans ?_ (slt_word n (own s))
  pointwise [val_main_v20, val_main_v19, val_main_v18, val_main_v17, val_main_v16, val_main_v15]
  rw [v13_apply]
  exact Iff.rfl

theorem v40_apply (s : Fin 4096) (n : Fin 16) : val_main_v40 (F := Ideal) (ix2 s n) = 1#1 ↔ n = own s := by
  refine Iff.trans ?_ (eq_word n (own s))
  pointwise [val_main_v40, val_main_v39, val_main_v38, val_main_v37, val_main_v36, val_main_v26]
  rw [v13_apply]
  exact Iff.rfl

theorem v21_apply (b : Fin 4) (h : Fin 8) (s : Fin 4096) (n : Fin 16) : val_main_v21 (F := Ideal) x0 (ix4 b h s n) = gates x0 b h s n := by
  unfold gates kmean
  pointwise [val_main_v21, val_main_call1_v1, val_main_call1_v2, val_main_call1_v0, val_main_v14, val_main_v11, val_main_v10, val_main_v9, val_main_v8, val_main_v7, val_main_v6, val_main_v5, val_main_v4, val_main_v3, val_main_v2, val_main_v1, val_main_v0, val_main_cst, val_main_cst_0, val_main_cst_1]
  rw [select_iff (v20_apply s n)]
  have e : (id (constant (F := Ideal) S_ FTy.f32 4286578688#32) ix0 : EReal) = ⊥ := by
    show Ideal.ofBits FTy.f32 4286578688#32 = ⊥
    simp [Ideal.ofBits, Ideal.ieee]
  rw [e]

theorem indices_apply (b : Fin 4) (h : Fin 8) (s : Fin 4096) (r : Fin 3) :
    val_main_indices (F := Ideal) x0 (ix4 b h s r) = BitVec.ofNat 32 (src (gates x0 b h s) ⟨r.val, by omega⟩).val := by
  rw [← sorted_src]
  unfold val_main_indices Host.topK
  dsimp only
  have hk : ∀ k, val_main_v21 (F := Ideal) x0 (ix4 b h s k) = gates x0 b h s k := fun k => v21_apply x0 b h s k
  pointwise
  have ha : ∀ (k : Fin 16) (q : Fin 16), Shape.Idx.along (s := S4x8x4096x16) (ix4 b h s q) 3 k = ix4 b h s k := fun k q => by
    funext a
    match a with
    | ⟨0, _⟩ => exact Function.update_of_ne (Fin.ne_of_val_ne (by show 0 ≠ 3; decide)) _ _
    | ⟨1, _⟩ => exact Function.update_of_ne (Fin.ne_of_val_ne (by show 1 ≠ 3; decide)) _ _
    | ⟨2, _⟩ => exact Function.update_of_ne (Fin.ne_of_val_ne (by show 2 ≠ 3; decide)) _ _
    | ⟨3, _⟩ => exact Function.update_self _ _ _
  have hb : (fun k k' : Fin 16 => FloatOps.cmpfTotal (F := Ideal) (φ := .f32) CmpDirection.gt
        (val_main_v21 (F := Ideal) x0 (Shape.Idx.along (s := S4x8x4096x16) (ix4 b h s (⟨r.val, by omega⟩ : Fin 16)) 3 k))
        (val_main_v21 (F := Ideal) x0 (Shape.Idx.along (s := S4x8x4096x16) (ix4 b h s (⟨r.val, by omega⟩ : Fin 16)) 3 k')) == 1#1)
      = fun k k' => decide (gates x0 b h s k' < gates x0 b h s k) := by
    funext k k'
    rw [ha, ha, hk, hk]
    show (BitVec.ofBool (decide (gates x0 b h s k > gates x0 b h s k')) == 1#1) = _
    by_cases hlt : gates x0 b h s k' < gates x0 b h s k
    · simp [hlt]
    · simp [hlt]
  unfold Host.sort2
  rw [dif_pos (by decide)]
  dsimp only
  refine congrArg (fun z : Fin 16 => BitVec.ofNat 32 z.val) ?_
  refine (Function.update_self _ _ _).trans ?_
  exact congrArg (fun B : Fin 16 → Fin 16 → Bool => sortedFrom B (⟨r.val, by omega⟩ : Fin 16)) hb

theorem v34_apply (b : Fin 4) (h : Fin 8) (s : Fin 4096) (r : Fin 3) (n : Fin 16) :
    val_main_v34 (F := Ideal) x0 (ix5 b h s r n) = 1#1 ↔ src (gates x0 b h s) ⟨r.val, by omega⟩ = n ∧ n < own s := by
  pointwise [val_main_v34, val_main_v33, val_main_v32, val_main_v31, val_main_v30, val_main_v29, val_main_v28, val_main_v27, val_main_v26, val_main_v25, val_main_v24, val_main_v23, val_main_v22]
  rw [indices_apply, v13_apply]
  have h1 := eq_word (src (gates x0 b h s) ⟨r.val, by omega⟩) n
  have h2 := slt_word (src (gates x0 b h s) ⟨r.val, by omega⟩) (own s)
  have hand : ∀ a b : BitVec 1, IntOp.andi a b = 1#1 ↔ a = 1#1 ∧ b = 1#1 := by decide
  rw [hand]
  refine (and_congr h1 h2).trans ?_
  constructor
  · rintro ⟨rfl, h⟩; exact ⟨rfl, h⟩
  · rintro ⟨rfl, h⟩; exact ⟨rfl, h⟩

theorem v35_apply (b : Fin 4) (h : Fin 8) (s : Fin 4096) (n : Fin 16) :
    val_main_v35 (F := Ideal) x0 (ix4 b h s n) = 1#1
      ↔ n < own s ∧ (src (gates x0 b h s) 0 = n ∨ src (gates x0 b h s) 1 = n ∨ src (gates x0 b h s) 2 = n) := by
  pointwise [val_main_v35]
  have h0 : val_main_c_2 (F := Ideal) (Shape.Idx.first Gen.h_S_) = 0#1 := rfl
  rw [h0]
  have hor : ∀ a b : BitVec 1, IntOp.ori a b = 1#1 ↔ a = 1#1 ∨ b = 1#1 := by decide
  have hf : ∀ p : Fin 3 → BitVec 1, Finset.fold IntOp.ori 0#1 p Finset.univ = IntOp.ori (p 0) (IntOp.ori (p 1) (IntOp.ori (p 2) 0#1)) := fun p => rfl
  rw [hf, hor, hor, hor, v34_apply, v34_apply, v34_apply]
  constructor
  · rintro (⟨h1, h2⟩ | ⟨h1, h2⟩ | ⟨h1, h2⟩ | h)
    · exact ⟨h2, Or.inl h1⟩
    · exact ⟨h2, Or.inr (Or.inl h1)⟩
    · exact ⟨h2, Or.inr (Or.inr h1)⟩
    · exact absurd h (by decide)
  · rintro ⟨h2, h1 | h1 | h1⟩
    · exact Or.inl ⟨h1, h2⟩
    · exact Or.inr (Or.inl ⟨h1, h2⟩)
    · exact Or.inr (Or.inr (Or.inl ⟨h1, h2⟩))

open Classical in
/-- The reference's mask at an index: 0 at a query's own block and at the past blocks among its three greatest gates. -/
theorem v46_apply (b hp : Fin 4) (h : Fin 2) (n : Fin 16) (s : Fin 4096) :
    val_main_v46 (F := Ideal) x0 (ix5 b hp h n s)
      = if n = own s ∨ (n < own s ∧ (src (gates x0 b ⟨hp.val * 2 + h.val, by omega⟩ s) 0 = n ∨ src (gates x0 b ⟨hp.val * 2 + h.val, by omega⟩ s) 1 = n
          ∨ src (gates x0 b ⟨hp.val * 2 + h.val, by omega⟩ s) 2 = n)) then 0 else (⊥ : EReal) := by
  have hor : ∀ a b : BitVec 1, IntOp.ori a b = 1#1 ↔ a = 1#1 ∨ b = 1#1 := by decide
  have h42 : val_main_v42 (F := Ideal) (ix4 b (⟨hp.val * 2 + h.val, by omega⟩ : Fin 8) s n) = 1#1 ↔ n = own s := by
    rw [← v40_apply]
    pointwise [val_main_v42, val_main_v41]
  have hc : IntOp.ori (val_main_v35 (F := Ideal) x0 (ix4 b (⟨hp.val * 2 + h.val, by omega⟩ : Fin 8) s n))
      (val_main_v42 (F := Ideal) (ix4 b (⟨hp.val * 2 + h.val, by omega⟩ : Fin 8) s n)) = 1#1 ↔ _ :=
    (hor _ _).trans ((or_comm).trans (or_congr h42 (v35_apply x0 b ⟨hp.val * 2 + h.val, by omega⟩ s n)))
  pointwise [val_main_v46, val_main_v45, val_main_v44, val_main_v43]
  rw [select_iff hc]
  congr 1
  pointwise [val_main_call2_v0, val_main_cst_3]

end Cert.GateRefIdeal.Hand
-- ==== Proof.Gate.lean ====
module

public import proofs.«01_k».proof.Defs
public import proofs.«01_k».proof.Proof.Gen.GateIdeal.Value
public import proofs.«01_k».proof.Proof.Gen.GateRefIdeal.Run
public import proofs.«01_k».proof.Proof.Gen.GateRefIdeal.Read
public import Idealize.ShloMosaic.Lib.Pipeline.Value
public import Idealize.ShloMosaic.Lib.Pointwise
public import Idealize.ShloMosaic.Lib.StableHlo.ReadAt
public import Idealize.ShloMosaic.Lib.Quiescent
public import proofs.«01_k».proof.Proof.GateCols
public import proofs.«01_k».proof.Proof.GateRefs

@[expose] public section

set_option maxRecDepth 16384

noncomputable section

open Idealize.ShloMosaic Idealize.ShloMosaic.TcCoe Idealize.SL.Sem
open Idealize.ShloMosaic.Pipeline (Dat)

/-! The routing call against its reference: the blocks a grid point reads and writes, and the claims. -/

namespace Cert.GateIdeal.Hand

open Cert.GateIdeal Cert.GateIdeal.Gen Cert.Rounds

/-- A number that is neither infinity. -/
def Fin' (x : EReal) : Prop := ∃ r : ℝ, x = (r : EReal)

theorem fin_mul {x y : EReal} (hx : Fin' x) (hy : Fin' y) : Fin' (x * y) := by
  obtain ⟨a, rfl⟩ := hx
  obtain ⟨b, rfl⟩ := hy
  exact ⟨a * b, (EReal.coe_mul a b).symm⟩

theorem fin_sum {ι : Type} (s : Finset ι) (f : ι → EReal) (h : ∀ i, Fin' (f i)) : Fin' (∑ i ∈ s, f i) := by
  classical
  refine Finset.induction_on s ⟨0, by simp⟩ fun a s ha ih => ?_
  obtain ⟨x, hx⟩ := h a
  obtain ⟨y, hy⟩ := ih
  rw [Finset.sum_insert ha, hx, hy]
  exact ⟨x + y, (EReal.coe_add x y).symm⟩

theorem bits_256 : Ideal.ofBits FTy.f32 1132462080#32 = ((256 : ℝ) : EReal) := by
  simp [Ideal.ofBits, Ideal.ieee, -EReal.coe_mul]; norm_num

theorem fin_mean {x : EReal} (hx : Fin' x) : Fin' (Ideal.div x (Ideal.ofBits FTy.f32 1132462080#32)) := by
  rw [bits_256, Ideal.div_coe (by norm_num)]
  exact fin_mul hx ⟨_, rfl⟩

theorem fin_sub_self {x : EReal} (hx : Fin' x) : x - x = 0 := by
  obtain ⟨a, rfl⟩ := hx
  rw [← EReal.coe_sub, sub_self, EReal.coe_zero]

theorem fin_ne_bot {x : EReal} (hx : Fin' x) : x ≠ ⊥ := by
  obtain ⟨a, rfl⟩ := hx
  exact EReal.coe_ne_bot a

/-- A sum over the lanes of a pair of heads of which only the first head's count. -/
theorem sum_first (a q : Fin 128 → EReal) :
    ∑ l : Fin 128, (if l.val < 64 then a l else 0) * q l = ∑ d : Fin 64, a ⟨d.val, by omega⟩ * q ⟨d.val, by omega⟩ := by
  rw [Fin.sum_univ_add (a := 64) (b := 64) (fun l : Fin 128 => (if l.val < 64 then a l else 0) * q l)]
  refine (congrArg₂ (fun x y : EReal => x + y) (Finset.sum_congr rfl fun d _ => ?_) (Finset.sum_eq_zero fun d _ => ?_)).trans (add_zero _)
  · rw [if_pos (show (Fin.castAdd 64 d).val < 64 from d.isLt)]; rfl
  · rw [if_neg (show ¬ (Fin.natAdd 64 d).val < 64 by simp), zero_mul]

/-- A sum over the lanes of a pair of heads of which only the second head's count. -/
theorem sum_second (a q : Fin 128 → EReal) :
    ∑ l : Fin 128, (if ¬ l.val < 64 then a l else 0) * q l = ∑ d : Fin 64, a ⟨64 + d.val, by omega⟩ * q ⟨64 + d.val, by omega⟩ := by
  rw [Fin.sum_univ_add (a := 64) (b := 64) (fun l : Fin 128 => (if ¬ l.val < 64 then a l else 0) * q l)]
  refine (congrArg₂ (fun x y : EReal => x + y) (Finset.sum_eq_zero fun d _ => ?_) (Finset.sum_congr rfl fun d _ => ?_)).trans (zero_add _)
  · rw [if_neg (not_not.mpr (show (Fin.castAdd 64 d).val < 64 from d.isLt)), zero_mul]
  · rw [if_pos (show ¬ (Fin.natAdd 64 d).val < 64 by simp)]; rfl

theorem pay1_apply (x0 : Vec Ideal S1x4096x128 .bf16) (s : Fin 4096) (l : Fin 128) :
    k0_pay1 (F := Ideal) (View.ld x0 r0_0) (ix2 s l) = x0 (ix3 0 s l) := by
  pointwise [k0_pay1, r0_0]

theorem pay2_apply (x1 : Vec Ideal S1x4096x128 .bf16) (n : Fin 16) (l : Fin 128) :
    k0_pay2 (F := Ideal) (View.ld x1 r0_0) (ix2 n l)
      = Ideal.div (∑ j : Fin 256, x1 (ix3 0 ⟨n.val * 256 + j.val, by omega⟩ l)) (Ideal.ofBits FTy.f32 1132462080#32) := by
  pointwise [k0_pay2, r0_0]

/-- What a grid point stores for the first head of its pair. -/
theorem out_first (x0 x1 : Vec Ideal S1x4096x128 .bf16) (n : Fin 16) (s : Fin 4096) :
    out0_2 x0 x1 (ix5 0 0 0 n s : S1x1x2x16x4096.Idx)
      = maskOf (col (k0_pay1 (F := Ideal) (View.ld x0 r0_0)) (k0_pay2 (F := Ideal) (View.ld x1 r0_0)) k0_pay6 (k0_pay7 (F := Ideal)) s) (own s) n := by
  unfold_out out0_2
  have hi : (ix5 0 0 0 n s : S1x1x2x16x4096.Idx) = r0_1.emb (ix5 0 0 0 n s : S1x1x1x16x4096.Idx) := by
    funext a
    apply Fin.ext
    fin_cases a <;> simp [r0_1, Rect.emb, Rect.unit] <;> rfl
  rw [View.canon_cons_of_not_mem _ _ (by
    rw [Rect.mem_set_unit]
    intro h
    exact absurd (h 2).1 (by show ¬ (1 ≤ 0); omega)), hi, View.canon_cons_emb]
  exact pay14_apply _ _ _ _ n s

theorem out_second (x0 x1 : Vec Ideal S1x4096x128 .bf16) (n : Fin 16) (s : Fin 4096) :
    out0_2 x0 x1 (ix5 0 0 1 n s : S1x1x2x16x4096.Idx)
      = maskOf (fun x => k0_pay15 (F := Ideal) (k0_pay1 (F := Ideal) (View.ld x0 r0_0)) (k0_pay2 (F := Ideal) (View.ld x1 r0_0))
          (iota .tc S16x128 32 [1] iota_S16x128_d1_w32) k0_pay5 (ix2 x s)) (own s) n := by
  unfold_out out0_2
  have hi : (ix5 0 0 1 n s : S1x1x2x16x4096.Idx) = r0_2.emb (ix5 0 0 0 n s : S1x1x1x16x4096.Idx) := by
    funext a
    apply Fin.ext
    fin_cases a <;> simp [r0_2, Rect.emb, Rect.unit] <;> rfl
  rw [hi, View.canon_cons_emb]
  exact pay18_apply _ _ _ n s (fun _ => rfl) (fun x => pay17_apply _ _ _ x s)

variable (m : (ℓ : Loc nD τ sig) → Buf (Elt Ideal) ℓ) (ρ : Dev nD → PrngReg)

/-- The grid point's batch row and its pair of heads. -/
theorem idx0 : ∀ t : Fin cfg0.N, win0_0.index t 0 = t.val / 4 ∧ win0_0.index t 1 = 0 ∧ win0_0.index t 2 = 12 + t.val % 4 := by decide +kernel
theorem idx1 : ∀ t : Fin cfg0.N, win0_1.index t 0 = t.val / 4 ∧ win0_1.index t 1 = 0 ∧ win0_1.index t 2 = 16 + t.val % 4 := by decide +kernel
theorem idx2 : ∀ t : Fin cfg0.N, win0_2.index t 0 = t.val / 4 ∧ win0_2.index t 1 = t.val % 4 ∧ win0_2.index t 2 = 0 ∧ win0_2.index t 3 = 0 ∧ win0_2.index t 4 = 0 := by decide +kernel

theorem lt_N (t : Fin cfg0.N) : t.val < 16 := by have := t.isLt; have h : cfg0.N = 16 := N_0; omega

/-- The projected rows on device `c`. -/
abbrev X (c : Dev nD) : FVec Ideal S4x4096x3072 .bf16 := m ((c : Thread nD τ).loc main_arg0)

/-- A grid point's block of queries, read in the projected rows. -/
theorem blk0 (c : Dev nD) (t : Fin cfg0.N) (s : Fin 4096) (l : Fin 128) :
    (iblk m c 0 t : FVec Ideal S1x4096x128 .bf16) (ix3 0 s l)
      = X m c (ix3 ⟨t.val / 4, by have := lt_N t; omega⟩ s ⟨1536 + (t.val % 4 * 128 + l.val), by omega⟩) := by
  show V m c main_arg0 ((win0_0.rect t).emb (ix3 0 s l)) = _
  rw [V_main_arg0]
  congr 1
  funext a
  apply Fin.ext
  have e := idx0 t
  match a with
  | ⟨0, _⟩ => exact (win0_0.rect_emb_val t _ 0).trans (by rw [e.1]; show t.val / 4 * 1 + 0 = t.val / 4; omega)
  | ⟨1, _⟩ => exact (win0_0.rect_emb_val t _ 1).trans (by rw [e.2.1]; show 0 * 4096 + s.val = s.val; omega)
  | ⟨2, _⟩ => exact (win0_0.rect_emb_val t _ 2).trans (by rw [e.2.2]; show (12 + t.val % 4) * 128 + l.val = 1536 + (t.val % 4 * 128 + l.val); omega)

/-- A grid point's block of keys, read in the projected rows. -/
theorem blk1 (c : Dev nD) (t : Fin cfg0.N) (s : Fin 4096) (l : Fin 128) :
    (iblk m c 1 t : FVec Ideal S1x4096x128 .bf16) (ix3 0 s l)
      = X m c (ix3 ⟨t.val / 4, by have := lt_N t; omega⟩ s ⟨2048 + (t.val % 4 * 128 + l.val), by omega⟩) := by
  show V m c main_arg0 ((win0_1.rect t).emb (ix3 0 s l)) = _
  rw [V_main_arg0]
  congr 1
  funext a
  apply Fin.ext
  have e := idx1 t
  match a with
  | ⟨0, _⟩ => exact (win0_1.rect_emb_val t _ 0).trans (by rw [e.1]; show t.val / 4 * 1 + 0 = t.val / 4; omega)
  | ⟨1, _⟩ => exact (win0_1.rect_emb_val t _ 1).trans (by rw [e.2.1]; show 0 * 4096 + s.val = s.val; omega)
  | ⟨2, _⟩ => exact (win0_1.rect_emb_val t _ 2).trans (by rw [e.2.2]; show (16 + t.val % 4) * 128 + l.val = 2048 + (t.val % 4 * 128 + l.val); omega)

/-- The reference's result on the argument of device `c`. -/
abbrev G (c : Dev nD) : FVec Ideal S4x4x2x16x4096 .f32 := Cert.GateRefIdeal.Read.val_main_v46 (F := Ideal) (X m c)

/-- Every entry of the projected rows is a number. -/
def AllFin (c : Dev nD) : Prop := ∀ i, Fin' (X m c i)

theorem fin_gates (c : Dev nD) (hx : AllFin m c) (b : Fin 4) (h : Fin 8) (s : Fin 4096) (n : Fin 16) (hn : n < own s) :
    Cert.GateRefIdeal.Hand.gates (X m c) b h s n ≠ ⊥ := by
  unfold Cert.GateRefIdeal.Hand.gates Cert.GateRefIdeal.Hand.kmean
  have e : n.val < s.val / 256 := hn
  rw [if_pos e]
  exact fin_ne_bot (fin_sum _ _ fun d => fin_mul (hx _) (fin_mean (fin_sum _ _ fun j => hx _)))

/-- The rounds' mask is the reference's, where a column's past gates are numbers. -/
theorem mask_eq (c : Dev nD) (hx : AllFin m c) (b hp : Fin 4) (h : Fin 2) (n : Fin 16) (s : Fin 4096) :
    maskOf (Cert.GateRefIdeal.Hand.gates (X m c) b ⟨hp.val * 2 + h.val, by omega⟩ s) (own s) n = G m c (ix5 b hp h n s) := by
  classical
  refine Eq.trans ?_ (Cert.GateRefIdeal.Hand.v46_apply (X m c) b hp h n s).symm
  unfold maskOf
  refine if_congr (or_congr Iff.rfl ?_) rfl rfl
  exact and_congr_right fun hn => three_src _ n (fin_gates m c hx b _ s n hn)

theorem hfin (c : Dev nD) (hx : AllFin m c) (t : Fin cfg0.N) (n : Fin 16) (l : Fin 128) :
    HSub.hSub (α := EReal) (β := EReal) (k0_pay2 (F := Ideal) (View.ld (iblk m c 1 t : Vec Ideal S1x4096x128 .bf16) r0_0) (ix2 n l))
      (k0_pay2 (F := Ideal) (View.ld (iblk m c 1 t : Vec Ideal S1x4096x128 .bf16) r0_0) (ix2 n l)) = 0 := by
  have e := pay2_apply (iblk m c 1 t : Vec Ideal S1x4096x128 .bf16) n l
  refine (congrArg₂ (HSub.hSub (α := EReal) (β := EReal)) e e).trans ?_
  refine fin_sub_self (fin_mean (fin_sum _ _ fun j => ?_))
  have e1 := blk1 m c t ⟨n.val * 256 + j.val, by omega⟩ l
  exact e1 ▸ hx _

theorem col_first (c : Dev nD) (hx : AllFin m c) (t : Fin cfg0.N) (s : Fin 4096) :
    col (k0_pay1 (F := Ideal) (View.ld (iblk m c 0 t : Vec Ideal S1x4096x128 .bf16) r0_0)) (k0_pay2 (F := Ideal) (View.ld (iblk m c 1 t : Vec Ideal S1x4096x128 .bf16) r0_0))
        k0_pay6 (k0_pay7 (F := Ideal)) s
      = Cert.GateRefIdeal.Hand.gates (X m c) ⟨t.val / 4, by have := lt_N t; omega⟩ ⟨t.val % 4 * 2 + (0 : Fin 2).val, by omega⟩ s := by
  funext n
  refine (pay8_apply _ _ (hfin m c hx t) n s).trans ?_
  unfold score Cert.GateRefIdeal.Hand.gates
  refine if_congr Iff.rfl ((sum_first _ _).trans (Finset.sum_congr rfl fun d _ => ?_)) rfl
  rw [pay1_apply, pay2_apply, blk0, mul_comm]
  unfold Cert.GateRefIdeal.Hand.kmean
  simp only [blk1]
  have e1 : ∀ h h', (⟨1536 + (t.val % 4 * 128 + d.val), h⟩ : Fin 3072) = ⟨1536 + ((t.val % 4 * 2 + (0 : Fin 2).val) * 64 + d.val), h'⟩ :=
    fun _ _ => Fin.ext (by show 1536 + (t.val % 4 * 128 + d.val) = 1536 + ((t.val % 4 * 2 + 0) * 64 + d.val); omega)
  have e2 : ∀ h h', (⟨2048 + (t.val % 4 * 128 + d.val), h⟩ : Fin 3072) = ⟨2048 + ((t.val % 4 * 2 + (0 : Fin 2).val) * 64 + d.val), h'⟩ :=
    fun _ _ => Fin.ext (by show 2048 + (t.val % 4 * 128 + d.val) = 2048 + ((t.val % 4 * 2 + 0) * 64 + d.val); omega)
  rw [e1 _ (by have := d.isLt; omega), e2 _ (by have := d.isLt; omega)]

theorem col_second (c : Dev nD) (hx : AllFin m c) (t : Fin cfg0.N) (s : Fin 4096) :
    (fun x => k0_pay15 (F := Ideal) (k0_pay1 (F := Ideal) (View.ld (iblk m c 0 t : Vec Ideal S1x4096x128 .bf16) r0_0)) (k0_pay2 (F := Ideal) (View.ld (iblk m c 1 t : Vec Ideal S1x4096x128 .bf16) r0_0))
          (iota .tc S16x128 32 [1] iota_S16x128_d1_w32) k0_pay5 (ix2 x s))
      = Cert.GateRefIdeal.Hand.gates (X m c) ⟨t.val / 4, by have := lt_N t; omega⟩ ⟨t.val % 4 * 2 + (1 : Fin 2).val, by have : (1 : Fin 2).val = 1 := rfl; omega⟩ s := by
  funext n
  refine (pay15_apply _ _ (hfin m c hx t) n s).trans ?_
  unfold score Cert.GateRefIdeal.Hand.gates
  refine if_congr Iff.rfl ((sum_second _ _).trans (Finset.sum_congr rfl fun d _ => ?_)) rfl
  rw [pay1_apply, pay2_apply, blk0, mul_comm]
  unfold Cert.GateRefIdeal.Hand.kmean
  simp only [blk1]
  have e1 : ∀ h h', (⟨1536 + (t.val % 4 * 128 + (64 + d.val)), h⟩ : Fin 3072) = ⟨1536 + ((t.val % 4 * 2 + (1 : Fin 2).val) * 64 + d.val), h'⟩ :=
    fun _ _ => Fin.ext (by show 1536 + (t.val % 4 * 128 + (64 + d.val)) = 1536 + ((t.val % 4 * 2 + 1) * 64 + d.val); omega)
  have e2 : ∀ h h', (⟨2048 + (t.val % 4 * 128 + (64 + d.val)), h⟩ : Fin 3072) = ⟨2048 + ((t.val % 4 * 2 + (1 : Fin 2).val) * 64 + d.val), h'⟩ :=
    fun _ _ => Fin.ext (by show 2048 + (t.val % 4 * 128 + (64 + d.val)) = 2048 + ((t.val % 4 * 2 + 1) * 64 + d.val); omega)
  have h1 : (1 : Fin 2).val = 1 := rfl
  rw [e1 _ (by have := d.isLt; omega), e2 _ (by have := d.isLt; omega)]

/-- One element of what a grid point stores, as an element of the reference's result. -/
theorem out_apply (c : Dev nD) (hx : AllFin m c) (t : Fin cfg0.N) (h : Fin 2) (n : Fin 16) (s : Fin 4096) :
    out0_2 (iblk m c 0 t) (iblk m c 1 t) (ix5 0 0 h n s : S1x1x2x16x4096.Idx)
      = G m c (ix5 ⟨t.val / 4, by have := lt_N t; omega⟩ ⟨t.val % 4, by omega⟩ h n s) := by
  match h with
  | ⟨0, _⟩ =>
    refine (out_first _ _ n s).trans ?_
    refine (congrArg (fun g => maskOf g (own s) n) (col_first m c hx t s)).trans ?_
    exact mask_eq m c hx ⟨t.val / 4, by have := lt_N t; omega⟩ ⟨t.val % 4, by omega⟩ 0 n s
  | ⟨1, _⟩ =>
    refine (out_second _ _ n s).trans ?_
    refine (congrArg (fun g => maskOf g (own s) n) (col_second m c hx t s)).trans ?_
    exact mask_eq m c hx ⟨t.val / 4, by have := lt_N t; omega⟩ ⟨t.val % 4, by omega⟩ 1 n s

/-- A block is the grid point's part of an array when its elements are. -/
theorem read_of (t : Fin cfg0.N) (o : FVec Ideal S1x1x2x16x4096 .f32) (g : FVec Ideal S4x4x2x16x4096 .f32)
    (ho : ∀ h n s, o (ix5 0 0 h n s) = g (ix5 ⟨t.val / 4, by have := lt_N t; omega⟩ ⟨t.val % 4, by omega⟩ h n s)) :
    o = ((cfg0.win 2).blk t).view.read (Elt Ideal) g := by
  funext y
  show o (y : S1x1x2x16x4096.Idx) = g ((win0_2.rect t).emb y)
  have h0 : (y 0).val = 0 := by have : (y 0).val < 1 := (y 0).isLt; omega
  have h1 : (y 1).val = 0 := by have : (y 1).val < 1 := (y 1).isLt; omega
  have hy : (y : S1x1x2x16x4096.Idx) = ix5 0 0 ⟨(y 2).val, (y 2).isLt⟩ ⟨(y 3).val, (y 3).isLt⟩ ⟨(y 4).val, (y 4).isLt⟩ := by
    funext a
    match a with
    | ⟨0, _⟩ => exact Fin.ext h0
    | ⟨1, _⟩ => exact Fin.ext h1
    | ⟨2, _⟩ => rfl
    | ⟨3, _⟩ => rfl
    | ⟨4, _⟩ => rfl
  refine (congrArg o hy).trans ((ho _ _ _).trans (congrArg g ?_))
  funext a
  apply Fin.ext
  have e := idx2 t
  match a with
  | ⟨0, _⟩ => exact ((win0_2.rect_emb_val t y 0).trans (by rw [e.1]; show t.val / 4 * 1 + (y 0).val = t.val / 4; omega)).symm
  | ⟨1, _⟩ => exact ((win0_2.rect_emb_val t y 1).trans (by rw [e.2.1]; show t.val % 4 * 1 + (y 1).val = t.val % 4; omega)).symm
  | ⟨2, _⟩ => exact ((win0_2.rect_emb_val t y 2).trans (by rw [e.2.2.1]; show 0 * 2 + (y 2).val = (y 2).val; omega)).symm
  | ⟨3, _⟩ => exact ((win0_2.rect_emb_val t y 3).trans (by rw [e.2.2.2.1]; show 0 * 16 + (y 3).val = (y 3).val; omega)).symm
  | ⟨4, _⟩ => exact ((win0_2.rect_emb_val t y 4).trans (by rw [e.2.2.2.2]; show 0 * 4096 + (y 4).val = (y 4).val; omega)).symm

/-- What a grid point writes back is its block of the reference's result. -/
theorem flushed_eq (c : Dev nD) (hx : AllFin m c) (t : Fin cfg0.N) :
    (dats m 0 c).flushed 2 t = ((cfg0.win 2).blk t).view.read (Elt Ideal) (G m c) :=
  (Value.flushed2 m c t).trans (read_of t _ _ (out_apply m c hx t))

/-- Every index of the mask is in the block of the grid point of its batch row and its pair of heads. -/
theorem cover (i : S4x4x2x16x4096.Idx) :
    ∃ t : Fin cfg0.N, (cfg0.win 2).flush t = true ∧ i ∈ ((cfg0.win 2).blk t).view.set := by
  have h0 : (i 0 : Nat) < 4 := (i 0).isLt
  have h1 : (i 1 : Nat) < 4 := (i 1).isLt
  have h2 : (i 2 : Nat) < 2 := (i 2).isLt
  have h3 : (i 3 : Nat) < 16 := (i 3).isLt
  have h4 : (i 4 : Nat) < 4096 := (i 4).isLt
  have hN : cfg0.N = 16 := N_0
  refine ⟨⟨(i 0 : Nat) * 4 + (i 1 : Nat), by omega⟩, flush0_2 _, ?_⟩
  generalize ht : (⟨(i 0 : Nat) * 4 + (i 1 : Nat), _⟩ : Fin cfg0.N) = t
  have htv : t.val = (i 0 : Nat) * 4 + (i 1 : Nat) := by rw [← ht]
  show i ∈ ((View.whole main_v0).slice (win0_2.rect t)).set
  rw [View.set_slice_whole, Rect.mem_set_unit]
  have e := idx2 t
  intro a
  match a with
  | ⟨0, _⟩ => show win0_2.index t 0 * 1 ≤ (i 0 : Nat) ∧ (i 0 : Nat) < win0_2.index t 0 * 1 + 1
              rw [e.1]; omega
  | ⟨1, _⟩ => show win0_2.index t 1 * 1 ≤ (i 1 : Nat) ∧ (i 1 : Nat) < win0_2.index t 1 * 1 + 1
              rw [e.2.1]; omega
  | ⟨2, _⟩ => show win0_2.index t 2 * 2 ≤ (i 2 : Nat) ∧ (i 2 : Nat) < win0_2.index t 2 * 2 + 2
              rw [e.2.2.1]; omega
  | ⟨3, _⟩ => show win0_2.index t 3 * 16 ≤ (i 3 : Nat) ∧ (i 3 : Nat) < win0_2.index t 3 * 16 + 16
              rw [e.2.2.2.1]; omega
  | ⟨4, _⟩ => show win0_2.index t 4 * 4096 ≤ (i 4 : Nat) ∧ (i 4 : Nat) < win0_2.index t 4 * 4096 + 4096
              rw [e.2.2.2.2]; omega

/-- The mask array ends at the reference's result. -/
theorem final (c : Dev nD) (hx : AllFin m c) : (dats m 0 c).arrAt 2 cfg0.N = G m c :=
  (dats m 0 c).arrAt_eq_of_cover 2 (G m c) (fun t _ => flushed_eq m c hx t) cover

/-- The precondition says that every entry is a number. -/
theorem allFin [Cert.Pre_finite.Facts] (c : Dev nD) (h : Cert.Pre_finite.fn (F := Ideal) (X m c) = fun _ => 1#1) : AllFin m c := by
  intro i
  have hi := congrFun h i
  have hand : ∀ a b : BitVec 1, IntOp.andi a b = 1#1 ↔ a = 1#1 ∧ b = 1#1 := by decide
  have hi' : IntOp.andi (BitVec.ofBool (decide (X m c i < Ideal.ofBits FTy.f32 2139095040#32))) (BitVec.ofBool (decide (X m c i > Ideal.ofBits FTy.f32 4286578688#32))) = 1#1 := hi
  rw [hand, ofBool_iff, ofBool_iff, bits_top, bits_bot] at hi'
  have h1 : (X m c i : EReal) ≠ ⊤ := ne_of_lt hi'.1
  have h2 : (X m c i : EReal) ≠ ⊥ := (ne_of_lt hi'.2).symm
  exact ⟨(X m c i : EReal).toReal, (EReal.coe_toReal h1 h2).symm⟩

end Cert.GateIdeal.Hand

namespace Cert.Proof.GateClaims

/-- The run of the reference leaves its argument and declares no counter. -/
theorem frame_ref : Cert.quiescent_GateRefIdeal := fun m ρ _ =>
  (θ_run Cert.GateRefIdeal.defs _ _).mono (fun r h => ⟨fun c => (h c).2,
      Idealize.ShloMosaic.sem_eq_zero_of_no_sems (by decide) r.2⟩)
    (Cert.GateRefIdeal.Value.run (F := Ideal) m ρ)

/-- At the extended reals the routing call's mask is the reference's, from finite arguments that agree. -/
theorem algebraic [Cert.Pre_finite.Facts] : Cert.algebraic_GateIdeal_GateRefIdeal_pre_finite := by
  intro m ρ m' ρ' hpre hagree
  refine ⟨fun c => Cert.GateIdeal.Hand.G m c, ?_, ?_⟩
  · exact (θ_run Cert.GateIdeal.defs _ _).mono
      (fun _ h c => ⟨(h c).1.trans (Cert.GateIdeal.Hand.final m c (Cert.GateIdeal.Hand.allFin m c (hpre c))), (h c).2⟩)
      (Cert.GateIdeal.Value.run_blocks (F := Ideal) m ρ)
  · refine (θ_run Cert.GateRefIdeal.defs _ _).mono (fun _ h c => ⟨(h c).1.trans ?_, (h c).2⟩)
      (Cert.GateRefIdeal.Value.run (F := Ideal) m' ρ')
    refine (Cert.GateRefIdeal.Read.val_main_v46_eq (F := Ideal) m' c).trans ?_
    unfold Cert.GateIdeal.Hand.G
    rw [hagree c]

end Cert.Proof.GateClaims
end
-- ==== Proof.AttnRun.lean ====
module

public import proofs.«01_k».proof.Proof.Gen.Attn.Frame
public import proofs.«01_k».proof.Proof.Gen.Attn.Skeleton
public import proofs.«01_k».proof.Proof.Gen.Attn.Loops

@[expose] public section

set_option maxRecDepth 16384
set_option maxHeartbeats 4000000

noncomputable section

namespace Cert.Attn.Run

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The running maxima of the four (query block, head) slots. -/
abbrev Tops (F : FTy → Type) := FVec F S1x256 .f32 × FVec F S1x256 .f32 × FVec F S1x256 .f32 × FVec F S1x256 .f32

variable (𝒱 : Variants) (c : Dev nD) (bd : Option 𝒱.V) (i : grid0.Coords)
  (arg3 : Memref sig .tc .vmem S1x512x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S1x1x2x16x512 .f32) (harg6 : arg6.IsWhole)
  (arg7 : Memref sig .tc .vmem S2x4x256x256 .f32) (harg7 : arg7.IsWhole) (arg8 : Memref sig .tc .vmem S1x128 .f32) (harg8 : arg8.IsWhole)
  (arg9 : Memref sig .tc .vmem S1x512x128 .bf16) (harg9 : arg9.IsWhole) (arg10 : Memref sig .tc .vmem S16x2x80x256 .bf16) (harg10 : arg10.IsWhole)
  (arg11 : Memref sig .tc .vmem S4x16x256x256 .f32) (harg11 : arg11.IsWhole) (arg12 : Memref sig .tc .vmem S4x80x256 .f32) (harg12 : arg12.IsWhole)
  (arg2 : BitVec 32) (v11 v14 v23 v26 : FVec F S256x128 .bf16) (v28 v30 v31 : BitVec 32) (v32 v33 : BitVec 1) (c0_i32_13 v38 v65 : BitVec 32)
  (X4 : BufTy.Contents (Elt F) arg4.view.ty) (X6 : BufTy.Contents (Elt F) arg6.view.ty) (X7 : BufTy.Contents (Elt F) arg7.view.ty)

/-- One scoring trip's buffers: keys, mask and bias tiles at their contents, the scores at `f`. -/
abbrev Trip1 (f : BufTy.Contents (Elt F) arg11.view.ty) : sProp (MT nD τ sig Unit (Elt F) ℕ (UR sig nD τ) ℕ) :=
  iprop((arg4.view.loc (c : Thread nD τ) ↦[arg4.view.set]{fullShare} X4) ∗ (arg6.view.loc (c : Thread nD τ) ↦[arg6.view.set]{fullShare} X6)
    ∗ (arg7.view.loc (c : Thread nD τ) ↦[arg7.view.set]{fullShare} X7) ∗ (arg11.view.loc (c : Thread nD τ) ↦[arg11.view.set]{fullShare} f))

/-- One scoring trip: the scores it stores and the maxima it hands on. -/
@[irreducible] def trip1 (k : Fin (k0_t1_loop i).trips) (a0 a1 a2 a3 : FVec F S1x256 .f32) :
    Σ' (L : List (View.Piece (Elt F) S4x16x256x256 .f32)), { y : Tops F //
      ∀ (E : Set ℕ) (f : BufTy.Contents (Elt F) arg11.view.ty), Trip1 (F := F) c arg4 arg6 arg7 arg11 X4 X6 X7 f
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg2 v11 v14 v23 v26 v28 v30 v31 v32 v33 c0_i32_13 v38 k (a0, a1, a2, a3))
          (fun r => iprop(⌜r = y⌝ ∗ Trip1 (F := F) c arg4 arg6 arg7 arg11 X4 X6 X7 (arg11.view.writes (Elt F) f L))) } := by
  refine ⟨?_, ?_, fun E f => ?run⟩
  case run =>
    unfold k0_t1_body
    iintro ⟨H4, H6, H7, H11⟩
    sl_exec
    sl_step
    isplitr
    · ipureintro; rfl
    sl_close

set_option warn.classDefReducibility false in
/-- The scoring loop, its scores kept at some contents: the maxima are whatever the trips hand on. -/
@[sl_loop] def loopInv_k0_t1 (E : Set ℕ) (init : Tops F) :
    Gen.LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg2 v11 v14 v23 v26 v28 v30 v31 v32 v33 c0_i32_13 v38 init where
  inv k acc := iprop((arg4.view.loc (c : Thread nD τ) ↦[arg4.view.set]{fullShare} X4) ∗ (arg6.view.loc (c : Thread nD τ) ↦[arg6.view.set]{fullShare} X6)
    ∗ (arg7.view.loc (c : Thread nD τ) ↦[arg7.view.set]{fullShare} X7) ∗ ∃ f, (arg11.view.loc (c : Thread nD τ) ↦[arg11.view.set]{fullShare} f))
  step k acc := by
    obtain ⟨a0, a1, a2, a3⟩ := acc
    iintro ⟨H4, H6, H7, ⟨%f, H11⟩⟩
    iapply (wp_wand_r Idealize.ShloMosaic.frame (wpE (defs₀ (F := F)) 𝒱 (c : Thread nD τ) bd) E)
    isplitl [H4 H6 H7 H11]
    · iapply ((trip1 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 k a0 a1 a2 a3).2.2 E f)
      isplitl [H4]; · iexact H4
      isplitl [H6]; · iexact H6
      isplitl [H7]; · iexact H7
      iexact H11
    · iintro %_ ⟨-, H4, H6, H7, H11⟩
      isplitl [H4]; · iexact H4
      isplitl [H6]; · iexact H6
      isplitl [H7]; · iexact H7
      iexists _; iexact H11

/-- The scoring remainder has no trip: the block count is even. -/
theorem trips2 : ∀ i : grid0.Coords, (k0_t2_loop i).trips = 0 := by decide +kernel

set_option warn.classDefReducibility false in
/-- The scoring remainder, never entered. -/
@[sl_loop] def loopInv_k0_t2 (E : Set ℕ) (init : Tops F) :
    Gen.LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg2 v11 v14 v23 v26 v28 v30 v31 v32 v33 c0_i32_13 v38 v65 init where
  inv k acc := iprop(⌜acc = init⌝)
  step k acc := absurd k.isLt fun h => Nat.not_lt_zero _ (Nat.lt_of_lt_of_eq h (trips2 i))

end Cert.Attn.Run

end
-- ==== Proof.AttnIdealRun.lean ====
module

public import proofs.«01_k».proof.Proof.Gen.AttnIdeal.Frame
public import proofs.«01_k».proof.Proof.Gen.AttnIdeal.Skeleton
public import proofs.«01_k».proof.Proof.Gen.AttnIdeal.Loops

@[expose] public section

set_option maxRecDepth 16384
set_option maxHeartbeats 4000000

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The running maxima of the four (query block, head) slots. -/
abbrev Tops (F : FTy → Type) := FVec F S1x256 .f32 × FVec F S1x256 .f32 × FVec F S1x256 .f32 × FVec F S1x256 .f32

variable (𝒱 : Variants) (c : Dev nD) (bd : Option 𝒱.V) (i : grid0.Coords)
  (arg3 : Memref sig .tc .vmem S1x512x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S1x1x2x16x512 .f32) (harg6 : arg6.IsWhole)
  (arg7 : Memref sig .tc .vmem S2x4x256x256 .f32) (harg7 : arg7.IsWhole) (arg8 : Memref sig .tc .vmem S1x128 .f32) (harg8 : arg8.IsWhole)
  (arg9 : Memref sig .tc .vmem S1x512x128 .bf16) (harg9 : arg9.IsWhole) (arg10 : Memref sig .tc .vmem S16x2x80x256 .bf16) (harg10 : arg10.IsWhole)
  (arg11 : Memref sig .tc .vmem S4x16x256x256 .f32) (harg11 : arg11.IsWhole) (arg12 : Memref sig .tc .vmem S4x80x256 .f32) (harg12 : arg12.IsWhole)
  (arg2 : BitVec 32) (v11 v14 v23 v26 : FVec F S256x128 .bf16) (v28 v30 v31 : BitVec 32) (v32 v33 : BitVec 1) (c0_i32_13 v38 v65 : BitVec 32)
  (X4 : BufTy.Contents (Elt F) arg4.view.ty) (X6 : BufTy.Contents (Elt F) arg6.view.ty) (X7 : BufTy.Contents (Elt F) arg7.view.ty)

/-- One scoring trip's buffers: keys, mask and bias tiles at their contents, the scores at `f`. -/
abbrev Trip1 (f : BufTy.Contents (Elt F) arg11.view.ty) : sProp (MT nD τ sig Unit (Elt F) ℕ (UR sig nD τ) ℕ) :=
  iprop((arg4.view.loc (c : Thread nD τ) ↦[arg4.view.set]{fullShare} X4) ∗ (arg6.view.loc (c : Thread nD τ) ↦[arg6.view.set]{fullShare} X6)
    ∗ (arg7.view.loc (c : Thread nD τ) ↦[arg7.view.set]{fullShare} X7) ∗ (arg11.view.loc (c : Thread nD τ) ↦[arg11.view.set]{fullShare} f))

/-- One scoring trip: the scores it stores and the maxima it hands on. -/
@[irreducible] def trip1 (k : Fin (k0_t1_loop i).trips) (a0 a1 a2 a3 : FVec F S1x256 .f32) :
    Σ' (L : List (View.Piece (Elt F) S4x16x256x256 .f32)), { y : Tops F //
      ∀ (E : Set ℕ) (f : BufTy.Contents (Elt F) arg11.view.ty), Trip1 (F := F) c arg4 arg6 arg7 arg11 X4 X6 X7 f
      ⊢ wp frame (wpE (defs₀ (F := F)) 𝒱 (c : Thread nD τ) bd) E (k0_t1_body (F := F) i arg3 harg3 arg4 harg4 arg5 harg5 arg6 harg6 arg7 harg7 arg8 harg8 arg9 harg9 arg10 harg10 arg11 harg11 arg12 harg12 arg2 v11 v14 v23 v26 v28 v30 v31 v32 v33 c0_i32_13 v38 k (a0, a1, a2, a3))
          (fun r => iprop(⌜r = y⌝ ∗ Trip1 (F := F) c arg4 arg6 arg7 arg11 X4 X6 X7 (arg11.view.writes (Elt F) f L))) } := by
  refine ⟨?_, ?_, fun E f => ?run⟩
  case run =>
    unfold k0_t1_body
    iintro ⟨H4, H6, H7, H11⟩
    sl_exec
    sl_step
    isplitr
    · ipureintro; rfl
    sl_close

/-- A scoring trip on top of those before it: its stores in front, its maxima handed on. -/
@[irreducible] def trip1Step (k : ℕ) (p : List (View.Piece (Elt F) S4x16x256x256 .f32) × Tops F) : List (View.Piece (Elt F) S4x16x256x256 .f32) × Tops F :=
  if h : k < (k0_t1_loop i).trips then
    let t := trip1 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 ⟨k, h⟩ p.2.1 p.2.2.1 p.2.2.2.1 p.2.2.2.2
    (t.1 ++ p.1, t.2.1)
  else p

/-- What the trips before `k` stored and the maxima they hand on. -/
def trips1St (init : Tops F) : ℕ → List (View.Piece (Elt F) S4x16x256x256 .f32) × Tops F
  | 0 => ([], init)
  | k + 1 => trip1Step 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 k (trips1St init k)

theorem trips1St_succ (init : Tops F) (k : Fin (k0_t1_loop i).trips) (p : List (View.Piece (Elt F) S4x16x256x256 .f32) × Tops F)
    (hp : trips1St 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 init k.val = p) :
    trips1St 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 init (k.val + 1)
      = ((trip1 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 k p.2.1 p.2.2.1 p.2.2.2.1 p.2.2.2.2).1 ++ p.1,
         (trip1 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 k p.2.1 p.2.2.1 p.2.2.2.1 p.2.2.2.2).2.1) := by
  subst hp
  rw [trips1St.eq_2]; unfold trip1Step; exact dif_pos k.isLt

set_option warn.classDefReducibility false in
/-- The scoring loop: the scores its trips store over what the buffer held, the maxima they hand on. -/
@[sl_loop] def loopInv_k0_t1 (E : Set ℕ) (init : Tops F) (G : BufTy.Contents (Elt F) arg11.view.ty) :
    Gen.LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg2 v11 v14 v23 v26 v28 v30 v31 v32 v33 c0_i32_13 v38 init where
  inv k acc := iprop((arg4.view.loc (c : Thread nD τ) ↦[arg4.view.set]{fullShare} X4) ∗ (arg6.view.loc (c : Thread nD τ) ↦[arg6.view.set]{fullShare} X6)
    ∗ (arg7.view.loc (c : Thread nD τ) ↦[arg7.view.set]{fullShare} X7)
    ∗ (∃ f, (arg11.view.loc (c : Thread nD τ) ↦[arg11.view.set]{fullShare} f)
      ∗ ⌜f = arg11.view.writes (Elt F) G (trips1St 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 init k).1⌝)
    ∗ ⌜acc = (trips1St 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 init k).2⌝)
  step k acc := by
    iintro ⟨H4, H6, H7, ⟨%f, H11, %hf⟩, %ha⟩
    subst ha hf
    iapply (wp_wand_r Idealize.ShloMosaic.frame (wpE (defs₀ (F := F)) 𝒱 (c : Thread nD τ) bd) E)
    isplitl [H4 H6 H7 H11]
    · iapply ((trip1 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 k _ _ _ _).2.2 E _)
      isplitl [H4]; · iexact H4
      isplitl [H6]; · iexact H6
      isplitl [H7]; · iexact H7
      iexact H11
    · iintro %_ ⟨%hr, H4, H6, H7, H11⟩
      subst hr
      rw [trips1St_succ 𝒱 c bd i arg3 harg3 arg4 harg4 arg5 harg5 arg6 harg6 arg7 harg7 arg8 harg8 arg9 harg9 arg10 harg10 arg11 harg11 arg12 harg12 arg2 v11 v14 v23 v26 v28 v30 v31 v32 v33 c0_i32_13 v38 X4 X6 X7 init k _ rfl]
      isplitl [H4]; · iexact H4
      isplitl [H6]; · iexact H6
      isplitl [H7]; · iexact H7
      isplitl [H11]
      · iexists _
        isplitl [H11]; · iexact H11
        ipureintro
        exact (View.writes_append _ _ _ _).symm
      · ipureintro; rfl

/-- The scoring remainder has no trip: the block count is even. -/
theorem trips2 : ∀ i : grid0.Coords, (k0_t2_loop i).trips = 0 := by decide +kernel

set_option warn.classDefReducibility false in
/-- The scoring remainder, never entered. -/
@[sl_loop] def loopInv_k0_t2 (E : Set ℕ) (init : Tops F) :
    Gen.LoopInvTy_k0_t2 (F := F) Unit ℕ (UR sig nD τ) ℕ 𝒱 c bd E i arg3 harg3 arg4 harg4 arg5 harg5 arg6 harg6 arg7 harg7 arg8 harg8 arg9 harg9 arg10 harg10 arg11 harg11 arg12 harg12 arg2 v11 v14 v23 v26 v28 v30 v31 v32 v33 c0_i32_13 v38 v65 init where
  inv k acc := iprop(⌜acc = init⌝)
  step k acc := absurd k.isLt fun h => Nat.not_lt_zero _ (Nat.lt_of_lt_of_eq h (trips2 i))

end Cert.AttnIdeal.Run

end
-- ==== Proof.AttnIdealBody.lean ====
module

public import proofs.«01_k».proof.Proof.AttnIdealRun
public import Idealize.ShloMosaic.Lib.Pipeline.Frame
public import Idealize.ShloMosaic.Lib.Pipeline.FrameBody
public import Idealize.ShloMosaic.Lib.Tactic

@[expose] public section

set_option maxRecDepth 16384
set_option maxHeartbeats 4000000

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (arg3 : Memref sig .tc .vmem S1x512x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x1x2x16x512 .f32) (harg6 : arg6.IsWhole)
  (arg7 : Memref sig .tc .vmem S2x4x256x256 .f32) (harg7 : arg7.IsWhole)
  (arg8 : Memref sig .tc .vmem S1x128 .f32) (harg8 : arg8.IsWhole)
  (arg9 : Memref sig .tc .vmem S1x512x128 .bf16) (harg9 : arg9.IsWhole)
  (arg10 : Memref sig .tc .vmem S16x2x80x256 .bf16) (harg10 : arg10.IsWhole)
  (arg11 : Memref sig .tc .vmem S4x16x256x256 .f32) (harg11 : arg11.IsWhole)
  (arg12 : Memref sig .tc .vmem S4x80x256 .f32) (harg12 : arg12.IsWhole)

/-- A memref's buffer held whole at `f`. -/
abbrev pt {S : Shape} {e : EltTy} (c : Dev nD) (M : Memref sig .tc .vmem S e) (f : Buf (Elt F) (M.view.loc (c : Thread nD τ))) :
    sProp (MT nD τ sig Unit (Elt F) ℕ (UR sig nD τ) ℕ) := M.view.loc (c : Thread nD τ) ↦[M.view.set]{fullShare} f

/-- The same at some contents. -/
abbrev some_ {S : Shape} {e : EltTy} (c : Dev nD) (M : Memref sig .tc .vmem S e) :
    sProp (MT nD τ sig Unit (Elt F) ℕ (UR sig nD τ) ℕ) := iprop(∃ f, pt (F := F) c M f)

/-- The body, whatever follows it: the inputs come back as they were, output and scratches at some contents. -/
theorem kernelRun (c : Dev nD) (i : grid0.Coords) (f3 f4 f5 f6 f7 f8) (K : PUnit → sProp (MT nD τ sig Unit (Elt F) ℕ (UR sig nD τ) ℕ)) :
    iprop(pt (F := F) c arg3 f3 ∗ pt (F := F) c arg4 f4 ∗ pt (F := F) c arg5 f5 ∗ pt (F := F) c arg6 f6 ∗ pt (F := F) c arg7 f7 ∗ pt (F := F) c arg8 f8
        ∗ some_ (F := F) c arg9 ∗ some_ (F := F) c arg10 ∗ some_ (F := F) c arg11 ∗ some_ (F := F) c arg12
        ∗ (iprop(pt (F := F) c arg3 f3 ∗ pt (F := F) c arg4 f4 ∗ pt (F := F) c arg5 f5 ∗ pt (F := F) c arg6 f6 ∗ pt (F := F) c arg7 f7 ∗ pt (F := F) c arg8 f8
          ∗ some_ (F := F) c arg9 ∗ some_ (F := F) c arg10 ∗ some_ (F := F) c arg11 ∗ some_ (F := F) c arg12) -∗ K ⟨⟩))
      ⊢ wp frame (wpE (defs₀ (F := F)) Variants.none c none) Set.univ (cc0_moba_attention (F := F) i arg3 harg3 arg4 harg4 arg5 harg5 arg6 harg6 arg7 harg7 arg8 harg8 arg9 harg9 arg10 harg10 arg11 harg11 arg12 harg12) K := by
  simp only [cc0_moba_attention_eq_skeleton]; unfold cc0_moba_attention_skel
  iintro ⟨H3, H4, H5, H6, H7, H8, ⟨%f9, H9⟩, ⟨%f10, H10⟩, ⟨%f11, H11⟩, ⟨%f12, H12⟩, Hk⟩
  by_cases h1 : Scalar.cmpi .ne (Scalar.extui (Scalar.cmpi .eq (BitVec.ofNat 32 (i 2).val) 0#32)) (0#32 : BitVec 32) = 1#1 <;>
  by_cases h2 : k0_cond2 i = 1#1
  all_goals
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexists _; iexact H12

/-- The body between owned memrefs: the six inputs handed back as given, the rest at some contents. -/
theorem kernelOwns (c : Dev nD) (i : grid0.Coords) (X3 X4 X5 X6 X7 X8) (K : PUnit → sProp (MT nD τ sig Unit (Elt F) ℕ (UR sig nD τ) ℕ)) :
    iprop(owns (c : Thread nD τ) arg3 fullShare X3 ∗ owns (c : Thread nD τ) arg4 fullShare X4 ∗ owns (c : Thread nD τ) arg5 fullShare X5
        ∗ owns (c : Thread nD τ) arg6 fullShare X6 ∗ owns (c : Thread nD τ) arg7 fullShare X7 ∗ owns (c : Thread nD τ) arg8 fullShare X8
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare X7 ∗ owns (c : Thread nD τ) arg8 fullShare X8
          ∗ (∃ d, owns (c : Thread nD τ) arg9 fullShare d) ∗ (∃ d, owns (c : Thread nD τ) arg10 fullShare d)
          ∗ (∃ d, owns (c : Thread nD τ) arg11 fullShare d) ∗ (∃ d, owns (c : Thread nD τ) arg12 fullShare d)) -∗ K ⟨⟩))
      ⊢ wp frame (wpE (defs₀ (F := F)) Variants.none c none) Set.univ (cc0_moba_attention (F := F) i arg3 harg3 arg4 harg4 arg5 harg5 arg6 harg6 arg7 harg7 arg8 harg8 arg9 harg9 arg10 harg10 arg11 harg11 arg12 harg12) K := by
  unfold owns
  iintro ⟨⟨%f3, %h3, H3⟩, ⟨%f4, %h4, H4⟩, ⟨%f5, %h5, H5⟩, ⟨%f6, %h6, H6⟩, ⟨%f7, %h7, H7⟩, ⟨%f8, %h8, H8⟩,
    ⟨%d9, %f9, -, H9⟩, ⟨%d10, %f10, -, H10⟩, ⟨%d11, %f11, -, H11⟩, ⟨%d12, %f12, -, H12⟩, Hk⟩
  iapply (kernelRun arg3 harg3 arg4 harg4 arg5 harg5 arg6 harg6 arg7 harg7 arg8 harg8 arg9 harg9 arg10 harg10 arg11 harg11 arg12 harg12 c i f3 f4 f5 f6 f7 f8 K)
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H3, H4, H5, H6, H7, H8, ⟨%g9, H9⟩, ⟨%g10, H10⟩, ⟨%g11, H11⟩, ⟨%g12, H12⟩⟩
  iapply Hk
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  isplitl [H8]; · iexists f8; isplitr; · ipureintro; exact h8
                  iexact H8
  isplitl [H9]; · iexists _, g9; isplitr; · ipureintro; rfl
                  iexact H9
  isplitl [H10]; · iexists _, g10; isplitr; · ipureintro; rfl
                   iexact H10
  isplitl [H11]; · iexists _, g11; isplitr; · ipureintro; rfl
                   iexact H11
  iexists _, g12; isplitr; · ipureintro; rfl
  iexact H12

end Cert.AttnIdeal.Run

end
-- ==== Proof.AttnIdealFrame.lean ====
module

public import proofs.«01_k».proof.Proof.AttnIdealBody
public import Idealize.ShloMosaic.Lib.Pipeline.Frame
public import Idealize.ShloMosaic.Lib.Pipeline.FrameBody
public import Idealize.ShloMosaic.Lib.Tactic

@[expose] public section

set_option maxRecDepth 16384
set_option maxHeartbeats 4000000

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F]

variable (m : (ℓ : Loc nD τ sig) → Buf (Elt F) ℓ) (ρ : Dev nD → PrngReg)

/-- Nothing reads the output: its window is forgotten. -/
def forgets0 : Fin 7 → Bool := fun w => decide (w = 6)

/-- The pipeline's data on core `c`: the inputs' blocks left in place, the output unnamed, the scratches untracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What passes between the points: the three scratches at some contents and the generator's register. -/
theorem rest_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is given at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- and what it gives back. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, rest_eq,
    after0_0, after0_1, after0_2, after0_3, after0_4, after0_5]
  iintro ⟨⟨⟨S0, S1, S2⟩, Hg⟩, Ho, ⟨%d0, H0⟩, ⟨%d1, H1⟩, ⟨%d2, H2⟩, ⟨%d3, H3⟩, ⟨%d4, H4⟩, ⟨%d5, H5⟩, H6⟩
  iapply (kernelOwns _ _ _ _ _ _ _ _ _ _ _ _ _ _ _ _ _ _ _ _ c (grid0.coords t) (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  iintro ⟨H0, H1, H2, H3, H4, H5, H6, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every run ends, at the inputs as found and all counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl) (howed := fun _ _ => rfl) (V := V m)
    (hmain := hmain m Variants.none) (hA := A_eq m) (hΦ := fun _ _ => rfl)

/-- The call's frame: the four arguments end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      (h.1.arr_in c 2 rfl).trans (V_main_arg0 m c),
      (h.1.arr_in c 3 rfl).trans (V_main_arg1 m c),
      (h.1.arr_in c 4 rfl).trans (V_main_arg2 m c),
      ((h.1 c).2 main_arg3 (Pipeline.mem_restRefs_of main_arg3 (by decide) (by decide))).trans (V_main_arg3 m c)⟩, h.2⟩) (run_main m ρ)

end Cert.AttnIdeal.Run

end
-- ==== Proof.Rows.lean ====
module

public import proofs.«01_k».proof.Defs
public import Idealize.ShloMosaic.Lib.Pipeline.Value
public import Idealize.ShloMosaic.Lib.Pointwise
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Rows

/-- The mean of a row of 1024. -/
def mean (f : Fin 1024 → EReal) : EReal := Ideal.div (∑ k, f k) (Ideal.ofBits .f32 0x44800000#32)

/-- The layer norm of a row, with its gain and its bias. -/
def lnorm (f g b : Fin 1024 → EReal) (k : Fin 1024) : EReal :=
  (f k - mean f) * Ideal.rsqrt (mean (fun j => (f j - mean f) * (f j - mean f)) + Ideal.ofBits .f32 0x3727C5AC#32) * g k + b k

/-- The residual constant. -/
def alpha : EReal := Ideal.ofBits .f32 0x3F9837F0#32

/-- One hid unit: the gated product of two dot products of the row. -/
def hid {n : Nat} (u : Fin 1024 → EReal) (wg wu : Fin 1024 → Fin n → EReal) (c : Fin n) : EReal :=
  (∑ k, u k * wg k c) * Ideal.div 1 (1 + Ideal.exp (-(∑ k, u k * wg k c))) * (∑ k, u k * wu k c)

/-- The feed-forward row over `n` hid units. -/
def ffn {n : Nat} (u : Fin 1024 → EReal) (wg wu : Fin 1024 → Fin n → EReal) (wd : Fin n → Fin 1024 → EReal) (k : Fin 1024) : EReal :=
  ∑ c, hid u wg wu c * wd c k

/-- The feed-forward row in three blocks of hid units. -/
theorem ffn_split (u : Fin 1024 → EReal) (wg wu : Fin 1024 → Fin 2816 → EReal) (wd : Fin 2816 → Fin 1024 → EReal) (k : Fin 1024) :
    ffn u wg wu wd k
      = ffn u (fun k (c : Fin 1024) => wg k ⟨c.val, by omega⟩) (fun k (c : Fin 1024) => wu k ⟨c.val, by omega⟩) (fun (c : Fin 1024) k => wd ⟨c.val, by omega⟩ k) k
        + ffn u (fun k (c : Fin 1024) => wg k ⟨1024 + c.val, by omega⟩) (fun k (c : Fin 1024) => wu k ⟨1024 + c.val, by omega⟩) (fun (c : Fin 1024) k => wd ⟨1024 + c.val, by omega⟩ k) k
        + ffn u (fun k (c : Fin 768) => wg k ⟨2048 + c.val, by omega⟩) (fun k (c : Fin 768) => wu k ⟨2048 + c.val, by omega⟩) (fun (c : Fin 768) k => wd ⟨2048 + c.val, by omega⟩ k) k := by
  unfold ffn hid
  refine (Fin.sum_univ_add (a := 1024 + 1024) (b := 768) _).trans ?_
  refine congrArg₂ (· + ·) ((Fin.sum_univ_add (a := 1024) (b := 1024) _).trans ?_) rfl
  rfl

/-- A row's dot product with a weight of 1024 rows, in two halves. -/
theorem dot_split (f : Fin 1024 → EReal) : ∑ k, f k = (∑ k : Fin 512, f ⟨k.val, by omega⟩) + ∑ k : Fin 512, f ⟨512 + k.val, by omega⟩ :=
  Fin.sum_univ_add (a := 512) (b := 512) f

/-- The row the layer's second half ends at: projection with residual, lnorm, feed-forward with residual, norm. -/
def row (y x : Fin 1024 → EReal) (md : Fin 6 → Fin 1024 → EReal) (g1 b1 g2 b2 : Fin 1024 → EReal)
    (wg wu : Fin 1024 → Fin 2816 → EReal) (wd : Fin 2816 → Fin 1024 → EReal) : Fin 1024 → EReal :=
  let x1 := lnorm (fun k => alpha * x k + md 2 k * y k) g1 b1
  lnorm (fun k => alpha * x1 k + md 5 k * ffn (fun k => x1 k * (1 + md 4 k) + md 3 k) wg wu wd k) g2 b2

end Cert.Rows
-- ==== Proof.MlpPays.lean ====
module

public import proofs.«01_k».proof.Defs
public import proofs.«01_k».proof.Proof.Gen.MlpIdeal.Value
public import proofs.«01_k».proof.Proof.Rows
public import Idealize.ShloMosaic.Lib.Pipeline.Value
public import Idealize.ShloMosaic.Lib.Pointwise
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpIdeal.Hand

open Cert.MlpIdeal Cert.MlpIdeal.Gen Cert.Rows

/-- The projection of a row of the first half block. -/
theorem pay1_apply (v0 : Vec Ideal S1x256x512 .bf16) (v2 : Vec Ideal S512x1024 .bf16) (v5 : Vec Ideal S1x256x512 .bf16) (v7 : Vec Ideal S512x1024 .bf16) (r : Fin 256) (k : Fin 1024) :
    k0_pay1 v0 v2 v5 v7 (ix2 r k) = (∑ l : Fin 512, v0 (ix3 0 r l) * v2 (ix2 l k)) + ∑ l : Fin 512, v5 (ix3 0 r l) * v7 (ix2 l k) := by
  pointwise [k0_pay1]

/-- The projection of a row of the second half block. -/
theorem pay2_apply (v0 : Vec Ideal S1x256x512 .bf16) (v2 : Vec Ideal S512x1024 .bf16) (v5 : Vec Ideal S1x256x512 .bf16) (v7 : Vec Ideal S512x1024 .bf16) (r : Fin 256) (k : Fin 1024) :
    k0_pay2 v0 v2 v5 v7 (ix2 r k) = (∑ l : Fin 512, v0 (ix3 0 r l) * v2 (ix2 l k)) + ∑ l : Fin 512, v5 (ix3 0 r l) * v7 (ix2 l k) := by
  pointwise [k0_pay2]

/-- The scaled input. -/
theorem pay3_apply (v22 : Vec Ideal S1x256x1024 .f32) (r : Fin 256) (k : Fin 1024) : k0_pay3 v22 (ix2 r k) = alpha * v22 (ix3 0 r k) := by
  unfold alpha
  pointwise [k0_pay3]

/-- The first norm of a row of the first half block. -/
theorem pay4_apply (v10 v25 : FVec Ideal S256x1024 .f32) (v26 : Vec Ideal S1x1x1024 .f32) (v31 v33 : Vec Ideal S1x1024 .f32) (r : Fin 256) (k : Fin 1024) :
    k0_pay4 v10 v25 v26 v31 v33 (ix2 r k)
      = lnorm (fun k => v25 (ix2 r k) + v26 (ix3 0 0 k) * v10 (ix2 r k)) (fun k => v31 (ix2 0 k)) (fun k => v33 (ix2 0 k)) k := by
  unfold lnorm mean
  pointwise [k0_pay4]

/-- The modulated row of the first half block. -/
theorem pay5_apply (v10 v25 : FVec Ideal S256x1024 .f32) (v26 : Vec Ideal S1x1x1024 .f32) (v31 v33 : Vec Ideal S1x1024 .f32) (v55 v61 : Vec Ideal S1x1x1024 .f32) (r : Fin 256) (k : Fin 1024) :
    k0_pay5 v10 v25 v26 v31 v33 v55 v61 (ix2 r k) = k0_pay4 v10 v25 v26 v31 v33 (ix2 r k) * (1 + v55 (ix3 0 0 k)) + v61 (ix3 0 0 k) := by
  pointwise [k0_pay5]

/-- The first two blocks of hid units of a row of the first half block. -/
theorem pay7_apply (v65 : FVec Ideal S256x1024 .bf16) (v67 v69 v76 v79 v82 v89 : Vec Ideal S1024x1024 .bf16) (r : Fin 256) (k : Fin 1024) :
    k0_pay7 v65 (k0_pay6 v67) (constant S256x1024 .f32 0x00000000#32) v69 v76 v79 v82 v89 (ix2 r k)
      = ffn (fun k => v65 (ix2 r k)) (fun k c => v67 (ix2 k c)) (fun k c => v69 (ix2 k c)) (fun c k => v76 (ix2 c k)) k
        + ffn (fun k => v65 (ix2 r k)) (fun k c => v79 (ix2 k c)) (fun k c => v82 (ix2 k c)) (fun c k => v89 (ix2 c k)) k := by
  unfold ffn hid
  pointwise [k0_pay7, k0_pay6]
  simp only [Ideal.logistic]

/-- The last block of hid units added, first half block. -/
theorem pay10_apply (v92 : FVec Ideal S256x1024 .f32) (v65 : FVec Ideal S256x1024 .bf16) (v93 v96 : Vec Ideal S1024x768 .bf16) (v103 : Vec Ideal S768x1024 .bf16) (r : Fin 256) (k : Fin 1024) :
    k0_pay10 v92 (k0_pay8 v65 v93 v96) (k0_pay9 v103) (ix2 r k)
      = v92 (ix2 r k) + ffn (fun k => v65 (ix2 r k)) (fun k c => v93 (ix2 k c)) (fun k c => v96 (ix2 k c)) (fun c k => v103 (ix2 c k)) k := by
  unfold ffn hid
  pointwise [k0_pay10, k0_pay8, k0_pay9]
  simp only [Ideal.logistic]

/-- The first norm of a row of the second half block. -/
theorem pay11_apply (v21 : FVec Ideal S256x1024 .f32) (v107 : Vec Ideal S1x256x1024 .f32) (v111 : Vec Ideal S1x1x1024 .f32) (v116 v118 : Vec Ideal S1x1024 .f32) (r : Fin 256) (k : Fin 1024) :
    k0_pay11 v21 v107 v111 v116 v118 (ix2 r k)
      = lnorm (fun k => alpha * v107 (ix3 0 r k) + v111 (ix3 0 0 k) * v21 (ix2 r k)) (fun k => v116 (ix2 0 k)) (fun k => v118 (ix2 0 k)) k := by
  unfold lnorm mean alpha
  pointwise [k0_pay11]

/-- The modulated row of the second half block. -/
theorem pay13_apply (v139 : FVec Ideal S256x1024 .f32) (v140 v146 : Vec Ideal S1x1x1024 .f32) (r : Fin 256) (k : Fin 1024) :
    k0_pay13 v139 (k0_pay12 v140) v146 (ix2 r k) = v139 (ix2 r k) * (1 + v140 (ix3 0 0 k)) + v146 (ix3 0 0 k) := by
  pointwise [k0_pay13, k0_pay12]

/-- The first two blocks of hid units of a row of the second half block. -/
theorem pay14_apply (v139 : FVec Ideal S256x1024 .f32) (v143 : FVec Ideal S1x1024 .f32) (v146 : Vec Ideal S1x1x1024 .f32) (v67 v69 v76 v79 v82 v89 : Vec Ideal S1024x1024 .bf16) (r : Fin 256) (k : Fin 1024) :
    k0_pay14 v139 v143 v146 v67 v69 v76 v79 v82 v89 (ix2 r k)
      = ffn (fun k => k0_pay13 v139 v143 v146 (ix2 r k)) (fun k c => v67 (ix2 k c)) (fun k c => v69 (ix2 k c)) (fun c k => v76 (ix2 c k)) k
        + ffn (fun k => k0_pay13 v139 v143 v146 (ix2 r k)) (fun k c => v79 (ix2 k c)) (fun k c => v82 (ix2 k c)) (fun c k => v89 (ix2 c k)) k := by
  unfold ffn hid
  pointwise [k0_pay14]
  simp only [Ideal.logistic]

/-- The last block of hid units added, second half block. -/
theorem pay16_apply (v150 : FVec Ideal S256x1024 .bf16) (v177 : FVec Ideal S256x1024 .f32) (v93 v96 : Vec Ideal S1024x768 .bf16) (v103 : Vec Ideal S768x1024 .bf16) (r : Fin 256) (k : Fin 1024) :
    k0_pay16 v150 v177 (k0_pay15 v93) (constant S256x768 .f32 0x00000000#32) v96 v103 (ix2 r k)
      = v177 (ix2 r k) + ffn (fun k => v150 (ix2 r k)) (fun k c => v93 (ix2 k c)) (fun k c => v96 (ix2 k c)) (fun c k => v103 (ix2 c k)) k := by
  unfold ffn hid
  pointwise [k0_pay16, k0_pay15]
  simp only [Ideal.logistic]

/-- What the first half block stores. -/
theorem pay19_apply (v201 : Vec Ideal S1x1024 .f32) (v54 v106 : FVec Ideal S256x1024 .f32) (v194 : Vec Ideal S1x1x1024 .f32) (v199 : Vec Ideal S1x1024 .f32) (r : Fin 256) (k : Fin 1024) :
    k0_pay19 (k0_pay17 v201) (k0_pay18 v54 v106 v194 v199) (ix3 0 r k)
      = lnorm (fun k => alpha * v54 (ix2 r k) + v194 (ix3 0 0 k) * v106 (ix2 r k)) (fun k => v199 (ix2 0 k)) (fun k => v201 (ix2 0 k)) k := by
  unfold lnorm mean alpha
  pointwise [k0_pay19, k0_pay17, k0_pay18]

/-- What the second half block stores. -/
theorem pay20_apply (v139 v191 : FVec Ideal S256x1024 .f32) (v228 : Vec Ideal S1x1x1024 .f32) (v233 v235 : Vec Ideal S1x1024 .f32) (r : Fin 256) (k : Fin 1024) :
    k0_pay20 v139 v191 v228 v233 v235 (ix3 0 r k)
      = lnorm (fun k => alpha * v139 (ix2 r k) + v228 (ix3 0 0 k) * v191 (ix2 r k)) (fun k => v233 (ix2 0 k)) (fun k => v235 (ix2 0 k)) k := by
  unfold lnorm mean alpha
  pointwise [k0_pay20]

end Cert.MlpIdeal.Hand
end
-- ==== Proof.MlpRefs.lean ====
module

public import proofs.«01_k».proof.Defs
public import proofs.«01_k».proof.Proof.Gen.MlpRefIdeal.Run
public import proofs.«01_k».proof.Proof.Gen.MlpRefIdeal.Read
public import proofs.«01_k».proof.Proof.Rows
public import Idealize.ShloMosaic.Lib.Pipeline.Value
public import Idealize.ShloMosaic.Lib.Pointwise
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpRefIdeal.Hand

open Cert.MlpRefIdeal Cert.Rows

/-- A row of the six modulation vectors. -/
def md (x3 : FVec Ideal S4x6144 .f32) (b : Fin 4) (j : Fin 6) (k : Fin 1024) : EReal := x3 (ix2 b ⟨j.val * 1024 + k.val, by omega⟩)

/-- A row's projection. -/
def proj (x0 x1 : FVec Ideal S4x4096x512 .bf16) (x4 : FVec Ideal S1x1024x1024 .f32) (b : Fin 4) (s : Fin 4096) (k : Fin 1024) : EReal :=
  (∑ l : Fin 512, x0 (ix3 b s l) * x4 (ix3 0 ⟨l.val, by omega⟩ k)) + ∑ l : Fin 512, x1 (ix3 b s l) * x4 (ix3 0 ⟨512 + l.val, by omega⟩ k)

theorem v9_left (x0 x1 : FVec Ideal S4x4096x512 .bf16) (b : Fin 4) (s : Fin 4096) (l : Fin 512) (h) :
    Read.val_main_v9 (F := Ideal) x0 x1 (ix3 b s ⟨l.val, h⟩) = x0 (ix3 b s l) := by
  pointwise [Cert.MlpRefIdeal.Read.val_main_v9, Cert.MlpRefIdeal.Read.val_main_v8, Cert.MlpRefIdeal.Read.val_main_v7]

theorem v9_right (x0 x1 : FVec Ideal S4x4096x512 .bf16) (b : Fin 4) (s : Fin 4096) (l : Fin 512) (h) :
    Read.val_main_v9 (F := Ideal) x0 x1 (ix3 b s ⟨512 + l.val, h⟩) = x1 (ix3 b s l) := by
  pointwise [Cert.MlpRefIdeal.Read.val_main_v9, Cert.MlpRefIdeal.Read.val_main_v8, Cert.MlpRefIdeal.Read.val_main_v7]

theorem v13_apply (x0 x1 : FVec Ideal S4x4096x512 .bf16) (x4 : FVec Ideal S1x1024x1024 .f32) (b : Fin 4) (s : Fin 4096) (k : Fin 1024) :
    Read.val_main_v13 (F := Ideal) x0 x1 x4 (ix3 b s k) = proj x0 x1 x4 b s k := by
  have e : Read.val_main_v13 (F := Ideal) x0 x1 x4 (ix3 b s k) = ∑ l : Fin 1024, Read.val_main_v9 (F := Ideal) x0 x1 (ix3 b s l) * x4 (ix3 0 l k) := by
    pointwise [Cert.MlpRefIdeal.Read.val_main_v13, Cert.MlpRefIdeal.Read.val_main_v12]
  refine e.trans ((dot_split _).trans ?_)
  unfold proj
  refine congrArg₂ (· + ·) (Finset.sum_congr rfl fun l _ => ?_) (Finset.sum_congr rfl fun l _ => ?_)
  · rw [v9_left]
  · rw [v9_right]

/-- The first norm's row before it. -/
theorem v16_apply (x0 x1 : FVec Ideal S4x4096x512 .bf16) (x2 : FVec Ideal S4x4096x1024 .f32) (x3 : FVec Ideal S4x6144 .f32) (x4 : FVec Ideal S1x1024x1024 .f32) (b : Fin 4) (s : Fin 4096) (k : Fin 1024) :
    Read.val_main_v16 (F := Ideal) x0 x1 x2 x3 x4 (ix3 b s k) = alpha * x2 (ix3 b s k) + md x3 b 2 k * Read.val_main_v13 (F := Ideal) x0 x1 x4 (ix3 b s k) := by
  unfold alpha md
  pointwise [Cert.MlpRefIdeal.Read.val_main_v16, Cert.MlpRefIdeal.Read.val_main_v15, Cert.MlpRefIdeal.Read.val_main_v14, Cert.MlpRefIdeal.Read.val_main_v11, Cert.MlpRefIdeal.Read.val_main_v10, Cert.MlpRefIdeal.Read.val_main_cst, Cert.MlpRefIdeal.Read.val_main_v3, Cert.MlpRefIdeal.Read.val_main_v0]

/-- The first norm's row. -/
theorem v42_apply (x0 x1 : FVec Ideal S4x4096x512 .bf16) (x2 : FVec Ideal S4x4096x1024 .f32) (x3 : FVec Ideal S4x6144 .f32) (x4 : FVec Ideal S1x1024x1024 .f32) (x5 x6 : FVec Ideal S1x1024 .f32) (b : Fin 4) (s : Fin 4096) (k : Fin 1024) :
    Read.val_main_v42 (F := Ideal) x0 x1 x2 x3 x4 x5 x6 (ix3 b s k)
      = lnorm (fun k => Read.val_main_v16 (F := Ideal) x0 x1 x2 x3 x4 (ix3 b s k)) (fun k => x5 (ix2 0 k)) (fun k => x6 (ix2 0 k)) k := by
  unfold lnorm mean
  pointwise [Cert.MlpRefIdeal.Read.val_main_v42, Cert.MlpRefIdeal.Read.val_main_v41, Cert.MlpRefIdeal.Read.val_main_v40, Cert.MlpRefIdeal.Read.val_main_v39, Cert.MlpRefIdeal.Read.val_main_v38, Cert.MlpRefIdeal.Read.val_main_v37, Cert.MlpRefIdeal.Read.val_main_v36, Cert.MlpRefIdeal.Read.val_main_v35, Cert.MlpRefIdeal.Read.val_main_v34, Cert.MlpRefIdeal.Read.val_main_v33, Cert.MlpRefIdeal.Read.val_main_v32, Cert.MlpRefIdeal.Read.val_main_v31, Cert.MlpRefIdeal.Read.val_main_v30, Cert.MlpRefIdeal.Read.val_main_v29, Cert.MlpRefIdeal.Read.val_main_v28, Cert.MlpRefIdeal.Read.val_main_v27, Cert.MlpRefIdeal.Read.val_main_v26, Cert.MlpRefIdeal.Read.val_main_v25, Cert.MlpRefIdeal.Read.val_main_v24, Cert.MlpRefIdeal.Read.val_main_v23, Cert.MlpRefIdeal.Read.val_main_v22, Cert.MlpRefIdeal.Read.val_main_v21, Cert.MlpRefIdeal.Read.val_main_v20, Cert.MlpRefIdeal.Read.val_main_v19, Cert.MlpRefIdeal.Read.val_main_v18, Cert.MlpRefIdeal.Read.val_main_v17, Cert.MlpRefIdeal.Read.val_main_cst_0, Cert.MlpRefIdeal.Read.val_main_cst_1, Cert.MlpRefIdeal.Read.val_main_cst_2, Cert.MlpRefIdeal.Read.val_main_cst_3, Cert.MlpRefIdeal.Read.val_main_cst_4]

/-- The feed-forward's input row. -/
theorem v48_apply (x0 x1 : FVec Ideal S4x4096x512 .bf16) (x2 : FVec Ideal S4x4096x1024 .f32) (x3 : FVec Ideal S4x6144 .f32) (x4 : FVec Ideal S1x1024x1024 .f32) (x5 x6 : FVec Ideal S1x1024 .f32) (b : Fin 4) (s : Fin 4096) (k : Fin 1024) :
    Read.val_main_v48 (F := Ideal) x0 x1 x2 x3 x4 x5 x6 (ix3 b s k)
      = Read.val_main_v42 (F := Ideal) x0 x1 x2 x3 x4 x5 x6 (ix3 b s k) * (1 + md x3 b 4 k) + md x3 b 3 k := by
  unfold md
  pointwise [Cert.MlpRefIdeal.Read.val_main_v48, Cert.MlpRefIdeal.Read.val_main_v47, Cert.MlpRefIdeal.Read.val_main_v46, Cert.MlpRefIdeal.Read.val_main_v45, Cert.MlpRefIdeal.Read.val_main_v44, Cert.MlpRefIdeal.Read.val_main_v43, Cert.MlpRefIdeal.Read.val_main_cst_5, Cert.MlpRefIdeal.Read.val_main_v5, Cert.MlpRefIdeal.Read.val_main_v4, Cert.MlpRefIdeal.Read.val_main_v0]

/-- The feed-forward's row. -/
theorem v56_apply (x0 x1 : FVec Ideal S4x4096x512 .bf16) (x2 : FVec Ideal S4x4096x1024 .f32) (x3 : FVec Ideal S4x6144 .f32) (x4 : FVec Ideal S1x1024x1024 .f32) (x5 x6 : FVec Ideal S1x1024 .f32) (x7 x8 : FVec Ideal S1x1024x2816 .f32) (x9 : FVec Ideal S1x2816x1024 .f32) (b : Fin 4) (s : Fin 4096) (k : Fin 1024) :
    Read.val_main_v56 (F := Ideal) x0 x1 x2 x3 x4 x5 x6 x7 x8 x9 (ix3 b s k)
      = ffn (fun k => Read.val_main_v48 (F := Ideal) x0 x1 x2 x3 x4 x5 x6 (ix3 b s k)) (fun k c => x7 (ix3 0 k c)) (fun k c => x8 (ix3 0 k c)) (fun c k => x9 (ix3 0 c k)) k := by
  unfold ffn hid
  pointwise [Cert.MlpRefIdeal.Read.val_main_v56, Cert.MlpRefIdeal.Read.val_main_v55, Cert.MlpRefIdeal.Read.val_main_v54, Cert.MlpRefIdeal.Read.val_main_v53, Cert.MlpRefIdeal.Read.val_main_v52, Cert.MlpRefIdeal.Read.val_main_v51, Cert.MlpRefIdeal.Read.val_main_v50, Cert.MlpRefIdeal.Read.val_main_v49, Cert.MlpRefIdeal.Read.val_main_call0_v0, Cert.MlpRefIdeal.Read.val_main_call0_v1, Cert.MlpRefIdeal.Read.val_main_call0_v2, Cert.MlpRefIdeal.Read.val_main_call0_v3, Cert.MlpRefIdeal.Read.val_main_call0_v4, Cert.MlpRefIdeal.Read.val_main_call0_v5, Cert.MlpRefIdeal.Read.val_main_call0_cst, Cert.MlpRefIdeal.Read.val_main_call0_cst_0]

/-- The second norm's row before it. -/
theorem v61_apply (x0 x1 : FVec Ideal S4x4096x512 .bf16) (x2 : FVec Ideal S4x4096x1024 .f32) (x3 : FVec Ideal S4x6144 .f32) (x4 : FVec Ideal S1x1024x1024 .f32) (x5 x6 : FVec Ideal S1x1024 .f32) (x7 x8 : FVec Ideal S1x1024x2816 .f32) (x9 : FVec Ideal S1x2816x1024 .f32) (b : Fin 4) (s : Fin 4096) (k : Fin 1024) :
    Read.val_main_v61 (F := Ideal) x0 x1 x2 x3 x4 x5 x6 x7 x8 x9 (ix3 b s k)
      = alpha * Read.val_main_v42 (F := Ideal) x0 x1 x2 x3 x4 x5 x6 (ix3 b s k) + md x3 b 5 k * Read.val_main_v56 (F := Ideal) x0 x1 x2 x3 x4 x5 x6 x7 x8 x9 (ix3 b s k) := by
  unfold alpha md
  pointwise [Cert.MlpRefIdeal.Read.val_main_v61, Cert.MlpRefIdeal.Read.val_main_v60, Cert.MlpRefIdeal.Read.val_main_v59, Cert.MlpRefIdeal.Read.val_main_v58, Cert.MlpRefIdeal.Read.val_main_v57, Cert.MlpRefIdeal.Read.val_main_cst_6, Cert.MlpRefIdeal.Read.val_main_v6, Cert.MlpRefIdeal.Read.val_main_v0]

/-- The second norm's row. -/
theorem v87_norm (x0 x1 : FVec Ideal S4x4096x512 .bf16) (x2 : FVec Ideal S4x4096x1024 .f32) (x3 : FVec Ideal S4x6144 .f32) (x4 : FVec Ideal S1x1024x1024 .f32) (x5 x6 : FVec Ideal S1x1024 .f32) (x7 x8 : FVec Ideal S1x1024x2816 .f32) (x9 : FVec Ideal S1x2816x1024 .f32) (x10 x11 : FVec Ideal S1x1024 .f32) (b : Fin 4) (s : Fin 4096) (k : Fin 1024) :
    Read.val_main_v87 (F := Ideal) x0 x1 x2 x3 x4 x5 x6 x7 x8 x9 x10 x11 (ix3 b s k)
      = lnorm (fun k => Read.val_main_v61 (F := Ideal) x0 x1 x2 x3 x4 x5 x6 x7 x8 x9 (ix3 b s k)) (fun k => x10 (ix2 0 k)) (fun k => x11 (ix2 0 k)) k := by
  unfold lnorm mean
  pointwise [Cert.MlpRefIdeal.Read.val_main_v87, Cert.MlpRefIdeal.Read.val_main_v86, Cert.MlpRefIdeal.Read.val_main_v85, Cert.MlpRefIdeal.Read.val_main_v84, Cert.MlpRefIdeal.Read.val_main_v83, Cert.MlpRefIdeal.Read.val_main_v82, Cert.MlpRefIdeal.Read.val_main_v81, Cert.MlpRefIdeal.Read.val_main_v80, Cert.MlpRefIdeal.Read.val_main_v79, Cert.MlpRefIdeal.Read.val_main_v78, Cert.MlpRefIdeal.Read.val_main_v77, Cert.MlpRefIdeal.Read.val_main_v76, Cert.MlpRefIdeal.Read.val_main_v75, Cert.MlpRefIdeal.Read.val_main_v74, Cert.MlpRefIdeal.Read.val_main_v73, Cert.MlpRefIdeal.Read.val_main_v72, Cert.MlpRefIdeal.Read.val_main_v71, Cert.MlpRefIdeal.Read.val_main_v70, Cert.MlpRefIdeal.Read.val_main_v69, Cert.MlpRefIdeal.Read.val_main_v68, Cert.MlpRefIdeal.Read.val_main_v67, Cert.MlpRefIdeal.Read.val_main_v66, Cert.MlpRefIdeal.Read.val_main_v65, Cert.MlpRefIdeal.Read.val_main_v64, Cert.MlpRefIdeal.Read.val_main_v63, Cert.MlpRefIdeal.Read.val_main_v62, Cert.MlpRefIdeal.Read.val_main_cst_7, Cert.MlpRefIdeal.Read.val_main_cst_8, Cert.MlpRefIdeal.Read.val_main_cst_9, Cert.MlpRefIdeal.Read.val_main_cst_10, Cert.MlpRefIdeal.Read.val_main_cst_11]

/-- The reference's result at an index, as the row its parts compose. -/
theorem v87_apply (x0 x1 : FVec Ideal S4x4096x512 .bf16) (x2 : FVec Ideal S4x4096x1024 .f32) (x3 : FVec Ideal S4x6144 .f32) (x4 : FVec Ideal S1x1024x1024 .f32) (x5 x6 : FVec Ideal S1x1024 .f32) (x7 x8 : FVec Ideal S1x1024x2816 .f32) (x9 : FVec Ideal S1x2816x1024 .f32) (x10 x11 : FVec Ideal S1x1024 .f32) (b : Fin 4) (s : Fin 4096) (k : Fin 1024) :
    Read.val_main_v87 (F := Ideal) x0 x1 x2 x3 x4 x5 x6 x7 x8 x9 x10 x11 (ix3 b s k)
      = row (proj x0 x1 x4 b s) (fun k => x2 (ix3 b s k)) (md x3 b) (fun k => x5 (ix2 0 k)) (fun k => x6 (ix2 0 k)) (fun k => x10 (ix2 0 k)) (fun k => x11 (ix2 0 k))
          (fun k c => x7 (ix3 0 k c)) (fun k c => x8 (ix3 0 k c)) (fun c k => x9 (ix3 0 c k)) k := by
  rw [v87_norm]
  unfold row
  simp only [v61_apply, v56_apply, v48_apply, v42_apply, v16_apply, v13_apply]

end Cert.MlpRefIdeal.Hand
end
-- ==== Proof.MlpBlocks.lean ====
module

public import proofs.«01_k».proof.Defs
public import proofs.«01_k».proof.Proof.MlpPays
public import proofs.«01_k».proof.Proof.MlpRefs
public import Idealize.ShloMosaic.Lib.Pipeline.Value
public import Idealize.ShloMosaic.Lib.Pointwise
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpIdeal.Hand

open Cert.MlpIdeal Cert.MlpIdeal.Gen Cert.Rows

variable (m : (ℓ : Loc nD τ sig) → Buf (Elt Ideal) ℓ) (ρ : Dev nD → PrngReg)

/-! ## The staged arrays of the host operations -/

/-- The modulation's staged array at an index. -/
theorem mod_apply (c : Dev nD) (b : Fin 4) (j : Fin 6) (k : Fin 1024) :
    (V m c main_v2 : FVec Ideal S4x6x1024 .f32) (ix3 b j k)
      = (m ((c : Thread nD τ).loc main_arg3) : FVec Ideal S4x6144 .f32) (ix2 b ⟨j.val * 1024 + k.val, by omega⟩) := by
  unfold V hostOps0
  after_reads_at

/-- The projection's upper half. -/
theorem w1_apply (c : Dev nD) (l : Fin 512) (k : Fin 1024) :
    (V m c main_v3 : FVec Ideal S512x1024 .bf16) (ix2 l k)
      = (m ((c : Thread nD τ).loc main_arg4) : FVec Ideal S1x1024x1024 .f32) (ix3 0 ⟨l.val, by omega⟩ k) := by
  unfold V hostOps0
  after_reads_at

/-- The projection's lower half. -/
theorem w2_apply (c : Dev nD) (l : Fin 512) (k : Fin 1024) :
    (V m c main_v4 : FVec Ideal S512x1024 .bf16) (ix2 l k)
      = (m ((c : Thread nD τ).loc main_arg4) : FVec Ideal S1x1024x1024 .f32) (ix3 0 ⟨512 + l.val, by omega⟩ k) := by
  unfold V hostOps0
  after_reads_at

/-- The first norm's gain. -/
theorem v6_apply (c : Dev nD) (k : Fin 1024) :
    (V m c main_v6 : FVec Ideal S1x1024 .f32) (ix2 0 k) = (m ((c : Thread nD τ).loc main_arg5) : FVec Ideal S1x1024 .f32) (ix2 0 k) := by
  unfold V hostOps0
  after_reads_at

/-- The first norm's bias. -/
theorem v8_apply (c : Dev nD) (k : Fin 1024) :
    (V m c main_v8 : FVec Ideal S1x1024 .f32) (ix2 0 k) = (m ((c : Thread nD τ).loc main_arg6) : FVec Ideal S1x1024 .f32) (ix2 0 k) := by
  unfold V hostOps0
  after_reads_at

/-- The second norm's gain. -/
theorem v16_apply (c : Dev nD) (k : Fin 1024) :
    (V m c main_v16 : FVec Ideal S1x1024 .f32) (ix2 0 k) = (m ((c : Thread nD τ).loc main_arg10) : FVec Ideal S1x1024 .f32) (ix2 0 k) := by
  unfold V hostOps0
  after_reads_at

/-- The second norm's bias. -/
theorem v18_apply (c : Dev nD) (k : Fin 1024) :
    (V m c main_v18 : FVec Ideal S1x1024 .f32) (ix2 0 k) = (m ((c : Thread nD τ).loc main_arg11) : FVec Ideal S1x1024 .f32) (ix2 0 k) := by
  unfold V hostOps0
  after_reads_at

/-- The gate's weight. -/
theorem v10_apply (c : Dev nD) (k : Fin 1024) (l : Fin 2816) :
    (V m c main_v10 : FVec Ideal S1024x2816 .bf16) (ix2 k l) = (m ((c : Thread nD τ).loc main_arg7) : FVec Ideal S1x1024x2816 .f32) (ix3 0 k l) := by
  unfold V hostOps0
  after_reads_at

/-- The up weight. -/
theorem v12_apply (c : Dev nD) (k : Fin 1024) (l : Fin 2816) :
    (V m c main_v12 : FVec Ideal S1024x2816 .bf16) (ix2 k l) = (m ((c : Thread nD τ).loc main_arg8) : FVec Ideal S1x1024x2816 .f32) (ix3 0 k l) := by
  unfold V hostOps0
  after_reads_at

/-- The down weight. -/
theorem v14_apply (c : Dev nD) (k : Fin 2816) (l : Fin 1024) :
    (V m c main_v14 : FVec Ideal S2816x1024 .bf16) (ix2 k l) = (m ((c : Thread nD τ).loc main_arg9) : FVec Ideal S1x2816x1024 .f32) (ix3 0 k l) := by
  unfold V hostOps0
  after_reads_at

/-! ## The blocks of a grid point -/

theorem lt_N (t : Fin cfg0.N) : t.val < 32 := by have := t.isLt; have h : cfg0.N = 32 := N_0; omega

theorem idx0 : ∀ t : Fin cfg0.N, win0_0.index t 0 = t.val / 8 ∧ win0_0.index t 1 = t.val % 8 ∧ win0_0.index t 2 = 0 := by decide +kernel
theorem idx1 : ∀ t : Fin cfg0.N, win0_1.index t 0 = t.val / 8 ∧ win0_1.index t 1 = t.val % 8 ∧ win0_1.index t 2 = 0 := by decide +kernel
theorem idx2 : ∀ t : Fin cfg0.N, win0_2.index t 0 = t.val / 8 ∧ win0_2.index t 1 = t.val % 8 ∧ win0_2.index t 2 = 0 := by decide +kernel
theorem idx13 : ∀ t : Fin cfg0.N, win0_13.index t 0 = t.val / 8 ∧ win0_13.index t 1 = t.val % 8 ∧ win0_13.index t 2 = 0 := by decide +kernel
theorem idx3 : ∀ t : Fin cfg0.N, win0_3.index t 0 = t.val / 8 ∧ win0_3.index t 1 = 0 ∧ win0_3.index t 2 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx11 : ∀ t : Fin cfg0.N, win0_11.index t 0 = 0 ∧ win0_11.index t 1 = 0 := by decide +kernel
theorem idx12 : ∀ t : Fin cfg0.N, win0_12.index t 0 = 0 ∧ win0_12.index t 1 = 0 := by decide +kernel

theorem blk0 (c : Dev nD) (t : Fin cfg0.N) (r : Fin 512) (k : Fin 512) :
    (iblk m c 0 t : FVec Ideal S1x512x512 .bf16) (ix3 0 r k)
      = (m ((c : Thread nD τ).loc main_arg0) : FVec Ideal S4x4096x512 .bf16)
          (ix3 ⟨t.val / 8, by have := lt_N t; omega⟩ ⟨t.val % 8 * 512 + r.val, by omega⟩ k) := by
  show V m c main_arg0 ((win0_0.rect t).emb (ix3 0 r k)) = _
  rw [V_main_arg0]
  congr 1
  funext a
  apply Fin.ext
  have e := idx0 t
  match a with
  | ⟨0, _⟩ => exact (win0_0.rect_emb_val t _ 0).trans (by rw [e.1]; show t.val / 8 * 1 + 0 = t.val / 8; omega)
  | ⟨1, _⟩ => exact (win0_0.rect_emb_val t _ 1).trans (by rw [e.2.1]; rfl)
  | ⟨2, _⟩ => exact (win0_0.rect_emb_val t _ 2).trans (by rw [e.2.2]; show 0 * 512 + k.val = k.val; omega)

theorem blk1 (c : Dev nD) (t : Fin cfg0.N) (r : Fin 512) (k : Fin 512) :
    (iblk m c 1 t : FVec Ideal S1x512x512 .bf16) (ix3 0 r k)
      = (m ((c : Thread nD τ).loc main_arg1) : FVec Ideal S4x4096x512 .bf16)
          (ix3 ⟨t.val / 8, by have := lt_N t; omega⟩ ⟨t.val % 8 * 512 + r.val, by omega⟩ k) := by
  show V m c main_arg1 ((win0_1.rect t).emb (ix3 0 r k)) = _
  rw [V_main_arg1]
  congr 1
  funext a
  apply Fin.ext
  have e := idx1 t
  match a with
  | ⟨0, _⟩ => exact (win0_1.rect_emb_val t _ 0).trans (by rw [e.1]; show t.val / 8 * 1 + 0 = t.val / 8; omega)
  | ⟨1, _⟩ => exact (win0_1.rect_emb_val t _ 1).trans (by rw [e.2.1]; rfl)
  | ⟨2, _⟩ => exact (win0_1.rect_emb_val t _ 2).trans (by rw [e.2.2]; show 0 * 512 + k.val = k.val; omega)

theorem blk2 (c : Dev nD) (t : Fin cfg0.N) (r : Fin 512) (k : Fin 1024) :
    (iblk m c 2 t : FVec Ideal S1x512x1024 .f32) (ix3 0 r k)
      = (m ((c : Thread nD τ).loc main_arg2) : FVec Ideal S4x4096x1024 .f32)
          (ix3 ⟨t.val / 8, by have := lt_N t; omega⟩ ⟨t.val % 8 * 512 + r.val, by omega⟩ k) := by
  show V m c main_arg2 ((win0_2.rect t).emb (ix3 0 r k)) = _
  rw [V_main_arg2]
  congr 1
  funext a
  apply Fin.ext
  have e := idx2 t
  match a with
  | ⟨0, _⟩ => exact (win0_2.rect_emb_val t _ 0).trans (by rw [e.1]; show t.val / 8 * 1 + 0 = t.val / 8; omega)
  | ⟨1, _⟩ => exact (win0_2.rect_emb_val t _ 1).trans (by rw [e.2.1]; rfl)
  | ⟨2, _⟩ => exact (win0_2.rect_emb_val t _ 2).trans (by rw [e.2.2]; show 0 * 1024 + k.val = k.val; omega)

theorem blk3 (c : Dev nD) (t : Fin cfg0.N) (j : Fin 6) (k : Fin 1024) :
    (iblk m c 3 t : FVec Ideal S1x6x1024 .f32) (ix3 0 j k)
      = Cert.MlpRefIdeal.Hand.md (m ((c : Thread nD τ).loc main_arg3) : FVec Ideal S4x6144 .f32) ⟨t.val / 8, by have := lt_N t; omega⟩ j k := by
  refine Eq.trans ?_ (mod_apply m c _ j k)
  show (V m c main_v2 : FVec Ideal S4x6x1024 .f32) ((win0_3.rect t).emb (ix3 0 j k)) = _
  congr 1
  funext a
  apply Fin.ext
  have e := idx3 t
  match a with
  | ⟨0, _⟩ => exact (win0_3.rect_emb_val t _ 0).trans (by rw [e.1]; show t.val / 8 * 1 + 0 = t.val / 8; omega)
  | ⟨1, _⟩ => exact (win0_3.rect_emb_val t _ 1).trans (by rw [e.2.1]; show 0 * 6 + j.val = j.val; omega)
  | ⟨2, _⟩ => exact (win0_3.rect_emb_val t _ 2).trans (by rw [e.2.2]; show 0 * 1024 + k.val = k.val; omega)

theorem blk4 (c : Dev nD) (t : Fin cfg0.N) (l : Fin 512) (k : Fin 1024) :
    (iblk m c 4 t : FVec Ideal S512x1024 .bf16) (ix2 l k) = (m ((c : Thread nD τ).loc main_arg4) : FVec Ideal S1x1024x1024 .f32) (ix3 0 ⟨l.val, by omega⟩ k) := by
  refine Eq.trans ?_ (w1_apply m c l k)
  show (V m c main_v3 : FVec Ideal S512x1024 .bf16) ((win0_4.rect t).emb (ix2 l k)) = _
  congr 1
  funext a
  apply Fin.ext
  have e := idx4 t
  match a with
  | ⟨0, _⟩ => exact (win0_4.rect_emb_val t _ 0).trans (by rw [e.1]; show 0 * 512 + l.val = l.val; omega)
  | ⟨1, _⟩ => exact (win0_4.rect_emb_val t _ 1).trans (by rw [e.2]; show 0 * 1024 + k.val = k.val; omega)

theorem blk5 (c : Dev nD) (t : Fin cfg0.N) (l : Fin 512) (k : Fin 1024) :
    (iblk m c 5 t : FVec Ideal S512x1024 .bf16) (ix2 l k) = (m ((c : Thread nD τ).loc main_arg4) : FVec Ideal S1x1024x1024 .f32) (ix3 0 ⟨512 + l.val, by omega⟩ k) := by
  refine Eq.trans ?_ (w2_apply m c l k)
  show (V m c main_v4 : FVec Ideal S512x1024 .bf16) ((win0_5.rect t).emb (ix2 l k)) = _
  congr 1
  funext a
  apply Fin.ext
  have e := idx5 t
  match a with
  | ⟨0, _⟩ => exact (win0_5.rect_emb_val t _ 0).trans (by rw [e.1]; show 0 * 512 + l.val = l.val; omega)
  | ⟨1, _⟩ => exact (win0_5.rect_emb_val t _ 1).trans (by rw [e.2]; show 0 * 1024 + k.val = k.val; omega)

theorem blk6 (c : Dev nD) (t : Fin cfg0.N) (k : Fin 1024) :
    (iblk m c 6 t : FVec Ideal S1x1024 .f32) (ix2 0 k) = (m ((c : Thread nD τ).loc main_arg5) : FVec Ideal S1x1024 .f32) (ix2 0 k) := by
  refine Eq.trans ?_ (v6_apply m c k)
  show (V m c main_v6 : FVec Ideal S1x1024 .f32) ((win0_6.rect t).emb (ix2 0 k)) = _
  congr 1
  funext a
  apply Fin.ext
  have e := idx6 t
  match a with
  | ⟨0, _⟩ => exact (win0_6.rect_emb_val t _ 0).trans (by rw [e.1]; show 0 * 1 + 0 = 0; omega)
  | ⟨1, _⟩ => exact (win0_6.rect_emb_val t _ 1).trans (by rw [e.2]; show 0 * 1024 + k.val = k.val; omega)

theorem blk7 (c : Dev nD) (t : Fin cfg0.N) (k : Fin 1024) :
    (iblk m c 7 t : FVec Ideal S1x1024 .f32) (ix2 0 k) = (m ((c : Thread nD τ).loc main_arg6) : FVec Ideal S1x1024 .f32) (ix2 0 k) := by
  refine Eq.trans ?_ (v8_apply m c k)
  show (V m c main_v8 : FVec Ideal S1x1024 .f32) ((win0_7.rect t).emb (ix2 0 k)) = _
  congr 1
  funext a
  apply Fin.ext
  have e := idx7 t
  match a with
  | ⟨0, _⟩ => exact (win0_7.rect_emb_val t _ 0).trans (by rw [e.1]; show 0 * 1 + 0 = 0; omega)
  | ⟨1, _⟩ => exact (win0_7.rect_emb_val t _ 1).trans (by rw [e.2]; show 0 * 1024 + k.val = k.val; omega)

theorem blk11 (c : Dev nD) (t : Fin cfg0.N) (k : Fin 1024) :
    (iblk m c 11 t : FVec Ideal S1x1024 .f32) (ix2 0 k) = (m ((c : Thread nD τ).loc main_arg10) : FVec Ideal S1x1024 .f32) (ix2 0 k) := by
  refine Eq.trans ?_ (v16_apply m c k)
  show (V m c main_v16 : FVec Ideal S1x1024 .f32) ((win0_11.rect t).emb (ix2 0 k)) = _
  congr 1
  funext a
  apply Fin.ext
  have e := idx11 t
  match a with
  | ⟨0, _⟩ => exact (win0_11.rect_emb_val t _ 0).trans (by rw [e.1]; show 0 * 1 + 0 = 0; omega)
  | ⟨1, _⟩ => exact (win0_11.rect_emb_val t _ 1).trans (by rw [e.2]; show 0 * 1024 + k.val = k.val; omega)

theorem blk12 (c : Dev nD) (t : Fin cfg0.N) (k : Fin 1024) :
    (iblk m c 12 t : FVec Ideal S1x1024 .f32) (ix2 0 k) = (m ((c : Thread nD τ).loc main_arg11) : FVec Ideal S1x1024 .f32) (ix2 0 k) := by
  refine Eq.trans ?_ (v18_apply m c k)
  show (V m c main_v18 : FVec Ideal S1x1024 .f32) ((win0_12.rect t).emb (ix2 0 k)) = _
  congr 1
  funext a
  apply Fin.ext
  have e := idx12 t
  match a with
  | ⟨0, _⟩ => exact (win0_12.rect_emb_val t _ 0).trans (by rw [e.1]; show 0 * 1 + 0 = 0; omega)
  | ⟨1, _⟩ => exact (win0_12.rect_emb_val t _ 1).trans (by rw [e.2]; show 0 * 1024 + k.val = k.val; omega)

theorem blk8 (c : Dev nD) (t : Fin cfg0.N) (k : Fin 1024) (l : Fin 2816) :
    (iblk m c 8 t : FVec Ideal S1024x2816 .bf16) (ix2 k l) = (m ((c : Thread nD τ).loc main_arg7) : FVec Ideal S1x1024x2816 .f32) (ix3 0 k l) := by
  refine Eq.trans ?_ (v10_apply m c k l)
  show (V m c main_v10 : FVec Ideal S1024x2816 .bf16) ((win0_8.rect t).emb (ix2 k l)) = _
  congr 1
  funext a
  apply Fin.ext
  have e := idx8 t
  match a with
  | ⟨0, _⟩ => exact (win0_8.rect_emb_val t _ 0).trans (by rw [e.1]; show 0 * 1024 + k.val = k.val; omega)
  | ⟨1, _⟩ => exact (win0_8.rect_emb_val t _ 1).trans (by rw [e.2]; show 0 * 2816 + l.val = l.val; omega)

theorem blk9 (c : Dev nD) (t : Fin cfg0.N) (k : Fin 1024) (l : Fin 2816) :
    (iblk m c 9 t : FVec Ideal S1024x2816 .bf16) (ix2 k l) = (m ((c : Thread nD τ).loc main_arg8) : FVec Ideal S1x1024x2816 .f32) (ix3 0 k l) := by
  refine Eq.trans ?_ (v12_apply m c k l)
  show (V m c main_v12 : FVec Ideal S1024x2816 .bf16) ((win0_9.rect t).emb (ix2 k l)) = _
  congr 1
  funext a
  apply Fin.ext
  have e := idx9 t
  match a with
  | ⟨0, _⟩ => exact (win0_9.rect_emb_val t _ 0).trans (by rw [e.1]; show 0 * 1024 + k.val = k.val; omega)
  | ⟨1, _⟩ => exact (win0_9.rect_emb_val t _ 1).trans (by rw [e.2]; show 0 * 2816 + l.val = l.val; omega)

theorem blk10 (c : Dev nD) (t : Fin cfg0.N) (k : Fin 2816) (l : Fin 1024) :
    (iblk m c 10 t : FVec Ideal S2816x1024 .bf16) (ix2 k l) = (m ((c : Thread nD τ).loc main_arg9) : FVec Ideal S1x2816x1024 .f32) (ix3 0 k l) := by
  refine Eq.trans ?_ (v14_apply m c k l)
  show (V m c main_v14 : FVec Ideal S2816x1024 .bf16) ((win0_10.rect t).emb (ix2 k l)) = _
  congr 1
  funext a
  apply Fin.ext
  have e := idx10 t
  match a with
  | ⟨0, _⟩ => exact (win0_10.rect_emb_val t _ 0).trans (by rw [e.1]; show 0 * 2816 + k.val = k.val; omega)
  | ⟨1, _⟩ => exact (win0_10.rect_emb_val t _ 1).trans (by rw [e.2]; show 0 * 1024 + l.val = l.val; omega)

end Cert.MlpIdeal.Hand
end
-- ==== Proof.Mlp.lean ====
module

public import proofs.«01_k».proof.Defs
public import proofs.«01_k».proof.Proof.MlpBlocks
public import Idealize.ShloMosaic.Lib.Pipeline.Value
public import Idealize.ShloMosaic.Lib.Pointwise
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpIdeal.Hand

open Cert.MlpIdeal Cert.MlpIdeal.Gen Cert.Rows

/-! ## The row of a block -/

/-- The row a grid point's blocks compose. -/
def blockRow (x0 x1 : Vec Ideal S1x512x512 .bf16) (x2 : Vec Ideal S1x512x1024 .f32) (x3 : Vec Ideal S1x6x1024 .f32) (x4 x5 : Vec Ideal S512x1024 .bf16)
    (x6 x7 : Vec Ideal S1x1024 .f32) (x8 x9 : Vec Ideal S1024x2816 .bf16) (x10 : Vec Ideal S2816x1024 .bf16) (x11 x12 : Vec Ideal S1x1024 .f32) (r : Fin 512) : Fin 1024 → EReal :=
  row (fun k => (∑ l : Fin 512, x0 (ix3 0 r l) * x4 (ix2 l k)) + ∑ l : Fin 512, x1 (ix3 0 r l) * x5 (ix2 l k)) (fun k => x2 (ix3 0 r k)) (fun j k => x3 (ix3 0 j k))
    (fun k => x6 (ix2 0 k)) (fun k => x7 (ix2 0 k)) (fun k => x11 (ix2 0 k)) (fun k => x12 (ix2 0 k))
    (fun k c => x8 (ix2 k c)) (fun k c => x9 (ix2 k c)) (fun c k => x10 (ix2 c k))

/-- What a grid point stores for its first 256 rows. -/
theorem out_first (x0 x1 : Vec Ideal S1x512x512 .bf16) (x2 : Vec Ideal S1x512x1024 .f32) (x3 : Vec Ideal S1x6x1024 .f32) (x4 x5 : Vec Ideal S512x1024 .bf16)
    (x6 x7 : Vec Ideal S1x1024 .f32) (x8 x9 : Vec Ideal S1024x2816 .bf16) (x10 : Vec Ideal S2816x1024 .bf16) (x11 x12 : Vec Ideal S1x1024 .f32) (r : Fin 256) (k : Fin 1024) :
    out0_13 x0 x1 x2 x3 x4 x5 x6 x7 x8 x9 x10 x11 x12 (ix3 0 ⟨r.val, by omega⟩ k : S1x512x1024.Idx) = blockRow x0 x1 x2 x3 x4 x5 x6 x7 x8 x9 x10 x11 x12 ⟨r.val, by omega⟩ k := by
  unfold_out out0_13
  have hi : (ix3 0 ⟨r.val, by omega⟩ k : S1x512x1024.Idx) = r0_3.emb (ix3 0 r k : S1x256x1024.Idx) := by
    funext a
    apply Fin.ext
    fin_cases a <;> simp [r0_3, Rect.emb, Rect.unit] <;> rfl
  rw [View.canon_cons_of_not_mem _ _ (by
    rw [Rect.mem_set_unit]
    intro h
    exact absurd (h 1).1 (by show ¬ (256 ≤ r.val); omega)), hi, View.canon_cons_emb, pay19_apply]
  unfold blockRow row
  simp only [ffn_split, pay4_apply, pay10_apply, pay7_apply, pay5_apply, pay1_apply, pay3_apply]
  pointwise [r0_0, r0_1, r0_2, r0_3, r0_4, r0_5, r0_6, r0_7, r0_8, r0_9, r0_10, r0_11, r0_12, r0_13, r0_14, r0_15]

/-- What a grid point stores for its last 256 rows. -/
theorem out_second (x0 x1 : Vec Ideal S1x512x512 .bf16) (x2 : Vec Ideal S1x512x1024 .f32) (x3 : Vec Ideal S1x6x1024 .f32) (x4 x5 : Vec Ideal S512x1024 .bf16)
    (x6 x7 : Vec Ideal S1x1024 .f32) (x8 x9 : Vec Ideal S1024x2816 .bf16) (x10 : Vec Ideal S2816x1024 .bf16) (x11 x12 : Vec Ideal S1x1024 .f32) (r : Fin 256) (k : Fin 1024) :
    out0_13 x0 x1 x2 x3 x4 x5 x6 x7 x8 x9 x10 x11 x12 (ix3 0 ⟨256 + r.val, by omega⟩ k : S1x512x1024.Idx) = blockRow x0 x1 x2 x3 x4 x5 x6 x7 x8 x9 x10 x11 x12 ⟨256 + r.val, by omega⟩ k := by
  unfold_out out0_13
  have hi : (ix3 0 ⟨256 + r.val, by omega⟩ k : S1x512x1024.Idx) = r0_14.emb (ix3 0 r k : S1x256x1024.Idx) := by
    funext a
    apply Fin.ext
    fin_cases a <;> simp [r0_14, Rect.emb, Rect.unit] <;> rfl
  rw [hi, View.canon_cons_emb, pay20_apply]
  unfold blockRow row
  simp only [ffn_split, pay16_apply, pay14_apply, pay13_apply, pay11_apply, pay2_apply]
  pointwise [r0_0, r0_1, r0_2, r0_3, r0_4, r0_5, r0_6, r0_7, r0_8, r0_9, r0_10, r0_11, r0_12, r0_13, r0_14, r0_15]

/-- What a grid point stores at an index of its block. -/
theorem out_row (x0 x1 : Vec Ideal S1x512x512 .bf16) (x2 : Vec Ideal S1x512x1024 .f32) (x3 : Vec Ideal S1x6x1024 .f32) (x4 x5 : Vec Ideal S512x1024 .bf16)
    (x6 x7 : Vec Ideal S1x1024 .f32) (x8 x9 : Vec Ideal S1024x2816 .bf16) (x10 : Vec Ideal S2816x1024 .bf16) (x11 x12 : Vec Ideal S1x1024 .f32) (r : Fin 512) (k : Fin 1024) :
    out0_13 x0 x1 x2 x3 x4 x5 x6 x7 x8 x9 x10 x11 x12 (ix3 0 r k : S1x512x1024.Idx) = blockRow x0 x1 x2 x3 x4 x5 x6 x7 x8 x9 x10 x11 x12 r k := by
  by_cases h : r.val < 256
  · exact out_first x0 x1 x2 x3 x4 x5 x6 x7 x8 x9 x10 x11 x12 ⟨r.val, h⟩ k
  · have e : r = ⟨256 + (⟨r.val - 256, by omega⟩ : Fin 256).val, by show 256 + (r.val - 256) < 512; omega⟩ := Fin.ext (by show r.val = 256 + (r.val - 256); omega)
    rw [e]
    exact out_second x0 x1 x2 x3 x4 x5 x6 x7 x8 x9 x10 x11 x12 ⟨r.val - 256, by omega⟩ k

variable (m : (ℓ : Loc nD τ sig) → Buf (Elt Ideal) ℓ) (ρ : Dev nD → PrngReg)

/-- The reference's result on the arguments of device `c`. -/
abbrev G (c : Dev nD) : FVec Ideal S4x4096x1024 .f32 :=
  Cert.MlpRefIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- One element of what a grid point stores, as an element of the reference's result. -/
theorem out_apply (c : Dev nD) (t : Fin cfg0.N) (r : Fin 512) (k : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r k : S1x512x1024.Idx)
      = G m c (ix3 ⟨t.val / 8, by have := lt_N t; omega⟩ ⟨t.val % 8 * 512 + r.val, by omega⟩ k) := by
  refine (out_row _ _ _ _ _ _ _ _ _ _ _ _ _ r k).trans (Eq.trans ?_ (Cert.MlpRefIdeal.Hand.v87_apply _ _ _ _ _ _ _ _ _ _ _ _ _ _ k).symm)
  unfold blockRow Cert.MlpRefIdeal.Hand.proj
  simp only [blk0 m c t, blk1 m c t, blk2 m c t, blk3 m c t, blk4 m c t, blk5 m c t, blk6 m c t, blk7 m c t, blk8 m c t, blk9 m c t, blk10 m c t, blk11 m c t, blk12 m c t]

/-- A block is the grid point's part of an array when its elements are. -/
theorem read_of (t : Fin cfg0.N) (o : FVec Ideal S1x512x1024 .f32) (g : FVec Ideal S4x4096x1024 .f32)
    (ho : ∀ r k, o (ix3 0 r k) = g (ix3 ⟨t.val / 8, by have := lt_N t; omega⟩ ⟨t.val % 8 * 512 + r.val, by omega⟩ k)) :
    o = ((cfg0.win 13).blk t).view.read (Elt Ideal) g := by
  funext y
  show o (y : S1x512x1024.Idx) = g ((win0_13.rect t).emb y)
  have h0 : (y 0).val = 0 := by have : (y 0).val < 1 := (y 0).isLt; omega
  have hy : (y : S1x512x1024.Idx) = ix3 0 ⟨(y 1).val, (y 1).isLt⟩ ⟨(y 2).val, (y 2).isLt⟩ := by
    funext a
    match a with
    | ⟨0, _⟩ => exact Fin.ext h0
    | ⟨1, _⟩ => rfl
    | ⟨2, _⟩ => rfl
  refine (congrArg o hy).trans ((ho _ _).trans (congrArg g ?_))
  funext a
  apply Fin.ext
  have e := idx13 t
  match a with
  | ⟨0, _⟩ => exact ((win0_13.rect_emb_val t y 0).trans (by rw [e.1]; show t.val / 8 * 1 + (y 0).val = t.val / 8; omega)).symm
  | ⟨1, _⟩ => exact ((win0_13.rect_emb_val t y 1).trans (by rw [e.2.1]; rfl)).symm
  | ⟨2, _⟩ => exact ((win0_13.rect_emb_val t y 2).trans (by rw [e.2.2]; show 0 * 1024 + (y 2).val = (y 2).val; omega)).symm

/-- What a grid point writes back is its block of the reference's result. -/
theorem flushed_eq (c : Dev nD) (t : Fin cfg0.N) :
    (dats m 0 c).flushed 13 t = ((cfg0.win 13).blk t).view.read (Elt Ideal) (G m c) :=
  (Value.flushed13 m c t).trans (read_of t _ _ (out_apply m c t))

/-- Every index of the result is in the block of the grid point of its batch row and its block of rows. -/
theorem cover (i : S4x4096x1024.Idx) :
    ∃ t : Fin cfg0.N, (cfg0.win 13).flush t = true ∧ i ∈ ((cfg0.win 13).blk t).view.set := by
  have h0 : (i 0 : Nat) < 4 := (i 0).isLt
  have h1 : (i 1 : Nat) < 4096 := (i 1).isLt
  have h2 : (i 2 : Nat) < 1024 := (i 2).isLt
  have hN : cfg0.N = 32 := N_0
  refine ⟨⟨(i 0 : Nat) * 8 + (i 1 : Nat) / 512, by omega⟩, flush0_13 _, ?_⟩
  generalize ht : (⟨(i 0 : Nat) * 8 + (i 1 : Nat) / 512, _⟩ : Fin cfg0.N) = t
  have htv : t.val = (i 0 : Nat) * 8 + (i 1 : Nat) / 512 := by rw [← ht]
  show i ∈ ((View.whole main_v19).slice (win0_13.rect t)).set
  rw [View.set_slice_whole, Rect.mem_set_unit]
  have e := idx13 t
  intro a
  match a with
  | ⟨0, _⟩ => show win0_13.index t 0 * 1 ≤ (i 0 : Nat) ∧ (i 0 : Nat) < win0_13.index t 0 * 1 + 1
              rw [e.1]; omega
  | ⟨1, _⟩ => show win0_13.index t 1 * 512 ≤ (i 1 : Nat) ∧ (i 1 : Nat) < win0_13.index t 1 * 512 + 512
              rw [e.2.1]; omega
  | ⟨2, _⟩ => show win0_13.index t 2 * 1024 ≤ (i 2 : Nat) ∧ (i 2 : Nat) < win0_13.index t 2 * 1024 + 1024
              rw [e.2.2]; omega

/-- The output array ends at the reference's result. -/
theorem final (c : Dev nD) : (dats m 0 c).arrAt 13 cfg0.N = G m c :=
  (dats m 0 c).arrAt_eq_of_cover 13 (G m c) (fun t _ => flushed_eq m c t) cover

end Cert.MlpIdeal.Hand

namespace Cert.Proof.MlpClaims

/-- The run of the reference leaves its arguments and declares no counter. -/
theorem frame_ref : Cert.quiescent_MlpRefIdeal := fun m ρ _ =>
  (θ_run Cert.MlpRefIdeal.defs _ _).mono (fun r h => ⟨fun c => (h c).2,
      Idealize.ShloMosaic.sem_eq_zero_of_no_sems (by decide) r.2⟩)
    (Cert.MlpRefIdeal.Value.run (F := Ideal) m ρ)

/-- At the extended reals the call's result is the reference's, from arguments that agree. -/
theorem algebraic : Cert.algebraic_MlpIdeal_MlpRefIdeal := by
  intro m ρ m' ρ' _ hagree
  refine ⟨fun c => Cert.MlpIdeal.Hand.G m c, ?_, ?_⟩
  · exact (θ_run Cert.MlpIdeal.defs _ _).mono
      (fun _ h c => ⟨(h c).1.trans (Cert.MlpIdeal.Hand.final m c), (h c).2⟩)
      (Cert.MlpIdeal.Value.run_blocks (F := Ideal) m ρ)
  · refine (θ_run Cert.MlpRefIdeal.defs _ _).mono (fun _ h c => ⟨(h c).1.trans ?_, (h c).2⟩)
      (Cert.MlpRefIdeal.Value.run (F := Ideal) m' ρ')
    refine (Cert.MlpRefIdeal.Read.val_main_v87_eq (F := Ideal) _).trans ?_
    obtain ⟨h0, h1, h2, h3, h4, h5, h6, h7, h8, h9, h10, h11⟩ := hagree c
    show Cert.MlpRefIdeal.Read.val_main_v87 (F := Ideal) (m' ((c.tc : Thread Cert.MlpRefIdeal.nD Cert.MlpRefIdeal.τ).loc Cert.MlpRefIdeal.main_arg0)) (m' ((c.tc : Thread Cert.MlpRefIdeal.nD Cert.MlpRefIdeal.τ).loc Cert.MlpRefIdeal.main_arg1)) (m' ((c.tc : Thread Cert.MlpRefIdeal.nD Cert.MlpRefIdeal.τ).loc Cert.MlpRefIdeal.main_arg2)) (m' ((c.tc : Thread Cert.MlpRefIdeal.nD Cert.MlpRefIdeal.τ).loc Cert.MlpRefIdeal.main_arg3)) (m' ((c.tc : Thread Cert.MlpRefIdeal.nD Cert.MlpRefIdeal.τ).loc Cert.MlpRefIdeal.main_arg4)) (m' ((c.tc : Thread Cert.MlpRefIdeal.nD Cert.MlpRefIdeal.τ).loc Cert.MlpRefIdeal.main_arg5)) (m' ((c.tc : Thread Cert.MlpRefIdeal.nD Cert.MlpRefIdeal.τ).loc Cert.MlpRefIdeal.main_arg6)) (m' ((c.tc : Thread Cert.MlpRefIdeal.nD Cert.MlpRefIdeal.τ).loc Cert.MlpRefIdeal.main_arg7)) (m' ((c.tc : Thread Cert.MlpRefIdeal.nD Cert.MlpRefIdeal.τ).loc Cert.MlpRefIdeal.main_arg8)) (m' ((c.tc : Thread Cert.MlpRefIdeal.nD Cert.MlpRefIdeal.τ).loc Cert.MlpRefIdeal.main_arg9)) (m' ((c.tc : Thread Cert.MlpRefIdeal.nD Cert.MlpRefIdeal.τ).loc Cert.MlpRefIdeal.main_arg10)) (m' ((c.tc : Thread Cert.MlpRefIdeal.nD Cert.MlpRefIdeal.τ).loc Cert.MlpRefIdeal.main_arg11)) = _
    rw [h0, h1, h2, h3, h4, h5, h6, h7, h8, h9, h10, h11]

end Cert.Proof.MlpClaims
end
-- ==== Proof.AttnPays.lean ====
module

public import proofs.«01_k».proof.Proof.AttnIdealRun
public import Idealize.ShloMosaic.Lib.Pipeline.Value
public import Idealize.ShloMosaic.Lib.Pointwise
public import Idealize.ShloMosaic.Lib.WritesUnit

@[expose] public section

set_option maxRecDepth 16384

noncomputable section

open Idealize.ShloMosaic Idealize.ShloMosaic.TcCoe Idealize.SL.Sem

namespace Cert.AttnIdeal.Hand

open Cert.AttnIdeal Cert.AttnIdeal.Gen

/-! ### The scores of a block of keys -/

/-- A block of scores: a slice of the key-query products, plus a bias tile, plus a row of the mask. -/
def blk {R : ℕ} (D : FVec Ideal ⟨2, ![R, 256]⟩ .f32) (o : Fin 2 → ℕ) (ho : Shape.Slices ⟨2, ![R, 256]⟩ o S256x256)
    (t : Vec Ideal S1x1x256x256 .f32) (m : Vec Ideal S1x1x1x1x256 .f32) : FVec Ideal S256x256 .f32 :=
  addf (addf (extractStridedSlice S256x256 o D ho) (shapeCast S256x256 t shapeCasts_S1x1x256x256_S256x256))
    (broadcastTo S256x256 (shapeCast S1x256 m shapeCasts_S1x1x1x1x256_S1x256) broadcasts_S1x256_S256x256)

/-- The products of a block of 1024 keys with a head's queries. -/
def dot4 (k : Vec Ideal S1x1024x128 .bf16) (q : FVec Ideal S256x128 .bf16) : FVec Ideal S1024x256 .f32 :=
  matmul dot_S1024x128_S256x128_S1024x256_1_1_0_0_n_n none (shapeCast S1024x128 k shapeCasts_S1x1024x128_S1024x128 : FVec Ideal S1024x128 .bf16) q (constant S1024x256 .f32 0x00000000#32)

/-- The products of a block of 512 keys with a head's queries. -/
def dot2 (k : Vec Ideal S1x512x128 .bf16) (q : FVec Ideal S256x128 .bf16) : FVec Ideal S512x256 .f32 :=
  matmul dot_S512x128_S256x128_S512x256_1_1_0_0_n_n none (shapeCast S512x128 k shapeCasts_S1x512x128_S512x128 : FVec Ideal S512x128 .bf16) q (constant S512x256 .f32 0x00000000#32)

theorem dot4_apply (k : Vec Ideal S1x1024x128 .bf16) (q : FVec Ideal S256x128 .bf16) (a : Fin 1024) (r : Fin 256) :
    dot4 k q (ix2 a r) = ∑ l : Fin 128, k (ix3 0 a l) * q (ix2 r l) := by
  pointwise [dot4]

theorem dot2_apply (k : Vec Ideal S1x512x128 .bf16) (q : FVec Ideal S256x128 .bf16) (a : Fin 512) (r : Fin 256) :
    dot2 k q (ix2 a r) = ∑ l : Fin 128, k (ix3 0 a l) * q (ix2 r l) := by
  pointwise [dot2]

theorem slice_apply {R : ℕ} (D : FVec Ideal ⟨2, ![R, 256]⟩ .f32) (o : Fin 2 → ℕ) (ho : Shape.Slices ⟨2, ![R, 256]⟩ o S256x256)
    (κ r : Fin 256) (a : Fin R) (ha : a.val = o 0 + κ.val) (h1 : o 1 = 0) :
    extractStridedSlice S256x256 o D ho (ix2 κ r) = D (ix2 a r) := by
  unfold extractStridedSlice
  congr 1
  funext x
  apply Fin.ext
  fin_cases x
  · simpa using ha.symm
  · simp [h1]

theorem blk_apply {R : ℕ} (D : FVec Ideal ⟨2, ![R, 256]⟩ .f32) (o : Fin 2 → ℕ) (ho : Shape.Slices ⟨2, ![R, 256]⟩ o S256x256)
    (t : Vec Ideal S1x1x256x256 .f32) (m : Vec Ideal S1x1x1x1x256 .f32) (κ r : Fin 256) (a : Fin R) (ha : a.val = o 0 + κ.val) (h1 : o 1 = 0) :
    blk D o ho t m (ix2 κ r) = D (ix2 a r) + t (ix4 0 0 κ r) + m (ix5 0 0 0 0 r) := by
  show extractStridedSlice S256x256 o D ho (ix2 κ r) + shapeCast S256x256 t shapeCasts_S1x1x256x256_S256x256 (ix2 κ r)
    + broadcastTo S256x256 (shapeCast S1x256 m shapeCasts_S1x1x1x1x256_S1x256) broadcasts_S1x256_S256x256 (ix2 κ r) = _
  rw [slice_apply D o ho κ r a ha h1]
  pointwise

/-- A running maximum taken over one more block of scores. -/
def over (a : FVec Ideal S1x256 .f32) (s : FVec Ideal S256x256 .f32) : FVec Ideal S1x256 .f32 :=
  maximumf a (shapeCast S1x256 (multiReduction .maximumf [0] S256 s 0xFF800000#32 reduces_S256x256_S256 (.inl rfl) rfl) shapeCasts_S256_S1x256)

theorem bits_bot : Ideal.ofBits FTy.f32 4286578688#32 = ⊥ := by simp [Ideal.ofBits, Ideal.ieee]

theorem over_apply (a : FVec Ideal S1x256 .f32) (s : FVec Ideal S256x256 .f32) (r : Fin 256) :
    over a s (ix2 0 r) = max (a (ix2 0 r)) (Finset.fold max ⊥ (fun κ => s (ix2 κ r)) Finset.univ) := by
  pointwise [over]
  rw [bits_bot]

theorem cast_apply (s : FVec Ideal S256x256 .f32) (κ r : Fin 256) :
    shapeCast S1x1x256x256 s shapeCasts_S256x256_S1x1x256x256 (ix4 0 0 κ r) = s (ix2 κ r) := by
  pointwise

/-! ### Where the scores of a trip lie -/

/-- The first block of a query group's first full trip. -/
def lead (i : grid0.Coords) : ℕ := (2 * (i 2).val + 2) % 4

/-- The bias tile of key block `n` for query block `b`: block-diagonal distance two or more, one, own, later. -/
def kind (n b : ℕ) : ℕ := min (n + 2 - b) 3

theorem trips1 : ∀ i, (k0_t1_loop i).trips = (2 * (i 2).val + 2) / 4 := by decide +kernel
theorem trips3 : ∀ i, (k0_t3_loop i).trips = (2 * (i 2).val + 2) / 4 := by decide +kernel
theorem trips4 : ∀ i, (k0_t4_loop i).trips = 0 := by decide +kernel

theorem off3 : ∀ i k, k0_off3 i k = ![0, 256 * (lead i + 4 * k.val), 0] := by decide +kernel
theorem off4 : ∀ i k, ∀ c : Fin 4, ∀ j : Fin 2, k0_off4 i k (BitVec.ofNat 32 c.val) (BitVec.ofNat 32 j.val) = ![0, kind (lead i + 4 * k.val + c.val) (2 * (i 2).val + j.val), 0, 0] := by decide +kernel
theorem off7 : ∀ i k, ∀ c : Fin 4, ∀ j : Fin 2, k0_off7 i k (BitVec.ofNat 32 c.val) (BitVec.ofNat 32 j.val) = ![1, kind (lead i + 4 * k.val + c.val) (2 * (i 2).val + j.val), 0, 0] := by decide +kernel
theorem off5 : ∀ i k, ∀ c : Fin 4, k0_off5 i k (BitVec.ofNat 32 c.val) = ![0, 0, 0, lead i + 4 * k.val + c.val, 0] := by decide +kernel
theorem off8 : ∀ i k, ∀ c : Fin 4, k0_off8 i k (BitVec.ofNat 32 c.val) = ![0, 0, 1, lead i + 4 * k.val + c.val, 0] := by decide +kernel
theorem off10 : ∀ i k, ∀ c : Fin 4, k0_off10 i k (BitVec.ofNat 32 c.val) = ![0, 0, 0, lead i + 4 * k.val + c.val, 256] := by decide +kernel
theorem off12 : ∀ i k, ∀ c : Fin 4, k0_off12 i k (BitVec.ofNat 32 c.val) = ![0, 0, 1, lead i + 4 * k.val + c.val, 256] := by decide +kernel
theorem off6 : ∀ i k, ∀ c : Fin 4, k0_off6 i k (BitVec.ofNat 32 c.val) = ![0, lead i + 4 * k.val + c.val, 0, 0] := by decide +kernel
theorem off9 : ∀ i k, ∀ c : Fin 4, k0_off9 i k (BitVec.ofNat 32 c.val) = ![1, lead i + 4 * k.val + c.val, 0, 0] := by decide +kernel
theorem off11 : ∀ i k, ∀ c : Fin 4, k0_off11 i k (BitVec.ofNat 32 c.val) = ![2, lead i + 4 * k.val + c.val, 0, 0] := by decide +kernel
theorem off13 : ∀ i k, ∀ c : Fin 4, k0_off13 i k (BitVec.ofNat 32 c.val) = ![3, lead i + 4 * k.val + c.val, 0, 0] := by decide +kernel

/-- A block of scores stored: the block itself there, what lay before elsewhere. -/
theorem piece_read (v : View sig .tc .vmem S4x16x256x256 .f32) (f : v.ty.Contents (Elt Ideal)) (off : Fin 4 → ℕ)
    (inb : ∀ a, off a + S1x1x256x256.size a ≤ S4x16x256x256.size a) (w : S1x1x256x256.Idx → Elt Ideal .f32) (L : List (View.Piece (Elt Ideal) S4x16x256x256 .f32))
    (s₀ n₀ : ℕ) (ho : off = ![s₀, n₀, 0, 0]) (s : Fin 4) (n : Fin 16) (κ r : Fin 256) :
    v.read (Elt Ideal) (v.writes (Elt Ideal) f (⟨Rect.unit off S1x1x256x256.size inb, w⟩ :: L)) (ix4 s n κ r)
      = if s.val = s₀ ∧ n.val = n₀ then w (ix4 0 0 κ r) else v.read (Elt Ideal) (v.writes (Elt Ideal) f L) (ix4 s n κ r) := by
  split_ifs with h
  · obtain ⟨rfl, rfl⟩ := h
    exact View.read_writes_cons_unit_of_mem v f inb w L (ix4 s n κ r) (ix4 0 0 κ r) ho fun a => match a with
      | 0 => rfl
      | 1 => rfl
      | 2 => (Nat.zero_add _).symm
      | 3 => (Nat.zero_add _).symm
  · by_cases hs : s.val = s₀
    · exact View.read_writes_cons_unit_of_not_mem v f inb w L (ix4 s n κ r) ho 1 (by
        show n.val < n₀ ∨ n₀ + 1 ≤ n.val
        have : n.val ≠ n₀ := fun e => h ⟨hs, e⟩
        omega)
    · exact View.read_writes_cons_unit_of_not_mem v f inb w L (ix4 s n κ r) ho 0 (by
        show s.val < s₀ ∨ s₀ + 1 ≤ s.val
        omega)

end Cert.AttnIdeal.Hand

end
-- ==== Proof.AttnScore.lean ====
module

public import proofs.«01_k».proof.Proof.AttnPays

@[expose] public section

set_option maxRecDepth 16384
set_option maxHeartbeats 1000000

noncomputable section

open Idealize.ShloMosaic Idealize.ShloMosaic.TcCoe Idealize.SL.Sem

namespace Cert.AttnIdeal.Hand

open Cert.AttnIdeal Cert.AttnIdeal.Gen Cert.AttnIdeal.Run

theorem readAt_coord {s : Shape} {e : EltTy} (v : View sig .tc .vmem s e) (f : v.ty.Contents (Elt Ideal)) (off size : Fin s.rank → ℕ)
    (inb : ∀ a, off a + size a ≤ s.size a) (off' : Fin s.rank → ℕ) (ho : off = off') (x : (Rect.unit off size inb).shape.Idx) (y : s.Idx) (h : ∀ a, (y a).val = off' a + (x a).val) :
    v.readAt (Elt Ideal) (Rect.unit off size inb).toLoadRect f x = v.read (Elt Ideal) f y := by
  subst ho
  refine congrArg (v.read (Elt Ideal) f) (?_ : (Rect.unit off size inb).emb x = y)
  exact funext fun a => Fin.ext (by
    show off a + 1 * (x a).val = (y a).val
    rw [h a, Nat.one_mul])

/-- What one grid point computes with: the masked queries of the four slots, the keys, the bias tiles and the mask. -/
structure Inp where
  q : Fin 4 → Fin 256 → Fin 128 → EReal
  K : Fin 4096 → Fin 128 → EReal
  T : Fin 2 → Fin 4 → Fin 256 → Fin 256 → EReal
  M : Fin 2 → Fin 16 → Fin 512 → EReal
  g : ℕ

/-- The head of a slot, in its pair. -/
def hd (s : Fin 4) : Fin 2 := ⟨s.val % 2, by omega⟩
/-- The query block of a slot, in its group. -/
def jb (s : Fin 4) : Fin 2 := ⟨s.val / 2, by omega⟩
/-- Key `κ` of block `n`. -/
def key (n : Fin 16) (κ : Fin 256) : Fin 4096 := ⟨256 * n.val + κ.val, by omega⟩
/-- Query `r` of block `j`. -/
def qry (j : Fin 2) (r : Fin 256) : Fin 512 := ⟨256 * j.val + r.val, by omega⟩
/-- The bias tile of a key block for a query block. -/
def kd (n b : ℕ) : Fin 4 := ⟨kind n b, by unfold kind; omega⟩

/-- The score of a key for a query: their product, the bias and the mask. -/
def sc (I : Inp) (s : Fin 4) (n : Fin 16) (κ r : Fin 256) : EReal :=
  (∑ l, I.K (key n κ) l * I.q s r l) + I.T (hd s) (kd n.val (2 * I.g + (jb s).val)) κ r + I.M (hd s) n (qry (jb s) r)

/-- The greatest score of a query over the first `m` blocks of keys. -/
def top (I : Inp) (s : Fin 4) (r : Fin 256) : ℕ → EReal
  | 0 => ⊥
  | m + 1 => if h : m < 16 then max (top I s r m) (Finset.fold max ⊥ (fun κ => sc I s ⟨m, h⟩ κ r) Finset.univ) else top I s r m

theorem slices4 : ∀ c : Fin 4, Shape.Slices S1024x256 ![256 * c.val, 0] S256x256 := by decide +kernel
theorem slices2 : ∀ c : Fin 2, Shape.Slices S512x256 ![256 * c.val, 0] S256x256 := by decide +kernel

section bufs
variable {arg4 : Memref sig .tc .vmem S1x4096x128 .bf16} {arg6 : Memref sig .tc .vmem S1x1x2x16x512 .f32} {arg7 : Memref sig .tc .vmem S2x4x256x256 .f32}
  (X4 : BufTy.Contents (Elt Ideal) arg4.view.ty) (X6 : BufTy.Contents (Elt Ideal) arg6.view.ty) (X7 : BufTy.Contents (Elt Ideal) arg7.view.ty)

/-- The buffers and the masked queries hold the data `I`. -/
structure Holds (I : Inp) (v : Fin 4 → FVec Ideal S256x128 .bf16) : Prop where
  q : ∀ s r l, v s (ix2 r l) = I.q s r l
  K : ∀ a l, arg4.view.read (Elt Ideal) X4 (ix3 0 a l) = I.K a l
  M : ∀ h n a, arg6.view.read (Elt Ideal) X6 (ix5 0 0 h n a) = I.M h n a
  T : ∀ h k κ r, arg7.view.read (Elt Ideal) X7 (ix4 h k κ r) = I.T h k κ r

variable {X4 X6 X7} {I : Inp} {v : Fin 4 → FVec Ideal S256x128 .bf16} (H : Holds X4 X6 X7 I v)
include H

/-- A stored block of scores of a trip over four blocks is the scores of its block of keys. -/
theorem blk4_sc (s : Fin 4) (n0 : ℕ) (c : Fin 4) (n : Fin 16) (hn : n.val = n0 + c.val)
    (o4 : Fin 3 → ℕ) (i4) (h4 : o4 = ![0, 256 * n0, 0]) (o7 : Fin 4 → ℕ) (i7) (h7 : o7 = ![(hd s).val, kind n.val (2 * I.g + (jb s).val), 0, 0])
    (o6 : Fin 5 → ℕ) (i6) (h6 : o6 = ![0, 0, (hd s).val, n.val, 256 * (jb s).val]) (κ r : Fin 256) :
    blk (dot4 (arg4.view.readAt (Elt Ideal) (Rect.unit (s := S1x4096x128) o4 S1x1024x128.size i4).toLoadRect X4) (v s)) ![256 * c.val, 0] (slices4 c)
      (arg7.view.readAt (Elt Ideal) (Rect.unit (s := S2x4x256x256) o7 S1x1x256x256.size i7).toLoadRect X7)
      (arg6.view.readAt (Elt Ideal) (Rect.unit (s := S1x1x2x16x512) o6 S1x1x1x1x256.size i6).toLoadRect X6) (ix2 κ r) = sc I s n κ r := by
  have e4 (l) : arg4.view.readAt (Elt Ideal) (Rect.unit (s := S1x4096x128) o4 S1x1024x128.size i4).toLoadRect X4 (ix3 0 (⟨256 * c.val + κ.val, by omega⟩ : Fin 1024) l)
      = I.K (key n κ) l := by
    rw [← H.K]
    exact readAt_coord _ _ _ _ _ _ h4 _ _ fun a => match a with
      | 0 => rfl
      | 1 => by show 256 * n.val + κ.val = 256 * n0 + (256 * c.val + κ.val); omega
      | 2 => (Nat.zero_add _).symm
  have e7 : arg7.view.readAt (Elt Ideal) (Rect.unit (s := S2x4x256x256) o7 S1x1x256x256.size i7).toLoadRect X7 (ix4 0 0 κ r) = I.T (hd s) (kd n.val (2 * I.g + (jb s).val)) κ r := by
    rw [← H.T]
    exact readAt_coord _ _ _ _ _ _ h7 _ _ fun a => match a with
      | 0 => rfl
      | 1 => rfl
      | 2 => (Nat.zero_add _).symm
      | 3 => (Nat.zero_add _).symm
  have e6 : arg6.view.readAt (Elt Ideal) (Rect.unit (s := S1x1x2x16x512) o6 S1x1x1x1x256.size i6).toLoadRect X6 (ix5 0 0 0 0 r) = I.M (hd s) n (qry (jb s) r) := by
    rw [← H.M]
    exact readAt_coord _ _ _ _ _ _ h6 _ _ fun a => match a with
      | 0 => rfl
      | 1 => rfl
      | 2 => rfl
      | 3 => rfl
      | 4 => rfl
  rw [blk_apply _ _ _ _ _ κ r (⟨256 * c.val + κ.val, by omega⟩ : Fin 1024) rfl rfl, dot4_apply, e7, e6]
  unfold sc
  simp only [e4, H.q]

/-- A stored block of scores of the trip over two blocks is the scores of its block of keys. -/
theorem blk2_sc (s : Fin 4) (c : Fin 2) (n : Fin 16) (hn : n.val = c.val)
    (o4 : Fin 3 → ℕ) (i4) (h4 : o4 = ![0, 0, 0]) (o7 : Fin 4 → ℕ) (i7) (h7 : o7 = ![(hd s).val, kind n.val (2 * I.g + (jb s).val), 0, 0])
    (o6 : Fin 5 → ℕ) (i6) (h6 : o6 = ![0, 0, (hd s).val, n.val, 256 * (jb s).val]) (κ r : Fin 256) :
    blk (dot2 (arg4.view.readAt (Elt Ideal) (Rect.unit (s := S1x4096x128) o4 S1x512x128.size i4).toLoadRect X4) (v s)) ![256 * c.val, 0] (slices2 c)
      (arg7.view.readAt (Elt Ideal) (Rect.unit (s := S2x4x256x256) o7 S1x1x256x256.size i7).toLoadRect X7)
      (arg6.view.readAt (Elt Ideal) (Rect.unit (s := S1x1x2x16x512) o6 S1x1x1x1x256.size i6).toLoadRect X6) (ix2 κ r) = sc I s n κ r := by
  have e4 (l) : arg4.view.readAt (Elt Ideal) (Rect.unit (s := S1x4096x128) o4 S1x512x128.size i4).toLoadRect X4 (ix3 0 (⟨256 * c.val + κ.val, by omega⟩ : Fin 512) l)
      = I.K (key n κ) l := by
    rw [← H.K]
    exact readAt_coord _ _ _ _ _ _ h4 _ _ fun a => match a with
      | 0 => rfl
      | 1 => by show 256 * n.val + κ.val = 0 + (256 * c.val + κ.val); omega
      | 2 => (Nat.zero_add _).symm
  have e7 : arg7.view.readAt (Elt Ideal) (Rect.unit (s := S2x4x256x256) o7 S1x1x256x256.size i7).toLoadRect X7 (ix4 0 0 κ r) = I.T (hd s) (kd n.val (2 * I.g + (jb s).val)) κ r := by
    rw [← H.T]
    exact readAt_coord _ _ _ _ _ _ h7 _ _ fun a => match a with
      | 0 => rfl
      | 1 => rfl
      | 2 => (Nat.zero_add _).symm
      | 3 => (Nat.zero_add _).symm
  have e6 : arg6.view.readAt (Elt Ideal) (Rect.unit (s := S1x1x2x16x512) o6 S1x1x1x1x256.size i6).toLoadRect X6 (ix5 0 0 0 0 r) = I.M (hd s) n (qry (jb s) r) := by
    rw [← H.M]
    exact readAt_coord _ _ _ _ _ _ h6 _ _ fun a => match a with
      | 0 => rfl
      | 1 => rfl
      | 2 => rfl
      | 3 => rfl
      | 4 => rfl
  rw [blk_apply _ _ _ _ _ κ r (⟨256 * c.val + κ.val, by omega⟩ : Fin 512) rfl rfl, dot2_apply, e7, e6]
  unfold sc
  simp only [e4, H.q]

end bufs

end Cert.AttnIdeal.Hand

end
-- ==== Proof.AttnTrip.lean ====
module

public import proofs.«01_k».proof.Proof.AttnScore

@[expose] public section

set_option maxRecDepth 16384
set_option maxHeartbeats 1000000

noncomputable section

open Idealize.ShloMosaic Idealize.ShloMosaic.TcCoe Idealize.SL.Sem

namespace Cert.AttnIdeal.Hand

open Cert.AttnIdeal Cert.AttnIdeal.Gen Cert.AttnIdeal.Run

/-- A block of scores stored at an offset. -/
def put (off : Fin 4 → ℕ) (inb : ∀ a, off a + S1x1x256x256.size a ≤ S4x16x256x256.size a) (b : FVec Ideal S256x256 .f32) :
    View.Piece (Elt Ideal) S4x16x256x256 .f32 :=
  ⟨Rect.unit off S1x1x256x256.size inb, shapeCast S1x1x256x256 b shapeCasts_S256x256_S1x1x256x256⟩

/-- A running maximum taken over four blocks of scores. -/
def over4 (a : FVec Ideal S1x256 .f32) (b : Fin 4 → FVec Ideal S256x256 .f32) : FVec Ideal S1x256 .f32 :=
  over (over (over (over a (b 0)) (b 1)) (b 2)) (b 3)

/-- Four stores in front of others, the last first. -/
def four (p : Fin 4 → View.Piece (Elt Ideal) S4x16x256x256 .f32) (L : List (View.Piece (Elt Ideal) S4x16x256x256 .f32)) :
    List (View.Piece (Elt Ideal) S4x16x256x256 .f32) := p 3 :: p 2 :: p 1 :: p 0 :: L

/-- Four blocks of scores stored for a slot. -/
theorem four_read (w : View sig .tc .vmem S4x16x256x256 .f32) (f : w.ty.Contents (Elt Ideal)) (s₀ : Fin 4) (n₀ : ℕ)
    (off : Fin 4 → Fin 4 → ℕ) (inb : ∀ c a, off c a + S1x1x256x256.size a ≤ S4x16x256x256.size a) (b : Fin 4 → FVec Ideal S256x256 .f32) (ho : ∀ c : Fin 4, off c = ![s₀.val, n₀ + c.val, 0, 0])
    (L : List (View.Piece (Elt Ideal) S4x16x256x256 .f32)) (s : Fin 4) (n : Fin 16) (κ r : Fin 256) :
    w.read (Elt Ideal) (w.writes (Elt Ideal) f (four (fun c => put (off c) (inb c) (b c)) L)) (ix4 s n κ r)
      = if h : s = s₀ ∧ n₀ ≤ n.val ∧ n.val < n₀ + 4 then b ⟨n.val - n₀, by omega⟩ (ix2 κ r) else w.read (Elt Ideal) (w.writes (Elt Ideal) f L) (ix4 s n κ r) := by
  unfold four put
  rw [piece_read w f _ _ _ _ _ _ (ho 3), piece_read w f _ _ _ _ _ _ (ho 2), piece_read w f _ _ _ _ _ _ (ho 1), piece_read w f _ _ _ _ _ _ (ho 0)]
  simp only [cast_apply]
  by_cases hs : s = s₀
  · have hs' : s.val = s₀.val := congrArg Fin.val hs
    by_cases hn : n₀ ≤ n.val ∧ n.val < n₀ + 4
    · rw [dif_pos ⟨hs, hn⟩]
      obtain ⟨c, hc⟩ : ∃ c : Fin 4, n.val = n₀ + c.val := ⟨⟨n.val - n₀, by omega⟩, by show n.val = n₀ + (n.val - n₀); omega⟩
      have e : (⟨n.val - n₀, by omega⟩ : Fin 4) = c := Fin.ext (by show n.val - n₀ = c.val; omega)
      rw [e]
      fin_cases c <;> simp [hs', hc]
    · rw [dif_neg (fun h => hn h.2), if_neg, if_neg, if_neg, if_neg]
      all_goals
        rintro ⟨-, h⟩
        apply hn
        rw [h]
        constructor <;> simp
  · have hs' : s.val ≠ s₀.val := fun h => hs (Fin.ext h)
    rw [dif_neg (fun h => hs h.1), if_neg (fun h => hs' h.1), if_neg (fun h => hs' h.1), if_neg (fun h => hs' h.1), if_neg (fun h => hs' h.1)]

variable (𝒱 : Variants) (c : Dev nD) (bd : Option 𝒱.V) (i : grid0.Coords)
  (arg3 : Memref sig .tc .vmem S1x512x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S1x1x2x16x512 .f32) (harg6 : arg6.IsWhole)
  (arg7 : Memref sig .tc .vmem S2x4x256x256 .f32) (harg7 : arg7.IsWhole) (arg8 : Memref sig .tc .vmem S1x128 .f32) (harg8 : arg8.IsWhole)
  (arg9 : Memref sig .tc .vmem S1x512x128 .bf16) (harg9 : arg9.IsWhole) (arg10 : Memref sig .tc .vmem S16x2x80x256 .bf16) (harg10 : arg10.IsWhole)
  (arg11 : Memref sig .tc .vmem S4x16x256x256 .f32) (harg11 : arg11.IsWhole) (arg12 : Memref sig .tc .vmem S4x80x256 .f32) (harg12 : arg12.IsWhole)
  (arg2 : BitVec 32) (v : Fin 4 → FVec Ideal S256x128 .bf16) (v28 v30 v31 : BitVec 32) (v32 v33 : BitVec 1) (c0_i32_13 v38 v65 : BitVec 32)
  (X4 : BufTy.Contents (Elt Ideal) arg4.view.ty) (X6 : BufTy.Contents (Elt Ideal) arg6.view.ty) (X7 : BufTy.Contents (Elt Ideal) arg7.view.ty)

/-- The four blocks of scores a trip stores for a slot, by its offsets in the tiles and the mask. -/
def blks (k : Fin (k0_t1_loop i).trips) (s : Fin 4) (o7 : Fin 4 → Fin 4 → ℕ) (i7 : ∀ c a, o7 c a + S1x1x256x256.size a ≤ S2x4x256x256.size a)
    (o6 : Fin 4 → Fin 5 → ℕ) (i6 : ∀ c a, o6 c a + S1x1x1x1x256.size a ≤ S1x1x2x16x512.size a) (c : Fin 4) : FVec Ideal S256x256 .f32 :=
  blk (dot4 (arg4.view.readAt (Elt Ideal) (Rect.unit (s := S1x4096x128) (k0_off3 i k) S1x1024x128.size (k0_off3_inb i k)).toLoadRect X4) (v s)) ![256 * c.val, 0] (slices4 c)
    (arg7.view.readAt (Elt Ideal) (Rect.unit (s := S2x4x256x256) (o7 c) S1x1x256x256.size (i7 c)).toLoadRect X7)
    (arg6.view.readAt (Elt Ideal) (Rect.unit (s := S1x1x2x16x512) (o6 c) S1x1x1x1x256.size (i6 c)).toLoadRect X6)

/-- The scores a trip stores, by slot and block. -/
def tripB (k : Fin (k0_t1_loop i).trips) : Fin 4 → Fin 4 → FVec Ideal S256x256 .f32
  | 0 => blks i arg4 arg6 arg7 v X4 X6 X7 k 0 (fun c => k0_off4 i k (BitVec.ofNat 32 c.val) (BitVec.ofNat 32 (0 : Fin 2).val)) (fun c => k0_off4_inb i k c 0) (fun c => k0_off5 i k (BitVec.ofNat 32 c.val)) (fun c => k0_off5_inb i k c)
  | 1 => blks i arg4 arg6 arg7 v X4 X6 X7 k 1 (fun c => k0_off7 i k (BitVec.ofNat 32 c.val) (BitVec.ofNat 32 (0 : Fin 2).val)) (fun c => k0_off7_inb i k c 0) (fun c => k0_off8 i k (BitVec.ofNat 32 c.val)) (fun c => k0_off8_inb i k c)
  | 2 => blks i arg4 arg6 arg7 v X4 X6 X7 k 2 (fun c => k0_off4 i k (BitVec.ofNat 32 c.val) (BitVec.ofNat 32 (1 : Fin 2).val)) (fun c => k0_off4_inb i k c 1) (fun c => k0_off10 i k (BitVec.ofNat 32 c.val)) (fun c => k0_off10_inb i k c)
  | 3 => blks i arg4 arg6 arg7 v X4 X6 X7 k 3 (fun c => k0_off7 i k (BitVec.ofNat 32 c.val) (BitVec.ofNat 32 (1 : Fin 2).val)) (fun c => k0_off7_inb i k c 1) (fun c => k0_off12 i k (BitVec.ofNat 32 c.val)) (fun c => k0_off12_inb i k c)

/-- Where a trip stores them. -/
def tripP (k : Fin (k0_t1_loop i).trips) (s c : Fin 4) : View.Piece (Elt Ideal) S4x16x256x256 .f32 :=
  match s with
  | 0 => put (k0_off6 i k (BitVec.ofNat 32 c.val)) (k0_off6_inb i k c) (tripB i arg4 arg6 arg7 v X4 X6 X7 k 0 c)
  | 1 => put (k0_off9 i k (BitVec.ofNat 32 c.val)) (k0_off9_inb i k c) (tripB i arg4 arg6 arg7 v X4 X6 X7 k 1 c)
  | 2 => put (k0_off11 i k (BitVec.ofNat 32 c.val)) (k0_off11_inb i k c) (tripB i arg4 arg6 arg7 v X4 X6 X7 k 2 c)
  | 3 => put (k0_off13 i k (BitVec.ofNat 32 c.val)) (k0_off13_inb i k c) (tripB i arg4 arg6 arg7 v X4 X6 X7 k 3 c)

theorem trip1_eq (k : Fin (k0_t1_loop i).trips) (a : Fin 4 → FVec Ideal S1x256 .f32) :
    (trip1 𝒱 c bd i arg3 harg3 arg4 harg4 arg5 harg5 arg6 harg6 arg7 harg7 arg8 harg8 arg9 harg9 arg10 harg10 arg11 harg11 arg12 harg12 arg2 (v 0) (v 1) (v 2) (v 3) v28 v30 v31 v32 v33 c0_i32_13 v38 X4 X6 X7 k (a 0) (a 1) (a 2) (a 3)).1
        = four (tripP i arg4 arg6 arg7 v X4 X6 X7 k 3) (four (tripP i arg4 arg6 arg7 v X4 X6 X7 k 2) (four (tripP i arg4 arg6 arg7 v X4 X6 X7 k 1) (four (tripP i arg4 arg6 arg7 v X4 X6 X7 k 0) [])))
    ∧ (trip1 𝒱 c bd i arg3 harg3 arg4 harg4 arg5 harg5 arg6 harg6 arg7 harg7 arg8 harg8 arg9 harg9 arg10 harg10 arg11 harg11 arg12 harg12 arg2 (v 0) (v 1) (v 2) (v 3) v28 v30 v31 v32 v33 c0_i32_13 v38 X4 X6 X7 k (a 0) (a 1) (a 2) (a 3)).2.1
        = (over4 (a 0) (tripB i arg4 arg6 arg7 v X4 X6 X7 k 0), over4 (a 1) (tripB i arg4 arg6 arg7 v X4 X6 X7 k 1), over4 (a 2) (tripB i arg4 arg6 arg7 v X4 X6 X7 k 2), over4 (a 3) (tripB i arg4 arg6 arg7 v X4 X6 X7 k 3)) := by
  unfold trip1
  exact ⟨rfl, rfl⟩

variable {arg4 arg6 arg7 X4 X6 X7 v}
/-- The block of keys a trip's `c`-th block is. -/
def nb (k : Fin (k0_t1_loop i).trips) (c : Fin 4) : Fin 16 := ⟨lead i + 4 * k.val + c.val, by
  have h := Nat.lt_of_lt_of_eq k.isLt (trips1 i)
  have := (i 2).isLt
  have e : (i 2).val < 8 := this
  unfold lead
  omega⟩

variable {I : Inp} (H : Holds X4 X6 X7 I v) (hg : I.g = (i 2).val)
include H hg

theorem tripB_sc (k : Fin (k0_t1_loop i).trips) (s c : Fin 4) (κ r : Fin 256) :
    tripB i arg4 arg6 arg7 v X4 X6 X7 k s c (ix2 κ r) = sc I s (nb i k c) κ r := by
  match s with
  | 0 => exact blk4_sc H 0 _ c (nb i k c) rfl _ _ (off3 i k) _ _ (by rw [hg]; exact off4 i k c 0) _ _ (off5 i k c) κ r
  | 1 => exact blk4_sc H 1 _ c (nb i k c) rfl _ _ (off3 i k) _ _ (by rw [hg]; exact off7 i k c 0) _ _ (off8 i k c) κ r
  | 2 => exact blk4_sc H 2 _ c (nb i k c) rfl _ _ (off3 i k) _ _ (by rw [hg]; exact off4 i k c 1) _ _ (off10 i k c) κ r
  | 3 => exact blk4_sc H 3 _ c (nb i k c) rfl _ _ (off3 i k) _ _ (by rw [hg]; exact off7 i k c 1) _ _ (off12 i k c) κ r

/-- A trip's stores: the scores of its four blocks of keys, what lay before elsewhere. -/
theorem trip_read (k : Fin (k0_t1_loop i).trips) (w : View sig .tc .vmem S4x16x256x256 .f32) (f : w.ty.Contents (Elt Ideal)) (s : Fin 4) (n : Fin 16) (κ r : Fin 256) :
    w.read (Elt Ideal) (w.writes (Elt Ideal) f (four (tripP i arg4 arg6 arg7 v X4 X6 X7 k 3) (four (tripP i arg4 arg6 arg7 v X4 X6 X7 k 2)
        (four (tripP i arg4 arg6 arg7 v X4 X6 X7 k 1) (four (tripP i arg4 arg6 arg7 v X4 X6 X7 k 0) []))))) (ix4 s n κ r)
      = if lead i + 4 * k.val ≤ n.val ∧ n.val < lead i + 4 * k.val + 4 then sc I s n κ r else w.read (Elt Ideal) f (ix4 s n κ r) := by
  have e (c : Fin 4) (h : lead i + 4 * k.val ≤ n.val ∧ n.val < lead i + 4 * k.val + 4) (hc : c.val = n.val - (lead i + 4 * k.val)) : nb i k c = n := Fin.ext (by
    show lead i + 4 * k.val + c.val = n.val
    omega)
  refine (four_read w f 3 _ _ _ _ (off13 i k) _ s n κ r).trans ?_
  rw [show w.read (Elt Ideal) (w.writes (Elt Ideal) f (four (tripP i arg4 arg6 arg7 v X4 X6 X7 k 2) _)) (ix4 s n κ r) = _ from four_read w f 2 _ _ _ _ (off11 i k) _ s n κ r,
    show w.read (Elt Ideal) (w.writes (Elt Ideal) f (four (tripP i arg4 arg6 arg7 v X4 X6 X7 k 1) _)) (ix4 s n κ r) = _ from four_read w f 1 _ _ _ _ (off9 i k) _ s n κ r,
    show w.read (Elt Ideal) (w.writes (Elt Ideal) f (four (tripP i arg4 arg6 arg7 v X4 X6 X7 k 0) _)) (ix4 s n κ r) = _ from four_read w f 0 _ _ _ _ (off6 i k) _ s n κ r]
  simp only [tripB_sc i H hg]
  by_cases h : lead i + 4 * k.val ≤ n.val ∧ n.val < lead i + 4 * k.val + 4
  · rw [if_pos h]
    simp only [h, and_true, and_self]
    fin_cases s <;> simp <;> exact congrArg (fun n => sc I _ n κ r) (e _ h rfl)
  · rw [if_neg h]
    simp only [h, and_false, dite_false]
    rfl

omit H hg in
theorem top_succ (s : Fin 4) (r : Fin 256) (m : Fin 16) : top I s r (m.val + 1) = max (top I s r m.val) (Finset.fold max ⊥ (fun κ => sc I s m κ r) Finset.univ) := by
  exact (top.eq_2 I s r m.val).trans (dif_pos m.isLt)

/-- A trip's maxima: over four more blocks of keys. -/
theorem trip_top (k : Fin (k0_t1_loop i).trips) (s : Fin 4) (a : FVec Ideal S1x256 .f32) (r : Fin 256) (ha : a (ix2 0 r) = top I s r (lead i + 4 * k.val)) :
    over4 a (tripB i arg4 arg6 arg7 v X4 X6 X7 k s) (ix2 0 r) = top I s r (lead i + 4 * (k.val + 1)) := by
  unfold over4
  simp only [over_apply, tripB_sc i H hg, ha]
  rw [show lead i + 4 * (k.val + 1) = (nb i k 3).val + 1 from rfl, top_succ, show (nb i k 3).val = (nb i k 2).val + 1 from rfl, top_succ,
    show (nb i k 2).val = (nb i k 1).val + 1 from rfl, top_succ, show (nb i k 1).val = (nb i k 0).val + 1 from rfl, top_succ]
  rfl

end Cert.AttnIdeal.Hand

end
-- ==== Proof.AttnWeigh.lean ====
module

public import proofs.«01_k».proof.Proof.AttnTrip

@[expose] public section

set_option maxRecDepth 16384
set_option maxHeartbeats 1000000

noncomputable section

open Idealize.ShloMosaic Idealize.ShloMosaic.TcCoe Idealize.SL.Sem

namespace Cert.AttnIdeal.Hand

open Cert.AttnIdeal Cert.AttnIdeal.Gen Cert.AttnIdeal.Run

/-- The weights of a block of keys: powers of two of the scores less their maximum. -/
def pw (mx : FVec Ideal S1x256 .f32) (s : Vec Ideal S1x1x256x256 .f32) : FVec Ideal S256x256 .bf16 :=
  exp2 (truncf .bf16 (subf (shapeCast S256x256 s shapeCasts_S1x1x256x256_S256x256 : FVec Ideal S256x256 .f32) (broadcastTo S256x256 mx broadcasts_S1x256_S256x256)) bitsLt_bf16_f32)

theorem pw_apply (mx : FVec Ideal S1x256 .f32) (s : Vec Ideal S1x1x256x256 .f32) (κ r : Fin 256) :
    pw mx s (ix2 κ r) = FloatOps.exp2 (F := Ideal) (φ := .bf16) (s (ix4 0 0 κ r) - mx (ix2 0 r)) := by
  pointwise [pw]

/-- A slot's running sums with two more blocks of keys. -/
def mac2 (p : Fin 2 → FVec Ideal S256x256 .bf16) (w : Fin 2 → Vec Ideal S1x1x80x256 .bf16) (a : Vec Ideal S1x80x256 .f32) : FVec Ideal S1x80x256 .f32 :=
  shapeCast S1x80x256 (addf (shapeCast S80x256 a shapeCasts_S1x80x256_S80x256 : FVec Ideal S80x256 .f32)
    (matmul dot_S80x512_S512x256_S80x256_1_0_0_1_n_n none
      (concatenate S80x512 1 [⟨S80x256, shapeCast S80x256 (w 0) shapeCasts_S1x1x80x256_S80x256⟩, ⟨S80x256, shapeCast S80x256 (w 1) shapeCasts_S1x1x80x256_S80x256⟩] concatenates_S80x256_S80x256_S80x512_d1 : FVec Ideal S80x512 .bf16)
      (concatenate S512x256 0 [⟨S256x256, p 0⟩, ⟨S256x256, p 1⟩] concatenates_S256x256_S256x256_S512x256_d0 : FVec Ideal S512x256 .bf16)
      (constant S80x256 .f32 0x00000000#32))) shapeCasts_S80x256_S1x80x256

/-- A slot's running sums with four more blocks of keys. -/
def mac4 (p : Fin 4 → FVec Ideal S256x256 .bf16) (w : Fin 4 → Vec Ideal S1x1x80x256 .bf16) (a : Vec Ideal S1x80x256 .f32) : FVec Ideal S1x80x256 .f32 :=
  shapeCast S1x80x256 (addf (shapeCast S80x256 a shapeCasts_S1x80x256_S80x256 : FVec Ideal S80x256 .f32)
    (matmul dot_S80x1024_S1024x256_S80x256_1_0_0_1_n_n none
      (concatenate S80x1024 1 [⟨S80x256, shapeCast S80x256 (w 0) shapeCasts_S1x1x80x256_S80x256⟩, ⟨S80x256, shapeCast S80x256 (w 1) shapeCasts_S1x1x80x256_S80x256⟩,
        ⟨S80x256, shapeCast S80x256 (w 2) shapeCasts_S1x1x80x256_S80x256⟩, ⟨S80x256, shapeCast S80x256 (w 3) shapeCasts_S1x1x80x256_S80x256⟩] concatenates_S80x256_S80x256_S80x256_S80x256_S80x1024_d1 : FVec Ideal S80x1024 .bf16)
      (concatenate S1024x256 0 [⟨S256x256, p 0⟩, ⟨S256x256, p 1⟩, ⟨S256x256, p 2⟩, ⟨S256x256, p 3⟩] concatenates_S256x256_S256x256_S256x256_S256x256_S1024x256_d0 : FVec Ideal S1024x256 .bf16)
      (constant S80x256 .f32 0x00000000#32))) shapeCasts_S80x256_S1x80x256

theorem mac2_apply (p : Fin 2 → FVec Ideal S256x256 .bf16) (w : Fin 2 → Vec Ideal S1x1x80x256 .bf16) (a : Vec Ideal S1x80x256 .f32) (d : Fin 80) (r : Fin 256) :
    mac2 p w a (ix3 0 d r) = a (ix3 0 d r) + ((∑ κ, w 0 (ix4 0 0 d κ) * p 0 (ix2 κ r)) + ∑ κ, w 1 (ix4 0 0 d κ) * p 1 (ix2 κ r)) := by
  pointwise [mac2]

theorem sum4 (f : Fin 1024 → EReal) : ∑ x, f x = (∑ κ : Fin 256, f ⟨κ.val, by omega⟩) + ((∑ κ : Fin 256, f ⟨256 + κ.val, by omega⟩)
    + ((∑ κ : Fin 256, f ⟨256 + (256 + κ.val), by omega⟩) + ∑ κ : Fin 256, f ⟨256 + (256 + (256 + κ.val)), by omega⟩)) := by
  rw [Fin.sum_univ_two_halves 256 768 rfl, Fin.sum_univ_two_halves (N := 768) 256 512 rfl, Fin.sum_univ_two_halves (N := 512) 256 256 rfl]

theorem mac4_apply (p : Fin 4 → FVec Ideal S256x256 .bf16) (w : Fin 4 → Vec Ideal S1x1x80x256 .bf16) (a : Vec Ideal S1x80x256 .f32) (d : Fin 80) (r : Fin 256) :
    mac4 p w a (ix3 0 d r) = a (ix3 0 d r) + ((∑ κ, w 0 (ix4 0 0 d κ) * p 0 (ix2 κ r)) + ((∑ κ, w 1 (ix4 0 0 d κ) * p 1 (ix2 κ r))
      + ((∑ κ, w 2 (ix4 0 0 d κ) * p 2 (ix2 κ r)) + ∑ κ, w 3 (ix4 0 0 d κ) * p 3 (ix2 κ r)))) := by
  pointwise [mac4]
  rw [sum4]
  simp only [Nat.add_lt_self_eq_false, Nat.add_sub_cancel_left, Fin.is_lt, dite_true, dite_false, Fin.eta]

theorem off25 : ∀ i k, ∀ c : Fin 4, k0_off25 i k (BitVec.ofNat 32 c.val) = ![0, lead i + 4 * k.val + c.val, 0, 0] := by decide +kernel
theorem off26 : ∀ i k, ∀ c : Fin 4, k0_off26 i k (BitVec.ofNat 32 c.val) = ![lead i + 4 * k.val + c.val, 0, 0, 0] := by decide +kernel
theorem off27 : ∀ i k, ∀ c : Fin 4, k0_off27 i k (BitVec.ofNat 32 c.val) = ![1, lead i + 4 * k.val + c.val, 0, 0] := by decide +kernel
theorem off28 : ∀ i k, ∀ c : Fin 4, k0_off28 i k (BitVec.ofNat 32 c.val) = ![lead i + 4 * k.val + c.val, 1, 0, 0] := by decide +kernel
theorem off29 : ∀ i k, ∀ c : Fin 4, k0_off29 i k (BitVec.ofNat 32 c.val) = ![2, lead i + 4 * k.val + c.val, 0, 0] := by decide +kernel
theorem off30 : ∀ i k, ∀ c : Fin 4, k0_off30 i k (BitVec.ofNat 32 c.val) = ![3, lead i + 4 * k.val + c.val, 0, 0] := by decide +kernel

/-- A slot's sums stored: the sums themselves there, what lay before elsewhere. -/
theorem slot_read (v : View sig .tc .vmem S4x80x256 .f32) (f : v.ty.Contents (Elt Ideal)) (s₀ : ℕ)
    (inb : ∀ a, (![s₀, 0, 0] : Fin 3 → ℕ) a + S1x80x256.size a ≤ S4x80x256.size a) (w : S1x80x256.Idx → Elt Ideal .f32) (L : List (View.Piece (Elt Ideal) S4x80x256 .f32))
    (s : Fin 4) (d : Fin 80) (r : Fin 256) :
    v.read (Elt Ideal) (v.writes (Elt Ideal) f (⟨Rect.unit ![s₀, 0, 0] S1x80x256.size inb, w⟩ :: L)) (ix3 s d r)
      = if s.val = s₀ then w (ix3 0 d r) else v.read (Elt Ideal) (v.writes (Elt Ideal) f L) (ix3 s d r) := by
  split_ifs with h
  · subst h
    exact View.read_writes_cons_unit_of_mem v f inb w L (ix3 s d r) (ix3 0 d r) rfl fun a => match a with
      | 0 => rfl
      | 1 => (Nat.zero_add _).symm
      | 2 => (Nat.zero_add _).symm
  · exact View.read_writes_cons_unit_of_not_mem v f inb w L (ix3 s d r) rfl 0 (by
      show s.val < s₀ ∨ s₀ + 1 ≤ s.val
      omega)

theorem slot_inb : ∀ s : Fin 4, ∀ a, (![s.val, 0, 0] : Fin 3 → ℕ) a + S1x80x256.size a ≤ S4x80x256.size a := by decide +kernel

/-- The four slots' sums stored. -/
theorem slots_read (v : View sig .tc .vmem S4x80x256 .f32) (f : v.ty.Contents (Elt Ideal)) (w : Fin 4 → S1x80x256.Idx → Elt Ideal .f32)
    (L : List (View.Piece (Elt Ideal) S4x80x256 .f32)) (s : Fin 4) (d : Fin 80) (r : Fin 256) :
    v.read (Elt Ideal) (v.writes (Elt Ideal) f (⟨Rect.unit ![3, 0, 0] S1x80x256.size (slot_inb 3), w 3⟩ :: ⟨Rect.unit ![2, 0, 0] S1x80x256.size (slot_inb 2), w 2⟩
      :: ⟨Rect.unit ![1, 0, 0] S1x80x256.size (slot_inb 1), w 1⟩ :: ⟨Rect.unit ![0, 0, 0] S1x80x256.size (slot_inb 0), w 0⟩ :: L)) (ix3 s d r) = w s (ix3 0 d r) := by
  rw [slot_read, slot_read, slot_read, slot_read]
  fin_cases s <;> rfl

section trip
variable (𝒱 : Variants) (c : Dev nD) (bd : Option 𝒱.V) (i : grid0.Coords)
  (arg3 : Memref sig .tc .vmem S1x512x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S1x1x2x16x512 .f32) (harg6 : arg6.IsWhole)
  (arg7 : Memref sig .tc .vmem S2x4x256x256 .f32) (harg7 : arg7.IsWhole) (arg8 : Memref sig .tc .vmem S1x128 .f32) (harg8 : arg8.IsWhole)
  (arg9 : Memref sig .tc .vmem S1x512x128 .bf16) (harg9 : arg9.IsWhole) (arg10 : Memref sig .tc .vmem S16x2x80x256 .bf16) (harg10 : arg10.IsWhole)
  (arg11 : Memref sig .tc .vmem S4x16x256x256 .f32) (harg11 : arg11.IsWhole) (arg12 : Memref sig .tc .vmem S4x80x256 .f32) (harg12 : arg12.IsWhole)
  (v28 v38 v73 : BitVec 32) (mx : Fin 4 → FVec Ideal S1x256 .f32)
  (X10 : BufTy.Contents (Elt Ideal) arg10.view.ty) (X11 : BufTy.Contents (Elt Ideal) arg11.view.ty) (f12 : BufTy.Contents (Elt Ideal) arg12.view.ty)

/-- The weights of a trip's block of keys for a slot. -/
def tripW (k : Fin (k0_t3_loop i).trips) : Fin 4 → Fin 4 → FVec Ideal S256x256 .bf16
  | 0, c => pw (mx 0) (arg11.view.readAt (Elt Ideal) (Rect.unit (s := S4x16x256x256) (k0_off25 i k (BitVec.ofNat 32 c.val)) S1x1x256x256.size (k0_off25_inb i k c)).toLoadRect X11)
  | 1, c => pw (mx 1) (arg11.view.readAt (Elt Ideal) (Rect.unit (s := S4x16x256x256) (k0_off27 i k (BitVec.ofNat 32 c.val)) S1x1x256x256.size (k0_off27_inb i k c)).toLoadRect X11)
  | 2, c => pw (mx 2) (arg11.view.readAt (Elt Ideal) (Rect.unit (s := S4x16x256x256) (k0_off29 i k (BitVec.ofNat 32 c.val)) S1x1x256x256.size (k0_off29_inb i k c)).toLoadRect X11)
  | 3, c => pw (mx 3) (arg11.view.readAt (Elt Ideal) (Rect.unit (s := S4x16x256x256) (k0_off30 i k (BitVec.ofNat 32 c.val)) S1x1x256x256.size (k0_off30_inb i k c)).toLoadRect X11)

/-- The values of a trip's block of keys for a head. -/
def tripV (k : Fin (k0_t3_loop i).trips) : Fin 2 → Fin 4 → Vec Ideal S1x1x80x256 .bf16
  | 0, c => arg10.view.readAt (Elt Ideal) (Rect.unit (s := S16x2x80x256) (k0_off26 i k (BitVec.ofNat 32 c.val)) S1x1x80x256.size (k0_off26_inb i k c)).toLoadRect X10
  | 1, c => arg10.view.readAt (Elt Ideal) (Rect.unit (s := S16x2x80x256) (k0_off28 i k (BitVec.ofNat 32 c.val)) S1x1x80x256.size (k0_off28_inb i k c)).toLoadRect X10

theorem trip3_eq (k : Fin (k0_t3_loop i).trips) :
    tripL_k0_t3 𝒱 c bd i arg3 harg3 arg4 harg4 arg5 harg5 arg6 harg6 arg7 harg7 arg8 harg8 arg9 harg9 arg10 harg10 arg11 harg11 arg12 harg12 v28 v38 (mx 0) (mx 1) (mx 2) (mx 3) v73 X10 X11 k f12
      = [⟨Rect.unit ![3, 0, 0] S1x80x256.size inb_S4x80x256_S1x80x256_3_0_0, mac4 (tripW i arg11 mx X11 k 3) (tripV i arg10 X10 k 1) (arg12.view.readAt (Elt Ideal) (Rect.unit (s := S4x80x256) ![3, 0, 0] S1x80x256.size inb_S4x80x256_S1x80x256_3_0_0).toLoadRect f12)⟩,
         ⟨Rect.unit ![2, 0, 0] S1x80x256.size inb_S4x80x256_S1x80x256_2_0_0, mac4 (tripW i arg11 mx X11 k 2) (tripV i arg10 X10 k 0) (arg12.view.readAt (Elt Ideal) (Rect.unit (s := S4x80x256) ![2, 0, 0] S1x80x256.size inb_S4x80x256_S1x80x256_2_0_0).toLoadRect f12)⟩,
         ⟨Rect.unit ![1, 0, 0] S1x80x256.size inb_S4x80x256_S1x80x256_1_0_0, mac4 (tripW i arg11 mx X11 k 1) (tripV i arg10 X10 k 1) (arg12.view.readAt (Elt Ideal) (Rect.unit (s := S4x80x256) ![1, 0, 0] S1x80x256.size inb_S4x80x256_S1x80x256_1_0_0).toLoadRect f12)⟩,
         ⟨Rect.unit ![0, 0, 0] S1x80x256.size inb_S4x80x256_S1x80x256_0_0_0, mac4 (tripW i arg11 mx X11 k 0) (tripV i arg10 X10 k 0) (arg12.view.readAt (Elt Ideal) (Rect.unit (s := S4x80x256) ![0, 0, 0] S1x80x256.size inb_S4x80x256_S1x80x256_0_0_0).toLoadRect f12)⟩] := by
  unfold tripL_k0_t3 trip_k0_t3
  rfl

end trip

end Cert.AttnIdeal.Hand

end
-- ==== Proof.AttnLoop.lean ====
module

public import proofs.«01_k».proof.Proof.AttnWeigh

@[expose] public section

set_option maxRecDepth 16384
set_option maxHeartbeats 1000000

noncomputable section

open Idealize.ShloMosaic Idealize.ShloMosaic.TcCoe Idealize.SL.Sem

namespace Cert.AttnIdeal.Hand

open Cert.AttnIdeal Cert.AttnIdeal.Gen Cert.AttnIdeal.Run

/-- The weight of a key for a query, its score taken less `μ`. -/
def wt (I : Inp) (μ : EReal) (s : Fin 4) (n : Fin 16) (κ r : Fin 256) : EReal :=
  FloatOps.exp2 (F := Ideal) (φ := .bf16) (sc I s n κ r - μ)

/-- The weighted sum of the rows `V` over the first `m` blocks of keys. -/
def accu (I : Inp) (V : Fin 16 → Fin 2 → Fin 80 → Fin 256 → EReal) (μ : EReal) (s : Fin 4) (d : Fin 80) (r : Fin 256) : ℕ → EReal
  | 0 => 0
  | m + 1 => if h : m < 16 then accu I V μ s d r m + ∑ κ, V ⟨m, h⟩ (hd s) d κ * wt I μ s ⟨m, h⟩ κ r else accu I V μ s d r m

theorem accu_succ (I : Inp) (V : Fin 16 → Fin 2 → Fin 80 → Fin 256 → EReal) (μ : EReal) (s : Fin 4) (d : Fin 80) (r : Fin 256) (m : Fin 16) :
    accu I V μ s d r (m.val + 1) = accu I V μ s d r m.val + ∑ κ, V m (hd s) d κ * wt I μ s m κ r :=
  (accu.eq_2 I V μ s d r m.val).trans (dif_pos m.isLt)

variable (𝒱 : Variants) (c : Dev nD) (bd : Option 𝒱.V) (i : grid0.Coords)
  (arg3 : Memref sig .tc .vmem S1x512x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S1x1x2x16x512 .f32) (harg6 : arg6.IsWhole)
  (arg7 : Memref sig .tc .vmem S2x4x256x256 .f32) (harg7 : arg7.IsWhole) (arg8 : Memref sig .tc .vmem S1x128 .f32) (harg8 : arg8.IsWhole)
  (arg9 : Memref sig .tc .vmem S1x512x128 .bf16) (harg9 : arg9.IsWhole) (arg10 : Memref sig .tc .vmem S16x2x80x256 .bf16) (harg10 : arg10.IsWhole)
  (arg11 : Memref sig .tc .vmem S4x16x256x256 .f32) (harg11 : arg11.IsWhole) (arg12 : Memref sig .tc .vmem S4x80x256 .f32) (harg12 : arg12.IsWhole)

theorem last (i : grid0.Coords) : lead i + 4 * (k0_t1_loop i).trips = 2 * (i 2).val + 2 := by
  rw [trips1]
  unfold lead
  omega

theorem last3 (i : grid0.Coords) : lead i + 4 * (k0_t3_loop i).trips = 2 * (i 2).val + 2 := by
  rw [trips3, ← trips1, last]

section scores
variable (arg2 : BitVec 32) (v : Fin 4 → FVec Ideal S256x128 .bf16) (v28 v30 v31 : BitVec 32) (v32 v33 : BitVec 1) (c0_i32_13 v38 v65 : BitVec 32)
  (X4 : BufTy.Contents (Elt Ideal) arg4.view.ty) (X6 : BufTy.Contents (Elt Ideal) arg6.view.ty) (X7 : BufTy.Contents (Elt Ideal) arg7.view.ty)
  (a : Fin 4 → FVec Ideal S1x256 .f32) (f : BufTy.Contents (Elt Ideal) arg11.view.ty) (I : Inp) (H : Holds X4 X6 X7 I v) (hg : I.g = (i 2).val)
  (ha : ∀ s r, a s (ix2 0 r) = top I s r (lead i)) (hf : ∀ s n κ r, n.val < lead i → arg11.view.read (Elt Ideal) f (ix4 s n κ r) = sc I s n κ r)
include H hg ha hf

/-- After `k` trips the scores of the blocks so far are stored, and their maxima handed on. -/
theorem scored (k : ℕ) (hk : k ≤ (k0_t1_loop i).trips) :
    (∀ s n κ r, n.val < lead i + 4 * k → arg11.view.read (Elt Ideal) (arg11.view.writes (Elt Ideal) f (trips1St 𝒱 c bd i arg3 harg3 arg4 harg4 arg5 harg5 arg6 harg6 arg7 harg7 arg8 harg8 arg9 harg9 arg10 harg10 arg11 harg11 arg12 harg12 arg2 (v 0) (v 1) (v 2) (v 3) v28 v30 v31 v32 v33 c0_i32_13 v38 X4 X6 X7 (a 0, a 1, a 2, a 3) k).1) (ix4 s n κ r) = sc I s n κ r)
    ∧ ∃ b : Fin 4 → FVec Ideal S1x256 .f32, (trips1St 𝒱 c bd i arg3 harg3 arg4 harg4 arg5 harg5 arg6 harg6 arg7 harg7 arg8 harg8 arg9 harg9 arg10 harg10 arg11 harg11 arg12 harg12 arg2 (v 0) (v 1) (v 2) (v 3) v28 v30 v31 v32 v33 c0_i32_13 v38 X4 X6 X7 (a 0, a 1, a 2, a 3) k).2 = (b 0, b 1, b 2, b 3) ∧ ∀ s r, b s (ix2 0 r) = top I s r (lead i + 4 * k) := by
  induction k with
  | zero => exact ⟨fun s n κ r h => hf s n κ r h, a, rfl, fun s r => ha s r⟩
  | succ k ih =>
    have ih := ih (Nat.le_of_succ_le hk)
    generalize hp : trips1St 𝒱 c bd i arg3 harg3 arg4 harg4 arg5 harg5 arg6 harg6 arg7 harg7 arg8 harg8 arg9 harg9 arg10 harg10 arg11 harg11 arg12 harg12 arg2 (v 0) (v 1) (v 2) (v 3) v28 v30 v31 v32 v33 c0_i32_13 v38 X4 X6 X7 (a 0, a 1, a 2, a 3) k = p at ih
    obtain ⟨L, y⟩ := p
    obtain ⟨hr, b, hb, ht⟩ := ih
    obtain rfl : y = (b 0, b 1, b 2, b 3) := hb
    rw [trips1St_succ 𝒱 c bd i arg3 harg3 arg4 harg4 arg5 harg5 arg6 harg6 arg7 harg7 arg8 harg8 arg9 harg9 arg10 harg10 arg11 harg11 arg12 harg12 arg2 (v 0) (v 1) (v 2) (v 3) v28 v30 v31 v32 v33 c0_i32_13 v38 X4 X6 X7 (a 0, a 1, a 2, a 3) ⟨k, hk⟩ _ hp]
    obtain ⟨e1, e2⟩ := trip1_eq 𝒱 c bd i arg3 harg3 arg4 harg4 arg5 harg5 arg6 harg6 arg7 harg7 arg8 harg8 arg9 harg9 arg10 harg10 arg11 harg11 arg12 harg12 arg2 v v28 v30 v31 v32 v33 c0_i32_13 v38 X4 X6 X7 ⟨k, hk⟩ b
    refine ⟨fun s n κ r h => ?_, fun s => over4 (b s) (tripB i arg4 arg6 arg7 v X4 X6 X7 ⟨k, hk⟩ s), e2, fun s r => trip_top i H hg ⟨k, hk⟩ s (b s) r (ht s r)⟩
    refine (congrArg (fun M => arg11.view.read (Elt Ideal) (arg11.view.writes (Elt Ideal) f (M ++ L)) (ix4 s n κ r)) e1).trans ?_
    refine (congrArg (fun g => arg11.view.read (Elt Ideal) g (ix4 s n κ r)) (View.writes_append arg11.view f _ _)).trans ?_
    rw [trip_read i H hg ⟨k, hk⟩]
    split_ifs with h'
    · rfl
    · exact hr s n κ r (by simp only at h'; omega)

end scores

section weigh
variable (v28 v38 v73 : BitVec 32) (mx : Fin 4 → FVec Ideal S1x256 .f32)
  (X10 : BufTy.Contents (Elt Ideal) arg10.view.ty) (X11 : BufTy.Contents (Elt Ideal) arg11.view.ty) (f12 : BufTy.Contents (Elt Ideal) arg12.view.ty)
  (I : Inp) (V : Fin 16 → Fin 2 → Fin 80 → Fin 256 → EReal) (μ : Fin 4 → Fin 256 → EReal)
  (hmx : ∀ s r, mx s (ix2 0 r) = μ s r) (h10 : ∀ n h d κ, arg10.view.read (Elt Ideal) X10 (ix4 n h d κ) = V n h d κ)
  (h11 : ∀ s n κ r, n.val < 2 * (i 2).val + 2 → arg11.view.read (Elt Ideal) X11 (ix4 s n κ r) = sc I s n κ r)

/-- The block of keys a trip's `c`-th block is. -/
def nb3 (k : Fin (k0_t3_loop i).trips) (c : Fin 4) : Fin 16 := ⟨lead i + 4 * k.val + c.val, by
  have h := Nat.lt_of_lt_of_eq k.isLt (trips3 i)
  have e : (i 2).val < 8 := (i 2).isLt
  unfold lead
  omega⟩

theorem nb3_lt (k : Fin (k0_t3_loop i).trips) (c : Fin 4) : (nb3 i k c).val < 2 * (i 2).val + 2 := by
  have h := Nat.lt_of_lt_of_eq k.isLt (trips3 i)
  show lead i + 4 * k.val + c.val < _
  unfold lead
  omega

include hmx h11 in
theorem pw_sc (s : Fin 4) (n : Fin 16) (hn : n.val < 2 * (i 2).val + 2) (o : Fin 4 → ℕ) (inb) (ho : o = ![s.val, n.val, 0, 0]) (κ r : Fin 256) :
    pw (mx s) (arg11.view.readAt (Elt Ideal) (Rect.unit (s := S4x16x256x256) o S1x1x256x256.size inb).toLoadRect X11) (ix2 κ r) = wt I (μ s r) s n κ r := by
  rw [pw_apply, hmx]
  exact congrArg (fun x => FloatOps.exp2 (F := Ideal) (φ := .bf16) (x - μ s r)) ((readAt_coord arg11.view X11 o S1x1x256x256.size inb _ ho (ix4 0 0 κ r) (ix4 s n κ r) (fun a => match a with
    | 0 => rfl
    | 1 => rfl
    | 2 => (Nat.zero_add _).symm
    | 3 => (Nat.zero_add _).symm)).trans (h11 s n κ r hn))

include h10 in
theorem val_V (h : Fin 2) (n : Fin 16) (o : Fin 4 → ℕ) (inb) (ho : o = ![n.val, h.val, 0, 0]) (d : Fin 80) (κ : Fin 256) :
    arg10.view.readAt (Elt Ideal) (Rect.unit (s := S16x2x80x256) o S1x1x80x256.size inb).toLoadRect X10 (ix4 0 0 d κ) = V n h d κ := by
  exact (readAt_coord arg10.view X10 o S1x1x80x256.size inb _ ho (ix4 0 0 d κ) (ix4 n h d κ) (fun a => match a with
    | 0 => rfl
    | 1 => rfl
    | 2 => (Nat.zero_add _).symm
    | 3 => (Nat.zero_add _).symm)).trans (h10 n h d κ)

theorem slot_at (f : BufTy.Contents (Elt Ideal) arg12.view.ty) (s : Fin 4) (inb) (d : Fin 80) (r : Fin 256) :
    arg12.view.readAt (Elt Ideal) (Rect.unit (s := S4x80x256) ![s.val, 0, 0] S1x80x256.size inb).toLoadRect f (ix3 0 d r) = arg12.view.read (Elt Ideal) f (ix3 s d r) :=
  readAt_coord arg12.view f _ S1x80x256.size inb _ rfl (ix3 0 d r) (ix3 s d r) (fun a => match a with
    | 0 => rfl
    | 1 => (Nat.zero_add _).symm
    | 2 => (Nat.zero_add _).symm)

include hmx h11 in
theorem tripW_sc (k : Fin (k0_t3_loop i).trips) (s c : Fin 4) (κ r : Fin 256) :
    tripW i arg11 mx X11 k s c (ix2 κ r) = wt I (μ s r) s (nb3 i k c) κ r := by
  match s with
  | 0 => exact pw_sc i arg11 mx X11 I μ hmx h11 0 (nb3 i k c) (nb3_lt i k c) _ _ (off25 i k c) κ r
  | 1 => exact pw_sc i arg11 mx X11 I μ hmx h11 1 (nb3 i k c) (nb3_lt i k c) _ _ (off27 i k c) κ r
  | 2 => exact pw_sc i arg11 mx X11 I μ hmx h11 2 (nb3 i k c) (nb3_lt i k c) _ _ (off29 i k c) κ r
  | 3 => exact pw_sc i arg11 mx X11 I μ hmx h11 3 (nb3 i k c) (nb3_lt i k c) _ _ (off30 i k c) κ r

include h10 in
theorem tripV_V (k : Fin (k0_t3_loop i).trips) (h : Fin 2) (c : Fin 4) (d : Fin 80) (κ : Fin 256) :
    tripV i arg10 X10 k h c (ix4 0 0 d κ) = V (nb3 i k c) h d κ := by
  match h with
  | 0 => exact val_V arg10 X10 V h10 0 (nb3 i k c) _ _ (off26 i k c) d κ
  | 1 => exact val_V arg10 X10 V h10 1 (nb3 i k c) _ _ (off28 i k c) d κ

include hmx h10 h11 in
theorem mac4_sc (k : Fin (k0_t3_loop i).trips) (s : Fin 4) (w : Vec Ideal S1x80x256 .f32) (d : Fin 80) (r : Fin 256)
    (hw : w (ix3 0 d r) = accu I V (μ s r) s d r (lead i + 4 * k.val)) :
    mac4 (tripW i arg11 mx X11 k s) (tripV i arg10 X10 k (hd s)) w (ix3 0 d r) = accu I V (μ s r) s d r (lead i + 4 * (k.val + 1)) := by
  rw [mac4_apply, hw]
  simp only [tripW_sc i arg11 mx X11 I μ hmx h11, tripV_V i arg10 X10 V h10]
  rw [show lead i + 4 * (k.val + 1) = (nb3 i k 3).val + 1 from rfl, accu_succ, show (nb3 i k 3).val = (nb3 i k 2).val + 1 from rfl, accu_succ,
    show (nb3 i k 2).val = (nb3 i k 1).val + 1 from rfl, accu_succ, show (nb3 i k 1).val = (nb3 i k 0).val + 1 from rfl, accu_succ]
  simp only [add_assoc]
  rfl

include hmx h10 h11 in
/-- After `k` trips the sums are those over the blocks so far. -/
theorem weighed (hf : ∀ s d r, arg12.view.read (Elt Ideal) f12 (ix3 s d r) = accu I V (μ s r) s d r (lead i)) (k : ℕ) (hk : k ≤ (k0_t3_loop i).trips) (s : Fin 4) (d : Fin 80) (r : Fin 256) :
    arg12.view.read (Elt Ideal) (arg12.view.writes (Elt Ideal) f12 (pb_k0_t3 𝒱 c bd i arg3 harg3 arg4 harg4 arg5 harg5 arg6 harg6 arg7 harg7 arg8 harg8 arg9 harg9 arg10 harg10 arg11 harg11 arg12 harg12 v28 v38 (mx 0) (mx 1) (mx 2) (mx 3) v73 X10 X11 f12 k)) (ix3 s d r)
      = accu I V (μ s r) s d r (lead i + 4 * k) := by
  induction k generalizing s d r with
  | zero => exact hf s d r
  | succ k ih =>
    have ih := ih (Nat.le_of_succ_le hk)
    rw [pb_k0_t3_succ 𝒱 c bd i arg3 harg3 arg4 harg4 arg5 harg5 arg6 harg6 arg7 harg7 arg8 harg8 arg9 harg9 arg10 harg10 arg11 harg11 arg12 harg12 v28 v38 (mx 0) (mx 1) (mx 2) (mx 3) v73 X10 X11 f12 ⟨k, hk⟩, View.writes_append, trip3_eq]
    refine (slots_read arg12.view _ (fun s => mac4 (tripW i arg11 mx X11 ⟨k, hk⟩ s) (tripV i arg10 X10 ⟨k, hk⟩ (hd s)) (arg12.view.readAt (Elt Ideal) (Rect.unit (s := S4x80x256) ![s.val, 0, 0] S1x80x256.size (slot_inb s)).toLoadRect _)) [] s d r).trans ?_
    exact mac4_sc i arg10 arg11 mx X10 X11 I V μ hmx h10 h11 ⟨k, hk⟩ s _ d r ((slot_at arg12 _ s _ d r).trans (ih s d r))

end weigh

end Cert.AttnIdeal.Hand

end
-- ==== Proof.AttnLead.lean ====
module

public import proofs.«01_k».proof.Proof.AttnLoop

@[expose] public section

set_option maxRecDepth 16384
set_option maxHeartbeats 1000000

noncomputable section

open Idealize.ShloMosaic Idealize.ShloMosaic.TcCoe Idealize.SL.Sem

namespace Cert.AttnIdeal.Hand

open Cert.AttnIdeal Cert.AttnIdeal.Gen Cert.AttnIdeal.Run

theorem off1 : ∀ i, ∀ c j : Fin 2, k0_off1 i (BitVec.ofNat 32 c.val) (BitVec.ofNat 32 j.val) = ![0, kind c.val (2 * (i 2).val + j.val), 0, 0] := by decide +kernel
theorem off2 : ∀ i, ∀ c j : Fin 2, k0_off2 i (BitVec.ofNat 32 c.val) (BitVec.ofNat 32 j.val) = ![1, kind c.val (2 * (i 2).val + j.val), 0, 0] := by decide +kernel
theorem lead_two : ∀ i, k0_cond2 i = 1#1 → lead i = 2 := by decide +kernel
theorem lead_none : ∀ i, ¬ k0_cond2 i = 1#1 → lead i = 0 := by decide +kernel

theorem mask_inb : ∀ s : Fin 4, ∀ c : Fin 2, ∀ a, (![0, 0, (hd s).val, c.val, 256 * (jb s).val] : Fin 5 → ℕ) a + S1x1x1x1x256.size a ≤ S1x1x2x16x512.size a := by decide +kernel
theorem put_inb : ∀ s : Fin 4, ∀ c : Fin 2, ∀ a, (![s.val, c.val, 0, 0] : Fin 4 → ℕ) a + S1x1x256x256.size a ≤ S4x16x256x256.size a := by decide +kernel

/-- The first two blocks of keys. -/
def two (c : Fin 2) : Fin 16 := ⟨c.val, by omega⟩

section scores
variable (i : grid0.Coords) (h2 : k0_cond2 i = 1#1)
  (arg4 : Memref sig .tc .vmem S1x4096x128 .bf16) (arg6 : Memref sig .tc .vmem S1x1x2x16x512 .f32) (arg7 : Memref sig .tc .vmem S2x4x256x256 .f32)
  (arg11 : Memref sig .tc .vmem S4x16x256x256 .f32) (v : Fin 4 → FVec Ideal S256x128 .bf16)
  (X4 : BufTy.Contents (Elt Ideal) arg4.view.ty) (X6 : BufTy.Contents (Elt Ideal) arg6.view.ty) (X7 : BufTy.Contents (Elt Ideal) arg7.view.ty)

/-- The two leading blocks of scores of a slot, by their offsets in the tiles. -/
def leads (s : Fin 4) (o7 : Fin 2 → Fin 4 → ℕ) (i7 : ∀ c a, o7 c a + S1x1x256x256.size a ≤ S2x4x256x256.size a) (c : Fin 2) : FVec Ideal S256x256 .f32 :=
  blk (dot2 (arg4.view.readAt (Elt Ideal) (Rect.unit (s := S1x4096x128) ![0, 0, 0] S1x512x128.size inb_S1x4096x128_S1x512x128_0_0_0).toLoadRect X4) (v s)) ![256 * c.val, 0] (slices2 c)
    (arg7.view.readAt (Elt Ideal) (Rect.unit (s := S2x4x256x256) (o7 c) S1x1x256x256.size (i7 c)).toLoadRect X7)
    (arg6.view.readAt (Elt Ideal) (Rect.unit (s := S1x1x2x16x512) ![0, 0, (hd s).val, c.val, 256 * (jb s).val] S1x1x1x1x256.size (mask_inb s c)).toLoadRect X6)

/-- The leading blocks of scores, by slot and block. -/
def leadB : Fin 4 → Fin 2 → FVec Ideal S256x256 .f32
  | 0 => leads arg4 arg6 arg7 v X4 X6 X7 0 (fun c => k0_off1 i (BitVec.ofNat 32 c.val) (BitVec.ofNat 32 (0 : Fin 2).val)) (fun c => k0_off1_inb i h2 c 0)
  | 1 => leads arg4 arg6 arg7 v X4 X6 X7 1 (fun c => k0_off2 i (BitVec.ofNat 32 c.val) (BitVec.ofNat 32 (0 : Fin 2).val)) (fun c => k0_off2_inb i h2 c 0)
  | 2 => leads arg4 arg6 arg7 v X4 X6 X7 2 (fun c => k0_off1 i (BitVec.ofNat 32 c.val) (BitVec.ofNat 32 (1 : Fin 2).val)) (fun c => k0_off1_inb i h2 c 1)
  | 3 => leads arg4 arg6 arg7 v X4 X6 X7 3 (fun c => k0_off2 i (BitVec.ofNat 32 c.val) (BitVec.ofNat 32 (1 : Fin 2).val)) (fun c => k0_off2_inb i h2 c 1)

/-- A leading block's store. -/
def leadQ (s : Fin 4) (c : Fin 2) : View.Piece (Elt Ideal) S4x16x256x256 .f32 :=
  put ![s.val, c.val, 0, 0] (put_inb s c) (leadB i h2 arg4 arg6 arg7 v X4 X6 X7 s c)

/-- The leading blocks' stores, the last first. -/
def leadP : List (View.Piece (Elt Ideal) S4x16x256x256 .f32) :=
  [leadQ i h2 arg4 arg6 arg7 v X4 X6 X7 3 1, leadQ i h2 arg4 arg6 arg7 v X4 X6 X7 3 0, leadQ i h2 arg4 arg6 arg7 v X4 X6 X7 2 1, leadQ i h2 arg4 arg6 arg7 v X4 X6 X7 2 0,
    leadQ i h2 arg4 arg6 arg7 v X4 X6 X7 1 1, leadQ i h2 arg4 arg6 arg7 v X4 X6 X7 1 0, leadQ i h2 arg4 arg6 arg7 v X4 X6 X7 0 1, leadQ i h2 arg4 arg6 arg7 v X4 X6 X7 0 0]

/-- A slot's maxima over its leading blocks. -/
def leadM (s : Fin 4) : FVec Ideal S1x256 .f32 :=
  over (over (k0_pay293 : FVec Ideal S1x256 .f32) (leadB i h2 arg4 arg6 arg7 v X4 X6 X7 s 0)) (leadB i h2 arg4 arg6 arg7 v X4 X6 X7 s 1)

theorem bottom (I : Inp) (s : Fin 4) (r : Fin 256) : (k0_pay293 : FVec Ideal S1x256 .f32) (ix2 0 r) = top I s r 0 := bits_bot

variable {arg4 arg6 arg7 v X4 X6 X7} {I : Inp} (H : Holds X4 X6 X7 I v) (hg : I.g = (i 2).val)
include H hg

theorem leadB_sc (s : Fin 4) (c : Fin 2) (κ r : Fin 256) : leadB i h2 arg4 arg6 arg7 v X4 X6 X7 s c (ix2 κ r) = sc I s (two c) κ r := by
  match s with
  | 0 => exact blk2_sc H 0 c (two c) rfl _ _ rfl _ _ (by rw [hg]; exact off1 i c 0) _ _ rfl κ r
  | 1 => exact blk2_sc H 1 c (two c) rfl _ _ rfl _ _ (by rw [hg]; exact off2 i c 0) _ _ rfl κ r
  | 2 => exact blk2_sc H 2 c (two c) rfl _ _ rfl _ _ (by rw [hg]; exact off1 i c 1) _ _ rfl κ r
  | 3 => exact blk2_sc H 3 c (two c) rfl _ _ rfl _ _ (by rw [hg]; exact off2 i c 1) _ _ rfl κ r

omit H hg in
theorem leadQ_read (f : BufTy.Contents (Elt Ideal) arg11.view.ty) (L : List (View.Piece (Elt Ideal) S4x16x256x256 .f32)) (s₀ : Fin 4) (c₀ : Fin 2) (s : Fin 4) (n : Fin 16) (κ r : Fin 256) :
    arg11.view.read (Elt Ideal) (arg11.view.writes (Elt Ideal) f (leadQ i h2 arg4 arg6 arg7 v X4 X6 X7 s₀ c₀ :: L)) (ix4 s n κ r)
      = if s.val = s₀.val ∧ n.val = c₀.val then leadB i h2 arg4 arg6 arg7 v X4 X6 X7 s₀ c₀ (ix2 κ r) else arg11.view.read (Elt Ideal) (arg11.view.writes (Elt Ideal) f L) (ix4 s n κ r) :=
  (piece_read arg11.view f _ (put_inb s₀ c₀) _ L s₀.val c₀.val rfl s n κ r).trans
    (congrArg (fun x => if s.val = s₀.val ∧ n.val = c₀.val then x else _) (cast_apply _ κ r))

theorem lead_read (f : BufTy.Contents (Elt Ideal) arg11.view.ty) (s : Fin 4) (c : Fin 2) (κ r : Fin 256) :
    arg11.view.read (Elt Ideal) (arg11.view.writes (Elt Ideal) f (leadP i h2 arg4 arg6 arg7 v X4 X6 X7)) (ix4 s (two c) κ r) = sc I s (two c) κ r := by
  unfold leadP
  rw [leadQ_read, leadQ_read, leadQ_read, leadQ_read, leadQ_read, leadQ_read, leadQ_read, leadQ_read]
  simp only [leadB_sc i h2 H hg]
  fin_cases s <;> fin_cases c <;> simp [two]

theorem lead_top (s : Fin 4) (r : Fin 256) : leadM i h2 arg4 arg6 arg7 v X4 X6 X7 s (ix2 0 r) = top I s r (lead i) := by
  unfold leadM
  refine Eq.trans ?_ (congrArg (top I s r) (lead_two i h2).symm)
  refine Eq.trans ?_ (show top I s r ((two 1).val + 1) = top I s r 2 from rfl)
  rw [top_succ, show (two 1).val = (two 0).val + 1 from rfl, top_succ]
  simp only [over_apply, leadB_sc i h2 H hg, bottom I s r]
  rfl

end scores

/-! ### The leading sums -/

section weigh
variable (i : grid0.Coords)
  (arg10 : Memref sig .tc .vmem S16x2x80x256 .bf16) (arg11 : Memref sig .tc .vmem S4x16x256x256 .f32) (arg12 : Memref sig .tc .vmem S4x80x256 .f32)
  (mx : Fin 4 → FVec Ideal S1x256 .f32) (X10 : BufTy.Contents (Elt Ideal) arg10.view.ty) (X11 : BufTy.Contents (Elt Ideal) arg11.view.ty)

theorem row_inb : ∀ h : Fin 2, ∀ c : Fin 2, ∀ a, (![c.val, h.val, 0, 0] : Fin 4 → ℕ) a + S1x1x80x256.size a ≤ S16x2x80x256.size a := by decide +kernel

/-- The weights of a leading block for a slot. -/
def leadW (s : Fin 4) (c : Fin 2) : FVec Ideal S256x256 .bf16 :=
  pw (mx s) (arg11.view.readAt (Elt Ideal) (Rect.unit (s := S4x16x256x256) ![s.val, c.val, 0, 0] S1x1x256x256.size (put_inb s c)).toLoadRect X11)

/-- The values of a leading block for a head. -/
def leadV (h : Fin 2) (c : Fin 2) : Vec Ideal S1x1x80x256 .bf16 :=
  arg10.view.readAt (Elt Ideal) (Rect.unit (s := S16x2x80x256) ![c.val, h.val, 0, 0] S1x1x80x256.size (row_inb h c)).toLoadRect X10

/-- A slot's leading sums over what the stores `L` left there. -/
def leadS (s : Fin 4) (L : List (View.Piece (Elt Ideal) S4x80x256 .f32)) : View.Piece (Elt Ideal) S4x80x256 .f32 :=
  ⟨Rect.unit ![s.val, 0, 0] S1x80x256.size (slot_inb s), mac2 (leadW arg11 mx X11 s) (leadV arg10 X10 (hd s))
    (arg12.view.readCov (Val := Elt Ideal) L (Rect.unit (s := S4x80x256) ![s.val, 0, 0] S1x80x256.size (slot_inb s)).toLoadRect)⟩

/-- The accumulators zeroed. -/
def zero : List (View.Piece (Elt Ideal) S4x80x256 .f32) :=
  [⟨Rect.unit ![0, 0, 0] S4x80x256.size inb_S4x80x256_S4x80x256_0_0_0, (k0_pay303 : FVec Ideal S4x80x256 .f32)⟩]

/-- The slots' leading sums, one after another. -/
def sums0 : List (View.Piece (Elt Ideal) S4x80x256 .f32) := leadS arg10 arg11 arg12 mx X10 X11 0 zero :: zero
def sums1 : List (View.Piece (Elt Ideal) S4x80x256 .f32) := leadS arg10 arg11 arg12 mx X10 X11 1 (sums0 arg10 arg11 arg12 mx X10 X11) :: sums0 arg10 arg11 arg12 mx X10 X11
def sums2 : List (View.Piece (Elt Ideal) S4x80x256 .f32) := leadS arg10 arg11 arg12 mx X10 X11 2 (sums1 arg10 arg11 arg12 mx X10 X11) :: sums1 arg10 arg11 arg12 mx X10 X11
def sums3 : List (View.Piece (Elt Ideal) S4x80x256 .f32) := leadS arg10 arg11 arg12 mx X10 X11 3 (sums2 arg10 arg11 arg12 mx X10 X11) :: sums2 arg10 arg11 arg12 mx X10 X11

theorem zero_read (f : BufTy.Contents (Elt Ideal) arg12.view.ty) (s : Fin 4) (d : Fin 80) (r : Fin 256) :
    arg12.view.read (Elt Ideal) (arg12.view.writes (Elt Ideal) f zero) (ix3 s d r) = 0 := by
  refine (View.read_writes_cons_unit_of_mem arg12.view f inb_S4x80x256_S4x80x256_0_0_0 _ [] (ix3 s d r) (ix3 s d r) rfl fun a => match a with
    | 0 => (Nat.zero_add _).symm
    | 1 => (Nat.zero_add _).symm
    | 2 => (Nat.zero_add _).symm).trans ?_
  pointwise [k0_pay303]

variable (I : Inp) (V : Fin 16 → Fin 2 → Fin 80 → Fin 256 → EReal) (μ : Fin 4 → Fin 256 → EReal)
  (hmx : ∀ s r, mx s (ix2 0 r) = μ s r) (h10 : ∀ n h d κ, arg10.view.read (Elt Ideal) X10 (ix4 n h d κ) = V n h d κ)
  (h11 : ∀ s n κ r, n.val < 2 * (i 2).val + 2 → arg11.view.read (Elt Ideal) X11 (ix4 s n κ r) = sc I s n κ r)
include hmx h10 h11

theorem leadS_read (L : List (View.Piece (Elt Ideal) S4x80x256 .f32)) (f : BufTy.Contents (Elt Ideal) arg12.view.ty) (s s' : Fin 4) (d : Fin 80) (r : Fin 256)
    (h0 : arg12.view.read (Elt Ideal) (arg12.view.writes (Elt Ideal) arg12.view.junk L) (ix3 s d r) = 0) :
    arg12.view.read (Elt Ideal) (arg12.view.writes (Elt Ideal) f (leadS arg10 arg11 arg12 mx X10 X11 s L :: L)) (ix3 s' d r)
      = if s'.val = s.val then accu I V (μ s r) s d r 2 else arg12.view.read (Elt Ideal) (arg12.view.writes (Elt Ideal) f L) (ix3 s' d r) := by
  refine (slot_read arg12.view f s.val (slot_inb s) _ L s' d r).trans ?_
  refine congrArg (fun x => if s'.val = s.val then x else _) ?_
  refine (mac2_apply _ _ _ d r).trans ?_
  refine Eq.trans ?_ (show accu I V (μ s r) s d r ((two 1).val + 1) = accu I V (μ s r) s d r 2 from rfl)
  rw [accu_succ, show (two 1).val = (two 0).val + 1 from rfl, accu_succ]
  have hw (c : Fin 2) (κ : Fin 256) : leadW arg11 mx X11 s c (ix2 κ r) = wt I (μ s r) s (two c) κ r :=
    pw_sc i arg11 mx X11 I μ hmx h11 s (two c) (by show c.val < _; omega) _ _ rfl κ r
  have hv (c : Fin 2) (κ : Fin 256) : leadV arg10 X10 (hd s) c (ix4 0 0 d κ) = V (two c) (hd s) d κ :=
    val_V arg10 X10 V h10 (hd s) (two c) _ _ rfl d κ
  simp only [hw, hv]
  rw [show arg12.view.readCov (Val := Elt Ideal) L (Rect.unit (s := S4x80x256) ![s.val, 0, 0] S1x80x256.size (slot_inb s)).toLoadRect (ix3 0 d r) = 0
    from (slot_at arg12 _ s (slot_inb s) d r).trans h0, show accu I V (μ s r) s d r (two 0).val = 0 from rfl, add_assoc]

/-- The slots' leading sums are those over the first two blocks. -/
theorem sums_read (f : BufTy.Contents (Elt Ideal) arg12.view.ty) (s : Fin 4) (d : Fin 80) (r : Fin 256) :
    arg12.view.read (Elt Ideal) (arg12.view.writes (Elt Ideal) f (sums3 arg10 arg11 arg12 mx X10 X11)) (ix3 s d r) = accu I V (μ s r) s d r 2 := by
  have S := leadS_read i arg10 arg11 arg12 mx X10 X11 I V μ hmx h10 h11
  have z0 := zero_read arg12
  have r0 (f) (s') := S zero f 0 s' d r (z0 _ _ d r)
  have r1 (f) (s') := S (sums0 arg10 arg11 arg12 mx X10 X11) f 1 s' d r ((r0 _ 1).trans (z0 _ _ d r))
  have r2 (f) (s') := S (sums1 arg10 arg11 arg12 mx X10 X11) f 2 s' d r ((r1 _ 2).trans ((r0 _ 2).trans (z0 _ _ d r)))
  have r3 (f) (s') := S (sums2 arg10 arg11 arg12 mx X10 X11) f 3 s' d r ((r2 _ 3).trans ((r1 _ 3).trans ((r0 _ 3).trans (z0 _ _ d r))))
  match s with
  | 3 => exact r3 f 3
  | 2 => exact (r3 f 2).trans (r2 f 2)
  | 1 => exact (r3 f 1).trans ((r2 f 1).trans (r1 f 1))
  | 0 => exact (r3 f 0).trans ((r2 f 0).trans ((r1 f 0).trans (r0 f 0)))

end weigh

end Cert.AttnIdeal.Hand

end
-- ==== Proof.AttnVals.lean ====
module

public import proofs.«01_k».proof.Proof.AttnLead

@[expose] public section

set_option maxRecDepth 16384
set_option maxHeartbeats 1000000

noncomputable section

open Idealize.ShloMosaic Idealize.ShloMosaic.TcCoe Idealize.SL.Sem

namespace Cert.AttnIdeal.Hand

open Cert.AttnIdeal Cert.AttnIdeal.Gen Cert.AttnIdeal.Run

/-! ### The values, transposed, with a row of ones -/

/-- A head's columns of a block of values, transposed. -/
def rows (v : Vec Ideal S1x256x128 .bf16) (o : Fin 2 → ℕ) (ho : Shape.Slices S128x256 o S64x256) : FVec Ideal S1x1x64x256 .bf16 :=
  shapeCast S1x1x64x256 (extractStridedSlice S64x256 o (k0_pay3 v : FVec Ideal S128x256 .bf16) ho) shapeCasts_S64x256_S1x1x64x256

theorem rows0_apply (v : Vec Ideal S1x256x128 .bf16) (d : Fin 64) (κ : Fin 256) :
    rows v ![0, 0] slices_S128x256_o0_0_S64x256 (ix4 0 0 d κ) = v (ix3 0 κ ⟨d.val, by omega⟩) := by
  pointwise [rows, k0_pay3]

theorem rows1_apply (v : Vec Ideal S1x256x128 .bf16) (d : Fin 64) (κ : Fin 256) :
    rows v ![64, 0] slices_S128x256_o64_0_S64x256 (ix4 0 0 d κ) = v (ix3 0 κ ⟨64 + d.val, by omega⟩) := by
  pointwise [rows, k0_pay3]

theorem ones_apply (d : Fin 16) (κ : Fin 256) :
    (k0_pay5 : FVec Ideal S1x1x16x256 .bf16) (ix4 0 0 d κ) = if d.val = 0 then 1 else 0 := by
  pointwise [k0_pay5, k0_pay2]
  rw [(by decide +kernel : ∀ d : Fin 16, IntOp.cmpi .eq (BitVec.ofNat 32 d.val) 0#32 = if d.val = 0 then 1#1 else 0#1) d]
  split_ifs <;> rfl

theorem block_inb : ∀ n : Fin 16, ∀ a, (![0, 256 * n.val, 0] : Fin 3 → ℕ) a + S1x256x128.size a ≤ S1x4096x128.size a := by decide +kernel
theorem rows_inb : ∀ n : Fin 16, ∀ h : Fin 2, ∀ a, (![n.val, h.val, 0, 0] : Fin 4 → ℕ) a + S1x1x64x256.size a ≤ S16x2x80x256.size a := by decide +kernel
theorem ones_inb : ∀ n : Fin 16, ∀ h : Fin 2, ∀ a, (![n.val, h.val, 64, 0] : Fin 4 → ℕ) a + S1x1x16x256.size a ≤ S16x2x80x256.size a := by decide +kernel

/-- What the transposed values hold: a head's values, a row of ones, zeros. -/
def VT (W : Fin 4096 → Fin 128 → EReal) (n : Fin 16) (h : Fin 2) (d : Fin 80) (κ : Fin 256) : EReal :=
  if hd : d.val < 64 then W (key n κ) ⟨64 * h.val + d.val, by omega⟩ else if d.val = 64 then 1 else 0

section vt
variable (arg5 : Memref sig .tc .vmem S1x4096x128 .bf16) (X5 : BufTy.Contents (Elt Ideal) arg5.view.ty)

/-- A block of the values. -/
def vblk (n : Fin 16) : Vec Ideal S1x256x128 .bf16 :=
  arg5.view.readAt (Elt Ideal) (Rect.unit (s := S1x4096x128) ![0, 256 * n.val, 0] S1x256x128.size (block_inb n)).toLoadRect X5

/-- The stores of the first `m` blocks of values, the last first. -/
def vtL : ℕ → List (View.Piece (Elt Ideal) S16x2x80x256 .bf16)
  | 0 => []
  | m + 1 => if h : m < 16 then
      ⟨Rect.unit ![m, 1, 64, 0] S1x1x16x256.size (ones_inb ⟨m, h⟩ 1), (k0_pay5 : FVec Ideal S1x1x16x256 .bf16)⟩
      :: ⟨Rect.unit ![m, 1, 0, 0] S1x1x64x256.size (rows_inb ⟨m, h⟩ 1), rows (vblk arg5 X5 ⟨m, h⟩) ![64, 0] slices_S128x256_o64_0_S64x256⟩
      :: ⟨Rect.unit ![m, 0, 64, 0] S1x1x16x256.size (ones_inb ⟨m, h⟩ 0), (k0_pay5 : FVec Ideal S1x1x16x256 .bf16)⟩
      :: ⟨Rect.unit ![m, 0, 0, 0] S1x1x64x256.size (rows_inb ⟨m, h⟩ 0), rows (vblk arg5 X5 ⟨m, h⟩) ![0, 0] slices_S128x256_o0_0_S64x256⟩
      :: vtL m else vtL m

variable (arg10 : Memref sig .tc .vmem S16x2x80x256 .bf16) (f : BufTy.Contents (Elt Ideal) arg10.view.ty)

/-- A store over `R` rows of a head's block, read. -/
theorem row_read {R : ℕ} (m h₀ d₀ : ℕ) (inb : ∀ a, (![m, h₀, d₀, 0] : Fin 4 → ℕ) a + (![1, 1, R, 256] : Fin 4 → ℕ) a ≤ S16x2x80x256.size a)
    (w : (⟨4, ![1, 1, R, 256]⟩ : Shape).Idx → Elt Ideal .bf16) (L : List (View.Piece (Elt Ideal) S16x2x80x256 .bf16)) (n : Fin 16) (h : Fin 2) (d : Fin 80) (κ : Fin 256) :
    arg10.view.read (Elt Ideal) (arg10.view.writes (Elt Ideal) f (⟨Rect.unit ![m, h₀, d₀, 0] ![1, 1, R, 256] inb, w⟩ :: L)) (ix4 n h d κ)
      = if hc : n.val = m ∧ h.val = h₀ ∧ d₀ ≤ d.val ∧ d.val < d₀ + R then w (ix4 0 0 (⟨d.val - d₀, by omega⟩ : Fin R) κ)
        else arg10.view.read (Elt Ideal) (arg10.view.writes (Elt Ideal) f L) (ix4 n h d κ) := by
  split_ifs with hc
  · obtain ⟨rfl, rfl, hd, -⟩ := hc
    exact View.read_writes_cons_unit_of_mem arg10.view f inb w L (ix4 n h d κ) (ix4 0 0 (⟨d.val - d₀, by omega⟩ : Fin R) κ) rfl fun a => match a with
      | 0 => rfl
      | 1 => rfl
      | 2 => (by show d.val = d₀ + (d.val - d₀); omega)
      | 3 => (Nat.zero_add _).symm
  · by_cases hn : n.val = m
    · by_cases hh : h.val = h₀
      · exact View.read_writes_cons_unit_of_not_mem arg10.view f inb w L (ix4 n h d κ) rfl 2 (by
          show d.val < d₀ ∨ d₀ + R ≤ d.val
          have : ¬ (d₀ ≤ d.val ∧ d.val < d₀ + R) := fun e => hc ⟨hn, hh, e⟩
          omega)
      · exact View.read_writes_cons_unit_of_not_mem arg10.view f inb w L (ix4 n h d κ) rfl 1 (by
          show h.val < h₀ ∨ h₀ + 1 ≤ h.val
          omega)
    · exact View.read_writes_cons_unit_of_not_mem arg10.view f inb w L (ix4 n h d κ) rfl 0 (by
        show n.val < m ∨ m + 1 ≤ n.val
        omega)

variable (W : Fin 4096 → Fin 128 → EReal) (h5 : ∀ a l, arg5.view.read (Elt Ideal) X5 (ix3 0 a l) = W a l)
include h5

theorem vblk_apply (n : Fin 16) (κ : Fin 256) (l : Fin 128) : vblk arg5 X5 n (ix3 0 κ l) = W (key n κ) l := by
  rw [← h5]
  exact readAt_coord arg5.view X5 _ S1x256x128.size (block_inb n) _ rfl (ix3 0 κ l) (ix3 0 (key n κ) l) (fun a => match a with
    | 0 => rfl
    | 1 => rfl
    | 2 => (Nat.zero_add _).symm)

/-- The transposed values, once stored. -/
theorem vt_read (m : ℕ) (n : Fin 16) (h : Fin 2) (d : Fin 80) (κ : Fin 256) (hn : n.val < m) (hm : m ≤ 16) :
    arg10.view.read (Elt Ideal) (arg10.view.writes (Elt Ideal) f (vtL arg5 X5 m)) (ix4 n h d κ) = VT W n h d κ := by
  induction m with
  | zero => exact absurd hn (Nat.not_lt_zero _)
  | succ m ih =>
    rw [show vtL arg5 X5 (m + 1) = _ from (vtL.eq_2 arg5 X5 m).trans (dif_pos (Nat.lt_of_succ_le hm))]
    refine (row_read arg10 f (R := 16) m 1 64 _ _ _ n h d κ).trans ?_
    rw [show arg10.view.read (Elt Ideal) (arg10.view.writes (Elt Ideal) f (⟨Rect.unit ![m, 1, 0, 0] S1x1x64x256.size _, _⟩ :: _)) (ix4 n h d κ) = _ from row_read arg10 f (R := 64) m 1 0 _ _ _ n h d κ,
      show arg10.view.read (Elt Ideal) (arg10.view.writes (Elt Ideal) f (⟨Rect.unit ![m, 0, 64, 0] S1x1x16x256.size _, _⟩ :: _)) (ix4 n h d κ) = _ from row_read arg10 f (R := 16) m 0 64 _ _ _ n h d κ,
      show arg10.view.read (Elt Ideal) (arg10.view.writes (Elt Ideal) f (⟨Rect.unit ![m, 0, 0, 0] S1x1x64x256.size _, _⟩ :: _)) (ix4 n h d κ) = _ from row_read arg10 f (R := 64) m 0 0 _ _ _ n h d κ]
    have e1 (d : Fin 64) : rows (vblk arg5 X5 ⟨m, hm⟩) ![64, 0] slices_S128x256_o64_0_S64x256 (ix4 0 0 d κ) = W (key ⟨m, hm⟩ κ) ⟨64 + d.val, by omega⟩ :=
      (rows1_apply _ d κ).trans (vblk_apply arg5 X5 W h5 _ κ _)
    have e0 (d : Fin 64) : rows (vblk arg5 X5 ⟨m, hm⟩) ![0, 0] slices_S128x256_o0_0_S64x256 (ix4 0 0 d κ) = W (key ⟨m, hm⟩ κ) ⟨d.val, by omega⟩ :=
      (rows0_apply _ d κ).trans (vblk_apply arg5 X5 W h5 _ κ _)
    simp only [ones_apply, e0, e1]
    by_cases hnm : n.val = m
    · obtain rfl : n = ⟨m, hm⟩ := Fin.ext hnm
      unfold VT
      by_cases hd : d.val < 64
      · match h with
        | 0 => simp [hd, Nat.not_le.mpr hd]
        | 1 => simp [hd, Nat.not_le.mpr hd]
      · have hd' : 64 ≤ d.val := Nat.le_of_not_lt hd
        have e : (d.val - 64 = 0) = (d.val = 64) := propext (by omega)
        match h with
        | 0 => simp [hd, hd', e]
        | 1 => simp [hd, hd', e]
    · simp only [hnm, false_and, dite_false]
      exact ih (by omega) (by omega)

end vt

/-! ### The output -/

/-- A head's output, normalized: its sums over the sum of its weights, by the root of their mean square. -/
def nrm (a : Fin 64 → EReal) (b : EReal) (d : Fin 64) : EReal :=
  Ideal.div (a d) b * Ideal.rsqrt (Ideal.div (∑ x, Ideal.div (a x) b * Ideal.div (a x) b) (Ideal.ofBits FTy.f32 1115684864#32) + Ideal.ofBits FTy.f32 897988541#32)

/-- A block of output rows: the two heads normalized, side by side, times the gain. -/
def fin (a0 : Vec Ideal S1x64x256 .f32) (b0 : Vec Ideal S1x1x256 .f32) (a1 : Vec Ideal S1x64x256 .f32) (b1 : Vec Ideal S1x1x256 .f32) (g : Vec Ideal S1x128 .f32) : FVec Ideal S1x256x128 .bf16 :=
  k0_pay309 (k0_pay307 a0 b0) (k0_pay308 a1) b1 g

theorem fin_eq (a0 : Vec Ideal S1x64x256 .f32) (b0 : Vec Ideal S1x1x256 .f32) (a1 : Vec Ideal S1x64x256 .f32) (b1 : Vec Ideal S1x1x256 .f32) (g : Vec Ideal S1x128 .f32) :
    k0_pay1 (k0_pay310 a0 b0) a1 b1 g = fin a0 b0 a1 b1 g := rfl

theorem fin_apply (a0 : Vec Ideal S1x64x256 .f32) (b0 : Vec Ideal S1x1x256 .f32) (a1 : Vec Ideal S1x64x256 .f32) (b1 : Vec Ideal S1x1x256 .f32) (g : Vec Ideal S1x128 .f32)
    (r : Fin 256) (l : Fin 128) :
    fin a0 b0 a1 b1 g (ix3 0 r l) = (if h : l.val < 64 then nrm (fun x => a0 (ix3 0 x r)) (b0 (ix3 0 0 r)) ⟨l.val, h⟩
      else nrm (fun x => a1 (ix3 0 x r)) (b1 (ix3 0 0 r)) ⟨l.val - 64, by omega⟩) * g (ix2 0 l) := by
  pointwise [fin, k0_pay309, k0_pay307, k0_pay308]
  rfl

/-- The slot of a head of the pair and a query block of the group. -/
def slot (j h : Fin 2) : Fin 4 := ⟨2 * j.val + h.val, by omega⟩
/-- The head of an output column. -/
def ch (l : Fin 128) : Fin 2 := ⟨l.val / 64, by omega⟩
/-- The column within its head. -/
def cd (l : Fin 128) : Fin 64 := ⟨l.val % 64, by omega⟩

/-- The output of a group of queries, from the slots' sums. -/
def outv (A : Fin 4 → Fin 80 → Fin 256 → EReal) (G : Fin 128 → EReal) (j : Fin 2) (r : Fin 256) (l : Fin 128) : EReal :=
  nrm (fun x => A (slot j (ch l)) ⟨x.val, by omega⟩ r) (A (slot j (ch l)) 64 r) (cd l) * G l

section out
variable (arg8 : Memref sig .tc .vmem S1x128 .f32) (arg9 : Memref sig .tc .vmem S1x512x128 .bf16) (arg12 : Memref sig .tc .vmem S4x80x256 .f32)
  (X8 : BufTy.Contents (Elt Ideal) arg8.view.ty) (X12 : BufTy.Contents (Elt Ideal) arg12.view.ty) (f : BufTy.Contents (Elt Ideal) arg9.view.ty)
  (A : Fin 4 → Fin 80 → Fin 256 → EReal) (G : Fin 128 → EReal)

theorem sum_inb : ∀ s : Fin 4, ∀ a, (![s.val, 0, 0] : Fin 3 → ℕ) a + S1x64x256.size a ≤ S4x80x256.size a := by decide +kernel
theorem den_inb : ∀ s : Fin 4, ∀ a, (![s.val, 64, 0] : Fin 3 → ℕ) a + S1x1x256.size a ≤ S4x80x256.size a := by decide +kernel

/-- A slot's weighted sums. -/
def num (s : Fin 4) : Vec Ideal S1x64x256 .f32 := arg12.view.readAt (Elt Ideal) (Rect.unit (s := S4x80x256) ![s.val, 0, 0] S1x64x256.size (sum_inb s)).toLoadRect X12
/-- A slot's sums of weights. -/
def den (s : Fin 4) : Vec Ideal S1x1x256 .f32 := arg12.view.readAt (Elt Ideal) (Rect.unit (s := S4x80x256) ![s.val, 64, 0] S1x1x256.size (den_inb s)).toLoadRect X12
/-- The gain. -/
def gain : Vec Ideal S1x128 .f32 := arg8.view.readAt (Elt Ideal) (Rect.unit (s := S1x128) ![0, 0] S1x128.size inb_S1x128_S1x128_0_0).toLoadRect X8

/-- The output's two stores, the last first. -/
def outL : List (View.Piece (Elt Ideal) S1x512x128 .bf16) :=
  [⟨Rect.unit ![0, 256, 0] S1x256x128.size inb_S1x512x128_S1x256x128_0_256_0, fin (num arg12 X12 2) (den arg12 X12 2) (num arg12 X12 3) (den arg12 X12 3) (gain arg8 X8)⟩,
    ⟨Rect.unit ![0, 0, 0] S1x256x128.size inb_S1x512x128_S1x256x128_0_0_0, fin (num arg12 X12 0) (den arg12 X12 0) (num arg12 X12 1) (den arg12 X12 1) (gain arg8 X8)⟩]

variable (hA : ∀ s d r, arg12.view.read (Elt Ideal) X12 (ix3 s d r) = A s d r) (hG : ∀ l, arg8.view.read (Elt Ideal) X8 (ix2 0 l) = G l)
include hA hG

theorem fin_outv (j : Fin 2) (r : Fin 256) (l : Fin 128) :
    fin (num arg12 X12 (slot j 0)) (den arg12 X12 (slot j 0)) (num arg12 X12 (slot j 1)) (den arg12 X12 (slot j 1)) (gain arg8 X8) (ix3 0 r l) = outv A G j r l := by
  have en (s : Fin 4) (x : Fin 64) : num arg12 X12 s (ix3 0 x r) = A s ⟨x.val, by omega⟩ r := by
    rw [← hA]
    exact readAt_coord arg12.view X12 _ S1x64x256.size (sum_inb s) _ rfl (ix3 0 x r) (ix3 s ⟨x.val, by omega⟩ r) (fun a => match a with
      | 0 => rfl
      | 1 => (Nat.zero_add _).symm
      | 2 => (Nat.zero_add _).symm)
  have ed (s : Fin 4) : den arg12 X12 s (ix3 0 0 r) = A s 64 r := by
    rw [← hA]
    exact readAt_coord arg12.view X12 _ S1x1x256.size (den_inb s) _ rfl (ix3 0 0 r) (ix3 s 64 r) (fun a => match a with
      | 0 => rfl
      | 1 => rfl
      | 2 => (Nat.zero_add _).symm)
  have eg : gain arg8 X8 (ix2 0 l) = G l := by
    rw [← hG]
    exact readAt_coord arg8.view X8 _ S1x128.size inb_S1x128_S1x128_0_0 _ rfl (ix2 0 l) (ix2 0 l) (fun a => match a with
      | 0 => rfl
      | 1 => (Nat.zero_add _).symm)
  rw [fin_apply, eg]
  simp only [en, ed]
  unfold outv
  congr 1
  split_ifs with h
  · rw [show ch l = 0 from Fin.ext (Nat.div_eq_of_lt h), show cd l = ⟨l.val, h⟩ from Fin.ext (Nat.mod_eq_of_lt h)]
  · rw [show ch l = 1 from Fin.ext (by show l.val / 64 = 1; omega), show cd l = ⟨l.val - 64, by omega⟩ from Fin.ext (by show l.val % 64 = l.val - 64; omega)]

/-- The output, once stored. -/
theorem out_read (j : Fin 2) (r : Fin 256) (l : Fin 128) :
    arg9.view.read (Elt Ideal) (arg9.view.writes (Elt Ideal) f (outL arg8 arg12 X8 X12)) (ix3 0 (qry j r) l) = outv A G j r l := by
  rw [← fin_outv arg8 arg12 X8 X12 A G hA hG]
  unfold outL
  match j with
  | 1 => exact View.read_writes_cons_unit_of_mem arg9.view f inb_S1x512x128_S1x256x128_0_256_0 _ _ (ix3 0 (qry 1 r) l) (ix3 0 r l) rfl fun a => match a with
    | 0 => rfl
    | 1 => rfl
    | 2 => (Nat.zero_add _).symm
  | 0 =>
    refine (View.read_writes_cons_unit_of_not_mem arg9.view f inb_S1x512x128_S1x256x128_0_256_0 _ _ (ix3 0 (qry 0 r) l) rfl 1 (.inl (by show 256 * 0 + r.val < 256; omega))).trans ?_
    exact View.read_writes_cons_unit_of_mem arg9.view f inb_S1x512x128_S1x256x128_0_0_0 _ _ (ix3 0 (qry 0 r) l) (ix3 0 r l) rfl fun a => match a with
      | 0 => rfl
      | 1 => rfl
      | 2 => (Nat.zero_add _).symm

end out

end Cert.AttnIdeal.Hand

end
-- ==== Proof.AttnOut.lean ====
module

public import proofs.«01_k».proof.Proof.AttnVals

@[expose] public section

set_option maxRecDepth 16384
set_option maxHeartbeats 1000000

noncomputable section

open Idealize.ShloMosaic Idealize.ShloMosaic.TcCoe Idealize.SL.Sem

namespace Cert.AttnIdeal.Hand

open Cert.AttnIdeal Cert.AttnIdeal.Gen Cert.AttnIdeal.Run

/-- What one grid point reads: queries, keys, values, bias tiles, mask and gain. -/
structure Data where
  Q : Fin 512 → Fin 128 → EReal
  K : Fin 4096 → Fin 128 → EReal
  W : Fin 4096 → Fin 128 → EReal
  M : Fin 2 → Fin 16 → Fin 512 → EReal
  T : Fin 2 → Fin 4 → Fin 256 → Fin 256 → EReal
  G : Fin 128 → EReal

/-- The data the scores of group `g` are computed with: each slot's queries, zero outside its head. -/
def Data.inp (D : Data) (g : ℕ) : Inp where
  q s r l := if ch l = hd s then D.Q (qry (jb s) r) l else 0
  K := D.K
  T := D.T
  M := D.M
  g := g

/-- The greatest score of a query over the blocks of keys up to its group's. -/
def Data.mu (D : Data) (g : ℕ) (s : Fin 4) (r : Fin 256) : EReal := top (D.inp g) s r (2 * g + 2)

/-- A query's weighted sum of a row of the transposed values. -/
def Data.acc (D : Data) (g : ℕ) (s : Fin 4) (d : Fin 80) (r : Fin 256) : EReal :=
  accu (D.inp g) (VT D.W) (D.mu g s r) s d r (2 * g + 2)

/-- The output of group `g`. -/
def Data.out (D : Data) (g : ℕ) : Fin 2 → Fin 256 → Fin 128 → EReal := outv (D.acc g) D.G

variable (𝒱 : Variants) (c : Dev nD) (bd : Option 𝒱.V) (i : grid0.Coords)
  (arg3 : Memref sig .tc .vmem S1x512x128 .bf16) (harg3 : arg3.IsWhole) (arg4 : Memref sig .tc .vmem S1x4096x128 .bf16) (harg4 : arg4.IsWhole)
  (arg5 : Memref sig .tc .vmem S1x4096x128 .bf16) (harg5 : arg5.IsWhole) (arg6 : Memref sig .tc .vmem S1x1x2x16x512 .f32) (harg6 : arg6.IsWhole)
  (arg7 : Memref sig .tc .vmem S2x4x256x256 .f32) (harg7 : arg7.IsWhole) (arg8 : Memref sig .tc .vmem S1x128 .f32) (harg8 : arg8.IsWhole)
  (arg9 : Memref sig .tc .vmem S1x512x128 .bf16) (harg9 : arg9.IsWhole) (arg10 : Memref sig .tc .vmem S16x2x80x256 .bf16) (harg10 : arg10.IsWhole)
  (arg11 : Memref sig .tc .vmem S4x16x256x256 .f32) (harg11 : arg11.IsWhole) (arg12 : Memref sig .tc .vmem S4x80x256 .f32) (harg12 : arg12.IsWhole)
  (X3 : BufTy.Contents (Elt Ideal) arg3.view.ty) (X4 : BufTy.Contents (Elt Ideal) arg4.view.ty) (X6 : BufTy.Contents (Elt Ideal) arg6.view.ty)
  (X7 : BufTy.Contents (Elt Ideal) arg7.view.ty) (X8 : BufTy.Contents (Elt Ideal) arg8.view.ty)

/-! ### The slots' queries -/

theorem q0_apply (x : Vec Ideal S1x256x128 .bf16) (r : Fin 256) (l : Fin 128) :
    (k0_pay287 x : FVec Ideal S256x128 .bf16) (ix2 r l) = if ch l = 0 then x (ix3 0 r l) else 0 := by
  pointwise [k0_pay287, k0_pay286, k0_pay285]
  rw [(by decide +kernel : ∀ l : Fin 128, IntOp.cmpi .slt (BitVec.ofNat 32 l.val) 64#32 = if ch l = 0 then 1#1 else 0#1) l]
  split_ifs <;> rfl

theorem q1_apply (x : Vec Ideal S1x256x128 .bf16) (r : Fin 256) (l : Fin 128) :
    (k0_pay288 x : FVec Ideal S256x128 .bf16) (ix2 r l) = if ch l = 1 then x (ix3 0 r l) else 0 := by
  pointwise [k0_pay288, k0_pay286, k0_pay285]
  rw [(by decide +kernel : ∀ l : Fin 128, IntOp.cmpi .slt (BitVec.ofNat 32 l.val) 64#32 = if ch l = 1 then 0#1 else 1#1) l]
  split_ifs <;> rfl

/-- The slots' queries, each kept in its head's columns. -/
def qs : Fin 4 → FVec Ideal S256x128 .bf16
  | 0 => k0_pay287 (arg3.view.readAt (Elt Ideal) (Rect.unit (s := S1x512x128) ![0, 0, 0] S1x256x128.size inb_S1x512x128_S1x256x128_0_0_0).toLoadRect X3)
  | 1 => k0_pay288 (arg3.view.readAt (Elt Ideal) (Rect.unit (s := S1x512x128) ![0, 0, 0] S1x256x128.size inb_S1x512x128_S1x256x128_0_0_0).toLoadRect X3)
  | 2 => k0_pay291 (arg3.view.readAt (Elt Ideal) (Rect.unit (s := S1x512x128) ![0, 256, 0] S1x256x128.size inb_S1x512x128_S1x256x128_0_256_0).toLoadRect X3)
  | 3 => k0_pay292 (arg3.view.readAt (Elt Ideal) (Rect.unit (s := S1x512x128) ![0, 256, 0] S1x256x128.size inb_S1x512x128_S1x256x128_0_256_0).toLoadRect X3)

variable {arg3 arg4 arg6 arg7 arg8 X3 X4 X6 X7 X8} {D : Data}

theorem qs_inp (h3 : ∀ a l, arg3.view.read (Elt Ideal) X3 (ix3 0 a l) = D.Q a l) (g : ℕ) (s : Fin 4) (r : Fin 256) (l : Fin 128) :
    qs arg3 X3 s (ix2 r l) = (D.inp g).q s r l := by
  have e (j : Fin 2) (inb) : arg3.view.readAt (Elt Ideal) (Rect.unit (s := S1x512x128) ![0, 256 * j.val, 0] S1x256x128.size inb).toLoadRect X3 (ix3 0 r l) = D.Q (qry j r) l := by
    rw [← h3]
    exact readAt_coord arg3.view X3 _ S1x256x128.size inb _ rfl (ix3 0 r l) (ix3 0 (qry j r) l) (fun a => match a with
      | 0 => rfl
      | 1 => rfl
      | 2 => (Nat.zero_add _).symm)
  match s with
  | 0 => exact (q0_apply _ r l).trans (congrArg (fun x => if ch l = 0 then x else 0) (e 0 _))
  | 1 => exact (q1_apply _ r l).trans (congrArg (fun x => if ch l = 1 then x else 0) (e 0 _))
  | 2 => exact (q0_apply _ r l).trans (congrArg (fun x => if ch l = 0 then x else 0) (e 1 _))
  | 3 => exact (q1_apply _ r l).trans (congrArg (fun x => if ch l = 1 then x else 0) (e 1 _))

variable (h3 : ∀ a l, arg3.view.read (Elt Ideal) X3 (ix3 0 a l) = D.Q a l) (h4 : ∀ a l, arg4.view.read (Elt Ideal) X4 (ix3 0 a l) = D.K a l)
  (h6 : ∀ h n a, arg6.view.read (Elt Ideal) X6 (ix5 0 0 h n a) = D.M h n a) (h7 : ∀ h k κ r, arg7.view.read (Elt Ideal) X7 (ix4 h k κ r) = D.T h k κ r)
  (h8 : ∀ l, arg8.view.read (Elt Ideal) X8 (ix2 0 l) = D.G l)

include h3 h4 h6 h7 in
theorem holds (g : ℕ) : Holds X4 X6 X7 (D.inp g) (qs arg3 X3) where
  q := qs_inp h3 g
  K := h4
  M := h6
  T := h7

/-! ### The sums and the output of a grid point -/

/-- A slot's entry of the handed-on maxima. -/
def tp (y : Tops Ideal) : Fin 4 → FVec Ideal S1x256 .f32
  | 0 => y.1
  | 1 => y.2.1
  | 2 => y.2.2.1
  | 3 => y.2.2.2

section sums
variable (v28 v38 v73 v96 : BitVec 32) (y : Tops Ideal) (X10 : BufTy.Contents (Elt Ideal) arg10.view.ty) (X11 : BufTy.Contents (Elt Ideal) arg11.view.ty)
  (L : List (View.Piece (Elt Ideal) S4x80x256 .f32))

/-- All stores of the sums, the last first. -/
def sumsL : List (View.Piece (Elt Ideal) S4x80x256 .f32) :=
  pb_k0_t4 𝒱 c bd i arg3 harg3 arg4 harg4 arg5 harg5 arg6 harg6 arg7 harg7 arg8 harg8 arg9 harg9 arg10 harg10 arg11 harg11 arg12 harg12 v28 v38 (tp y 0) (tp y 1) (tp y 2) (tp y 3) v73 v96 X10 X11
      (arg12.view.writes (Elt Ideal) arg12.view.junk (pb_k0_t3 𝒱 c bd i arg3 harg3 arg4 harg4 arg5 harg5 arg6 harg6 arg7 harg7 arg8 harg8 arg9 harg9 arg10 harg10 arg11 harg11 arg12 harg12 v28 v38 (tp y 0) (tp y 1) (tp y 2) (tp y 3) v73 X10 X11
        (arg12.view.writes (Elt Ideal) arg12.view.junk L) (k0_t3_loop i).trips ++ L)) (k0_t4_loop i).trips
    ++ (pb_k0_t3 𝒱 c bd i arg3 harg3 arg4 harg4 arg5 harg5 arg6 harg6 arg7 harg7 arg8 harg8 arg9 harg9 arg10 harg10 arg11 harg11 arg12 harg12 v28 v38 (tp y 0) (tp y 1) (tp y 2) (tp y 3) v73 X10 X11
        (arg12.view.writes (Elt Ideal) arg12.view.junk L) (k0_t3_loop i).trips ++ L)

variable (I : Inp) (V : Fin 16 → Fin 2 → Fin 80 → Fin 256 → EReal) (μ : Fin 4 → Fin 256 → EReal)
  (hy : ∀ s r, tp y s (ix2 0 r) = μ s r) (h10 : ∀ n h d κ, arg10.view.read (Elt Ideal) X10 (ix4 n h d κ) = V n h d κ)
  (h11 : ∀ s n κ r, n.val < 2 * (i 2).val + 2 → arg11.view.read (Elt Ideal) X11 (ix4 s n κ r) = sc I s n κ r)

include hy h10 h11 in
theorem sumsL_read (hL : ∀ s d r, arg12.view.read (Elt Ideal) (arg12.view.writes (Elt Ideal) arg12.view.junk L) (ix3 s d r) = accu I V (μ s r) s d r (lead i)) (s : Fin 4) (d : Fin 80) (r : Fin 256) :
    arg12.view.read (Elt Ideal) (arg12.view.writes (Elt Ideal) arg12.view.junk (sumsL 𝒱 c bd i harg3 harg4 arg5 harg5 harg6 harg7 harg8 arg9 harg9 arg10 harg10 arg11 harg11 arg12 harg12 v28 v38 v73 v96 y X10 X11 L)) (ix3 s d r)
      = accu I V (μ s r) s d r (2 * (i 2).val + 2) := by
  unfold sumsL
  rw [trips4 i]
  refine (congrArg (fun f => arg12.view.read (Elt Ideal) f (ix3 s d r)) (View.writes_append arg12.view arg12.view.junk _ L)).trans ?_
  rw [← last3 i]
  exact weighed 𝒱 c bd i arg3 harg3 arg4 harg4 arg5 harg5 arg6 harg6 arg7 harg7 arg8 harg8 arg9 harg9 arg10 harg10 arg11 harg11 arg12 harg12 v28 v38 v73 (tp y) X10 X11 _ I V μ hy h10 h11 hL _ le_rfl s d r

end sums

section point
variable (arg2 v28 v30 v31 : BitVec 32) (v32 v33 : BitVec 1) (c0_i32_13 v38 v73 v96 : BitVec 32)
  (X10 : BufTy.Contents (Elt Ideal) arg10.view.ty) (f11 : BufTy.Contents (Elt Ideal) arg11.view.ty) (f9 : BufTy.Contents (Elt Ideal) arg9.view.ty)

/-- The stores of the scores and the maxima handed on, from the maxima `a`. -/
def trips (a : Fin 4 → FVec Ideal S1x256 .f32) : List (View.Piece (Elt Ideal) S4x16x256x256 .f32) × Tops Ideal :=
  trips1St 𝒱 c bd i arg3 harg3 arg4 harg4 arg5 harg5 arg6 harg6 arg7 harg7 arg8 harg8 arg9 harg9 arg10 harg10 arg11 harg11 arg12 harg12 arg2 (qs arg3 X3 0) (qs arg3 X3 1) (qs arg3 X3 2) (qs arg3 X3 3) v28 v30 v31 v32 v33 c0_i32_13 v38 X4 X6 X7 (a 0, a 1, a 2, a 3) (k0_t1_loop i).trips

include h3 h4 h6 h7 in
theorem trips_read (a : Fin 4 → FVec Ideal S1x256 .f32) (f : BufTy.Contents (Elt Ideal) arg11.view.ty)
    (ha : ∀ s r, a s (ix2 0 r) = top (D.inp (i 2).val) s r (lead i)) (hf : ∀ s n κ r, n.val < lead i → arg11.view.read (Elt Ideal) f (ix4 s n κ r) = sc (D.inp (i 2).val) s n κ r) :
    (∀ s n κ r, n.val < 2 * (i 2).val + 2 → arg11.view.read (Elt Ideal) (arg11.view.writes (Elt Ideal) f (trips 𝒱 c bd i harg3 harg4 arg5 harg5 harg6 harg7 harg8 arg9 harg9 arg10 harg10 arg11 harg11 arg12 harg12 (X3 := X3) (X4 := X4) (X6 := X6) (X7 := X7) arg2 v28 v30 v31 v32 v33 c0_i32_13 v38 a).1) (ix4 s n κ r) = sc (D.inp (i 2).val) s n κ r)
    ∧ ∀ s r, tp (trips 𝒱 c bd i harg3 harg4 arg5 harg5 harg6 harg7 harg8 arg9 harg9 arg10 harg10 arg11 harg11 arg12 harg12 (X3 := X3) (X4 := X4) (X6 := X6) (X7 := X7) arg2 v28 v30 v31 v32 v33 c0_i32_13 v38 a).2 s (ix2 0 r) = D.mu (i 2).val s r := by
  obtain ⟨hr, b, hb, ht⟩ := scored 𝒱 c bd i arg3 harg3 arg4 harg4 arg5 harg5 arg6 harg6 arg7 harg7 arg8 harg8 arg9 harg9 arg10 harg10 arg11 harg11 arg12 harg12 arg2 (qs arg3 X3) v28 v30 v31 v32 v33 c0_i32_13 v38 X4 X6 X7 a f (D.inp (i 2).val) (holds h3 h4 h6 h7 _) rfl ha hf _ le_rfl
  rw [last i] at hr ht
  refine ⟨hr, fun s r => ?_⟩
  unfold trips
  rw [hb]
  match s with
  | 0 => exact ht 0 r
  | 1 => exact ht 1 r
  | 2 => exact ht 2 r
  | 3 => exact ht 3 r

variable (h10 : ∀ n h d κ, arg10.view.read (Elt Ideal) X10 (ix4 n h d κ) = VT D.W n h d κ)

include h3 h4 h6 h7 h8 h10

/-- The output of a grid point whose groups hold a multiple of four blocks. -/
theorem odd_out (h2 : ¬ k0_cond2 i = 1#1) (j : Fin 2) (r : Fin 256) (l : Fin 128) :
    let t := trips 𝒱 c bd i harg3 harg4 arg5 harg5 harg6 harg7 harg8 arg9 harg9 arg10 harg10 arg11 harg11 arg12 harg12 (X3 := X3) (X4 := X4) (X6 := X6) (X7 := X7) arg2 v28 v30 v31 v32 v33 c0_i32_13 v38 (fun _ => k0_pay293)
    arg9.view.read (Elt Ideal) (arg9.view.writes (Elt Ideal) f9 (outL arg8 arg12 X8 (arg12.view.writes (Elt Ideal) arg12.view.junk
      (sumsL 𝒱 c bd i harg3 harg4 arg5 harg5 harg6 harg7 harg8 arg9 harg9 arg10 harg10 arg11 harg11 arg12 harg12 v28 v38 v73 v96 t.2 X10
        (arg11.view.writes (Elt Ideal) f11 t.1) zero)))) (ix3 0 (qry j r) l) = D.out (i 2).val j r l := by
  intro t
  have hl := lead_none i h2
  obtain ⟨hr, ht⟩ := trips_read 𝒱 c bd i harg3 harg4 arg5 harg5 harg6 harg7 harg8 arg9 harg9 arg10 harg10 arg11 harg11 arg12 harg12 h3 h4 h6 h7 arg2 v28 v30 v31 v32 v33 c0_i32_13 v38 (fun _ => k0_pay293) f11
    (fun s r => (bottom (D.inp (i 2).val) s r).trans (congrArg (top (D.inp (i 2).val) s r) hl.symm)) (fun s n κ r h => absurd h (by rw [hl]; exact Nat.not_lt_zero _))
  exact out_read arg8 arg9 arg12 X8 _ f9 (D.acc (i 2).val) D.G (sumsL_read 𝒱 c bd i harg3 harg4 arg5 harg5 harg6 harg7 harg8 arg9 harg9 arg10 harg10 arg11 harg11 arg12 harg12 v28 v38 v73 v96 t.2 X10 _ zero (D.inp (i 2).val) (VT D.W) (D.mu (i 2).val) ht h10 hr
    (fun s d r => by rw [hl]; exact zero_read arg12 _ s d r)) h8 j r l

/-- The output of a grid point whose groups hold two blocks more. -/
theorem even_out (h2 : k0_cond2 i = 1#1) (j : Fin 2) (r : Fin 256) (l : Fin 128) :
    let t := trips 𝒱 c bd i harg3 harg4 arg5 harg5 harg6 harg7 harg8 arg9 harg9 arg10 harg10 arg11 harg11 arg12 harg12 (X3 := X3) (X4 := X4) (X6 := X6) (X7 := X7) arg2 v28 v30 v31 v32 v33 c0_i32_13 v38 (leadM i h2 arg4 arg6 arg7 (qs arg3 X3) X4 X6 X7)
    let P := t.1 ++ leadP i h2 arg4 arg6 arg7 (qs arg3 X3) X4 X6 X7
    arg9.view.read (Elt Ideal) (arg9.view.writes (Elt Ideal) f9 (outL arg8 arg12 X8 (arg12.view.writes (Elt Ideal) arg12.view.junk
      (sumsL 𝒱 c bd i harg3 harg4 arg5 harg5 harg6 harg7 harg8 arg9 harg9 arg10 harg10 arg11 harg11 arg12 harg12 v28 v38 v73 v96 t.2 X10
        (arg11.view.writes (Elt Ideal) f11 P) (sums3 arg10 arg11 arg12 (tp t.2) X10 (arg11.view.writes (Elt Ideal) arg11.view.junk P)))))) (ix3 0 (qry j r) l) = D.out (i 2).val j r l := by
  intro t P
  have hl := lead_two i h2
  have H := holds h3 h4 h6 h7 (i 2).val
  have R (f : BufTy.Contents (Elt Ideal) arg11.view.ty) := trips_read 𝒱 c bd i harg3 harg4 arg5 harg5 harg6 harg7 harg8 arg9 harg9 arg10 harg10 arg11 harg11 arg12 harg12 h3 h4 h6 h7 arg2 v28 v30 v31 v32 v33 c0_i32_13 v38
    (leadM i h2 arg4 arg6 arg7 (qs arg3 X3) X4 X6 X7) (arg11.view.writes (Elt Ideal) f (leadP i h2 arg4 arg6 arg7 (qs arg3 X3) X4 X6 X7))
    (lead_top i h2 H rfl) (fun s n κ r h => by
      rw [hl] at h
      exact lead_read i h2 arg11 H rfl f s ⟨n.val, h⟩ κ r)
  have hr (f : BufTy.Contents (Elt Ideal) arg11.view.ty) (s n κ r) (h : n.val < 2 * (i 2).val + 2) :
      arg11.view.read (Elt Ideal) (arg11.view.writes (Elt Ideal) f P) (ix4 s n κ r) = sc (D.inp (i 2).val) s n κ r :=
    (congrArg (fun f => arg11.view.read (Elt Ideal) f (ix4 s n κ r)) (View.writes_append arg11.view f _ _)).trans ((R f).1 s n κ r h)
  exact out_read arg8 arg9 arg12 X8 _ f9 (D.acc (i 2).val) D.G (sumsL_read 𝒱 c bd i harg3 harg4 arg5 harg5 harg6 harg7 harg8 arg9 harg9 arg10 harg10 arg11 harg11 arg12 harg12 v28 v38 v73 v96 t.2 X10 _ _ (D.inp (i 2).val) (VT D.W) (D.mu (i 2).val) (R f11).2 h10 (hr f11)
    (fun s d r => by rw [hl]; exact sums_read i arg10 arg11 arg12 _ X10 _ (D.inp (i 2).val) (VT D.W) (D.mu (i 2).val) (R f11).2 h10 (hr _) _ s d r)) h8 j r l

end point

end Cert.AttnIdeal.Hand

end
-- ==== Proof.AttnPoint.lean ====
module

public import proofs.«01_k».proof.Proof.AttnOut
public import proofs.«01_k».proof.Proof.AttnIdealBody

@[expose] public section

set_option maxRecDepth 16384
set_option maxHeartbeats 4000000

noncomputable section

namespace Cert.AttnIdeal.Hand

open Cert.AttnIdeal Cert.AttnIdeal.Gen Cert.AttnIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (arg3 : Memref sig .tc .vmem S1x512x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x1x2x16x512 .f32) (harg6 : arg6.IsWhole)
  (arg7 : Memref sig .tc .vmem S2x4x256x256 .f32) (harg7 : arg7.IsWhole)
  (arg8 : Memref sig .tc .vmem S1x128 .f32) (harg8 : arg8.IsWhole)
  (arg9 : Memref sig .tc .vmem S1x512x128 .bf16) (harg9 : arg9.IsWhole)
  (arg10 : Memref sig .tc .vmem S16x2x80x256 .bf16) (harg10 : arg10.IsWhole)
  (arg11 : Memref sig .tc .vmem S4x16x256x256 .f32) (harg11 : arg11.IsWhole)
  (arg12 : Memref sig .tc .vmem S4x80x256 .f32) (harg12 : arg12.IsWhole)

theorem two_first : ∀ i : grid0.Coords, Scalar.cmpi .ne (Scalar.extui (Scalar.cmpi .eq (BitVec.ofNat 32 (i 2).val) 0#32)) (0#32 : BitVec 32) = 1#1 → k0_cond2 i = 1#1 := by decide +kernel
theorem not_first : ∀ i : grid0.Coords, ¬ Scalar.cmpi .ne (Scalar.extui (Scalar.cmpi .eq (BitVec.ofNat 32 (i 2).val) 0#32)) (0#32 : BitVec 32) = 1#1 → (i 2).val ≠ 0 := by decide +kernel

/-- The body of a grid point: the output is the point's, and the transposed values are held for the next. -/
theorem valueRun (c : Dev nD) (i : grid0.Coords) (D : Data) (f3 f4 f5 f6 f7 f8)
    (h3 : ∀ a l, arg3.view.read (Elt Ideal) f3 (ix3 0 a l) = D.Q a l) (h4 : ∀ a l, arg4.view.read (Elt Ideal) f4 (ix3 0 a l) = D.K a l)
    (h5 : ∀ a l, arg5.view.read (Elt Ideal) f5 (ix3 0 a l) = D.W a l)
    (h6 : ∀ h n a, arg6.view.read (Elt Ideal) f6 (ix5 0 0 h n a) = D.M h n a) (h7 : ∀ h k κ r, arg7.view.read (Elt Ideal) f7 (ix4 h k κ r) = D.T h k κ r)
    (h8 : ∀ l, arg8.view.read (Elt Ideal) f8 (ix2 0 l) = D.G l)
    (f10) (h10 : (i 2).val ≠ 0 → ∀ n h d κ, arg10.view.read (Elt Ideal) f10 (ix4 n h d κ) = VT D.W n h d κ)
    (K : PUnit → sProp (MT nD τ sig Unit (Elt Ideal) ℕ (UR sig nD τ) ℕ)) :
    iprop(pt (F := Ideal) c arg3 f3 ∗ pt (F := Ideal) c arg4 f4 ∗ pt (F := Ideal) c arg5 f5 ∗ pt (F := Ideal) c arg6 f6 ∗ pt (F := Ideal) c arg7 f7 ∗ pt (F := Ideal) c arg8 f8
        ∗ some_ (F := Ideal) c arg9 ∗ pt (F := Ideal) c arg10 f10 ∗ some_ (F := Ideal) c arg11 ∗ some_ (F := Ideal) c arg12
        ∗ (iprop(pt (F := Ideal) c arg3 f3 ∗ pt (F := Ideal) c arg4 f4 ∗ pt (F := Ideal) c arg5 f5 ∗ pt (F := Ideal) c arg6 f6 ∗ pt (F := Ideal) c arg7 f7 ∗ pt (F := Ideal) c arg8 f8
          ∗ (∃ g, ⌜∀ j r l, arg9.view.read (Elt Ideal) g (ix3 0 (qry j r) l) = D.out (i 2).val j r l⌝ ∗ pt (F := Ideal) c arg9 g)
          ∗ (∃ g, ⌜∀ n h d κ, arg10.view.read (Elt Ideal) g (ix4 n h d κ) = VT D.W n h d κ⌝ ∗ pt (F := Ideal) c arg10 g)
          ∗ some_ (F := Ideal) c arg11 ∗ some_ (F := Ideal) c arg12) -∗ K ⟨⟩))
      ⊢ wp frame (wpE (defs₀ (F := Ideal)) Variants.none c none) Set.univ (cc0_moba_attention (F := Ideal) i arg3 harg3 arg4 harg4 arg5 harg5 arg6 harg6 arg7 harg7 arg8 harg8 arg9 harg9 arg10 harg10 arg11 harg11 arg12 harg12) K := by
  simp only [cc0_moba_attention_eq_skeleton]; unfold cc0_moba_attention_skel
  iintro ⟨H3, H4, H5, H6, H7, H8, ⟨%f9, H9⟩, H10, ⟨%f11, H11⟩, ⟨%f12, H12⟩, Hk⟩
  by_cases h1 : Scalar.cmpi .ne (Scalar.extui (Scalar.cmpi .eq (BitVec.ofNat 32 (i 2).val) 0#32)) (0#32 : BitVec 32) = 1#1
  · have h2 := two_first i h1
    have hvt := fun n h d κ => vt_read arg5 f5 arg10 arg10.view.junk D.W h5 16 n h d κ n.isLt le_rfl
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap; · iexact H9
      ipureintro
      exact even_out Variants.none c none i harg3 harg4 arg5 harg5 harg6 harg7 harg8 arg9 harg9 arg10 harg10 arg11 harg11 arg12 harg12 h3 h4 h6 h7 h8 _ _ _ _ _ _ _ _ _ _ _ f11 f9 hvt h2
    isplitl [H10]
    · iexists _; isplitr; swap; · iexact H10
      ipureintro; exact hvt
    isplitl [H11]; · iexists _; iexact H11
    iexists _; iexact H12
  · have h10 := h10 (not_first i h1)
    by_cases h2 : k0_cond2 i = 1#1
    · sl_exec
      sl_step
      iapply Hk
      isplitl [H3]; · iexact H3
      isplitl [H4]; · iexact H4
      isplitl [H5]; · iexact H5
      isplitl [H6]; · iexact H6
      isplitl [H7]; · iexact H7
      isplitl [H8]; · iexact H8
      isplitl [H9]
      · iexists _; isplitr; swap; · iexact H9
        ipureintro
        exact even_out Variants.none c none i harg3 harg4 arg5 harg5 harg6 harg7 harg8 arg9 harg9 arg10 harg10 arg11 harg11 arg12 harg12 h3 h4 h6 h7 h8 _ _ _ _ _ _ _ _ _ _ f10 f11 f9 h10 h2
      isplitl [H10]
      · iexists _; isplitr; swap; · iexact H10
        ipureintro; exact h10
      isplitl [H11]; · iexists _; iexact H11
      iexists _; iexact H12
    · sl_exec
      sl_step
      iapply Hk
      isplitl [H3]; · iexact H3
      isplitl [H4]; · iexact H4
      isplitl [H5]; · iexact H5
      isplitl [H6]; · iexact H6
      isplitl [H7]; · iexact H7
      isplitl [H8]; · iexact H8
      isplitl [H9]
      · iexists _; isplitr; swap; · iexact H9
        ipureintro
        exact odd_out Variants.none c none i harg3 harg4 arg5 harg5 harg6 harg7 harg8 arg9 harg9 arg10 harg10 arg11 harg11 arg12 harg12 h3 h4 h6 h7 h8 _ _ _ _ _ _ _ _ _ _ f10 f11 f9 h10 h2
      isplitl [H10]
      · iexists _; isplitr; swap; · iexact H10
        ipureintro; exact h10
      isplitl [H11]; · iexists _; iexact H11
      iexists _; iexact H12

end Cert.AttnIdeal.Hand

end
-- ==== Proof.AttnLaunch.lean ====
module

public import proofs.«01_k».proof.Proof.AttnPoint
public import proofs.«01_k».proof.Proof.AttnIdealFrame
public import Idealize.ShloMosaic.Lib.Pipeline.Frame
public import Idealize.ShloMosaic.Lib.Pipeline.FrameBody
public import Idealize.ShloMosaic.Lib.Pipeline.Value
public import Idealize.ShloMosaic.Lib.Pointwise
public import Idealize.ShloMosaic.Lib.StableHlo.ReadAt

@[expose] public section

set_option maxRecDepth 16384
set_option maxHeartbeats 4000000

noncomputable section

/-! The attention call's launch with its output named: the blocks a grid point reads, the transposed values carried between the
points of one pair of heads, and the result array. -/

namespace Cert.AttnIdeal.Hand

open Cert.AttnIdeal Cert.AttnIdeal.Gen Cert.AttnIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

/-- What grid point `n` works on, as parts of the four arguments. -/
def part (x0 : FVec Ideal S4x4096x3072 .bf16) (x1 : FVec Ideal S4x4x2x16x4096 .f32) (x2 : FVec Ideal S8x4x256x256 .f32) (x3 : FVec Ideal S512 .f32) (n : ℕ) : Data where
  Q a l := x0 (ix3 ⟨n / 32 % 4, by omega⟩ ⟨512 * (n % 8) + a.val, by omega⟩ ⟨1536 + (128 * (n / 8 % 4) + l.val), by omega⟩)
  K a l := x0 (ix3 ⟨n / 32 % 4, by omega⟩ a ⟨2048 + (128 * (n / 8 % 4) + l.val), by omega⟩)
  W a l := x0 (ix3 ⟨n / 32 % 4, by omega⟩ a ⟨2560 + (128 * (n / 8 % 4) + l.val), by omega⟩)
  M h b a := x1 (ix5 ⟨n / 32 % 4, by omega⟩ ⟨n / 8 % 4, by omega⟩ h b ⟨512 * (n % 8) + a.val, by omega⟩)
  T h k κ r := x2 (ix4 ⟨2 * (n / 8 % 4) + h.val, by omega⟩ k κ r)
  G l := x3 (ix1 ⟨128 * (n / 8 % 4) + l.val, by omega⟩)

variable (m : (ℓ : Loc nD τ sig) → Buf (Elt Ideal) ℓ) (ρ : Dev nD → PrngReg)

abbrev X0 (c : Dev nD) : FVec Ideal S4x4096x3072 .bf16 := m ((c.tc : Thread nD τ).loc main_arg0)
abbrev X1 (c : Dev nD) : FVec Ideal S4x4x2x16x4096 .f32 := m ((c.tc : Thread nD τ).loc main_arg1)
abbrev X2 (c : Dev nD) : FVec Ideal S8x4x256x256 .f32 := m ((c.tc : Thread nD τ).loc main_arg2)
abbrev X3 (c : Dev nD) : FVec Ideal S512 .f32 := m ((c.tc : Thread nD τ).loc main_arg3)

/-- What grid point `n` of device `c` works on. -/
abbrev pd (c : Dev nD) (n : ℕ) : Data := part (X0 m c) (X1 m c) (X2 m c) (X3 m c) n

theorem idx0 : ∀ t : Fin cfg0.N, win0_0.index t 0 = t.val / 32 % 4 ∧ win0_0.index t 1 = t.val % 8 ∧ win0_0.index t 2 = 12 + t.val / 8 % 4 := by decide +kernel
theorem idx1 : ∀ t : Fin cfg0.N, win0_1.index t 0 = t.val / 32 % 4 ∧ win0_1.index t 1 = 0 ∧ win0_1.index t 2 = 16 + t.val / 8 % 4 := by decide +kernel
theorem idx2 : ∀ t : Fin cfg0.N, win0_2.index t 0 = t.val / 32 % 4 ∧ win0_2.index t 1 = 0 ∧ win0_2.index t 2 = 20 + t.val / 8 % 4 := by decide +kernel
theorem idx3 : ∀ t : Fin cfg0.N, win0_3.index t 0 = t.val / 32 % 4 ∧ win0_3.index t 1 = t.val / 8 % 4 ∧ win0_3.index t 2 = 0 ∧ win0_3.index t 3 = 0 ∧ win0_3.index t 4 = t.val % 8 := by decide +kernel
theorem idx4 : ∀ t : Fin cfg0.N, win0_4.index t 0 = t.val / 8 % 4 ∧ win0_4.index t 1 = 0 ∧ win0_4.index t 2 = 0 ∧ win0_4.index t 3 = 0 := by decide +kernel
theorem idx5 : ∀ t : Fin cfg0.N, win0_5.index t 0 = 0 ∧ win0_5.index t 1 = t.val / 8 % 4 := by decide +kernel
theorem idx6 : ∀ t : Fin cfg0.N, win0_6.index t 0 = t.val / 32 % 4 ∧ win0_6.index t 1 = t.val % 8 ∧ win0_6.index t 2 = t.val / 8 % 4 := by decide +kernel
theorem coord2 : ∀ t : Fin cfg0.N, (grid0.coords t 2).val = t.val % 8 := by decide +kernel
theorem flush6 : ∀ t : Fin cfg0.N, (cfg0.win 6).flush t = true := by decide +kernel
theorem lt_N (t : Fin cfg0.N) : t.val < 128 := by have := t.isLt; have h : cfg0.N = 128 := N_0; omega

theorem blk0 (c : Dev nD) (t : Fin cfg0.N) (a : Fin 512) (l : Fin 128) : (iblk m c 0 t : Vec Ideal S1x512x128 .bf16) (ix3 0 a l) = (pd m c t.val).Q a l := by
  show V m c main_arg0 ((win0_0.rect t).emb (ix3 0 a l)) = _
  rw [V_main_arg0]
  show X0 m c _ = X0 m c _
  congr 1
  funext x
  apply Fin.ext
  have e := idx0 t
  match x with
  | ⟨0, _⟩ => exact (win0_0.rect_emb_val t _ 0).trans (by rw [e.1]; show t.val / 32 % 4 * 1 + 0 = t.val / 32 % 4; omega)
  | ⟨1, _⟩ => exact (win0_0.rect_emb_val t _ 1).trans (by rw [e.2.1]; show t.val % 8 * 512 + a.val = 512 * (t.val % 8) + a.val; omega)
  | ⟨2, _⟩ => exact (win0_0.rect_emb_val t _ 2).trans (by rw [e.2.2]; show (12 + t.val / 8 % 4) * 128 + l.val = 1536 + (128 * (t.val / 8 % 4) + l.val); omega)

theorem blk1 (c : Dev nD) (t : Fin cfg0.N) (a : Fin 4096) (l : Fin 128) : (iblk m c 1 t : Vec Ideal S1x4096x128 .bf16) (ix3 0 a l) = (pd m c t.val).K a l := by
  show V m c main_arg0 ((win0_1.rect t).emb (ix3 0 a l)) = _
  rw [V_main_arg0]
  show X0 m c _ = X0 m c _
  congr 1
  funext x
  apply Fin.ext
  have e := idx1 t
  match x with
  | ⟨0, _⟩ => exact (win0_1.rect_emb_val t _ 0).trans (by rw [e.1]; show t.val / 32 % 4 * 1 + 0 = t.val / 32 % 4; omega)
  | ⟨1, _⟩ => exact (win0_1.rect_emb_val t _ 1).trans (by rw [e.2.1]; show 0 * 4096 + a.val = a.val; omega)
  | ⟨2, _⟩ => exact (win0_1.rect_emb_val t _ 2).trans (by rw [e.2.2]; show (16 + t.val / 8 % 4) * 128 + l.val = 2048 + (128 * (t.val / 8 % 4) + l.val); omega)

theorem blk2 (c : Dev nD) (t : Fin cfg0.N) (a : Fin 4096) (l : Fin 128) : (iblk m c 2 t : Vec Ideal S1x4096x128 .bf16) (ix3 0 a l) = (pd m c t.val).W a l := by
  show V m c main_arg0 ((win0_2.rect t).emb (ix3 0 a l)) = _
  rw [V_main_arg0]
  show X0 m c _ = X0 m c _
  congr 1
  funext x
  apply Fin.ext
  have e := idx2 t
  match x with
  | ⟨0, _⟩ => exact (win0_2.rect_emb_val t _ 0).trans (by rw [e.1]; show t.val / 32 % 4 * 1 + 0 = t.val / 32 % 4; omega)
  | ⟨1, _⟩ => exact (win0_2.rect_emb_val t _ 1).trans (by rw [e.2.1]; show 0 * 4096 + a.val = a.val; omega)
  | ⟨2, _⟩ => exact (win0_2.rect_emb_val t _ 2).trans (by rw [e.2.2]; show (20 + t.val / 8 % 4) * 128 + l.val = 2560 + (128 * (t.val / 8 % 4) + l.val); omega)

theorem blk3 (c : Dev nD) (t : Fin cfg0.N) (h : Fin 2) (n : Fin 16) (a : Fin 512) : (iblk m c 3 t : Vec Ideal S1x1x2x16x512 .f32) (ix5 0 0 h n a) = (pd m c t.val).M h n a := by
  show V m c main_arg1 ((win0_3.rect t).emb (ix5 0 0 h n a)) = _
  rw [V_main_arg1]
  show X1 m c _ = X1 m c _
  congr 1
  funext x
  apply Fin.ext
  have e := idx3 t
  match x with
  | ⟨0, _⟩ => exact (win0_3.rect_emb_val t _ 0).trans (by rw [e.1]; show t.val / 32 % 4 * 1 + 0 = t.val / 32 % 4; omega)
  | ⟨1, _⟩ => exact (win0_3.rect_emb_val t _ 1).trans (by rw [e.2.1]; show t.val / 8 % 4 * 1 + 0 = t.val / 8 % 4; omega)
  | ⟨2, _⟩ => exact (win0_3.rect_emb_val t _ 2).trans (by rw [e.2.2.1]; show 0 * 2 + h.val = h.val; omega)
  | ⟨3, _⟩ => exact (win0_3.rect_emb_val t _ 3).trans (by rw [e.2.2.2.1]; show 0 * 16 + n.val = n.val; omega)
  | ⟨4, _⟩ => exact (win0_3.rect_emb_val t _ 4).trans (by rw [e.2.2.2.2]; show t.val % 8 * 512 + a.val = 512 * (t.val % 8) + a.val; omega)

theorem blk4 (c : Dev nD) (t : Fin cfg0.N) (h : Fin 2) (k : Fin 4) (κ r : Fin 256) : (iblk m c 4 t : Vec Ideal S2x4x256x256 .f32) (ix4 h k κ r) = (pd m c t.val).T h k κ r := by
  show V m c main_arg2 ((win0_4.rect t).emb (ix4 h k κ r)) = _
  rw [V_main_arg2]
  show X2 m c _ = X2 m c _
  congr 1
  funext x
  apply Fin.ext
  have e := idx4 t
  match x with
  | ⟨0, _⟩ => exact (win0_4.rect_emb_val t _ 0).trans (by rw [e.1]; show t.val / 8 % 4 * 2 + h.val = 2 * (t.val / 8 % 4) + h.val; omega)
  | ⟨1, _⟩ => exact (win0_4.rect_emb_val t _ 1).trans (by rw [e.2.1]; show 0 * 4 + k.val = k.val; omega)
  | ⟨2, _⟩ => exact (win0_4.rect_emb_val t _ 2).trans (by rw [e.2.2.1]; show 0 * 256 + κ.val = κ.val; omega)
  | ⟨3, _⟩ => exact (win0_4.rect_emb_val t _ 3).trans (by rw [e.2.2.2]; show 0 * 256 + r.val = r.val; omega)

/-- The gain as one row. -/
theorem V_gain (c : Dev nD) (l : Fin 512) : (V m c main_v0 : FVec Ideal S1x512 .f32) (ix2 0 l) = X3 m c (ix1 l) := by
  have e : V m c main_v0 = broadcastInDim S1x512 ![1] bcast_S512_S1x512_1 (X3 m c) := by
    show StableHlo.after hostOps0 _ (Proc.devRef .tc main_v0) = _
    rw [StableHlo.after_cons, StableHlo.after_nil, StableHlo.unary_result']
  rw [e]
  pointwise []

theorem blk5 (c : Dev nD) (t : Fin cfg0.N) (l : Fin 128) : (iblk m c 5 t : Vec Ideal S1x128 .f32) (ix2 0 l) = (pd m c t.val).G l := by
  refine Eq.trans ?_ (V_gain m c ⟨128 * (t.val / 8 % 4) + l.val, by omega⟩)
  show V m c main_v0 ((win0_5.rect t).emb (ix2 0 l)) = V m c main_v0 _
  congr 1
  funext x
  apply Fin.ext
  have e := idx5 t
  match x with
  | ⟨0, _⟩ => exact (win0_5.rect_emb_val t _ 0).trans (by rw [e.1]; show 0 * 1 + 0 = 0; omega)
  | ⟨1, _⟩ => exact (win0_5.rect_emb_val t _ 1).trans (by rw [e.2]; show t.val / 8 % 4 * 128 + l.val = 128 * (t.val / 8 % 4) + l.val; omega)

/-- The block grid point `n` of device `c` stores. -/
def outBlk (c : Dev nD) (n : ℕ) : FVec Ideal S1x512x128 .bf16 := fun y =>
  (pd m c n).out (n % 8) ⟨(y 1).val / 256, by have : (y 1).val < 512 := (y 1).isLt; omega⟩ ⟨(y 1).val % 256, by omega⟩ ⟨(y 2).val, (y 2).isLt⟩

/-- The first scratch holds the pair's transposed values, past the first point of the pair. -/
def held (c : Dev nD) (n : ℕ) (d : FVec Ideal S16x2x80x256 .bf16) : Prop :=
  n % 8 ≠ 0 → ∀ b h x κ, d (ix4 b h x κ) = VT (pd m c n).W b h x κ

/-- What passes between the points: the transposed values in the first scratch, the other scratches at some contents. -/
def carried (c : Dev nD) (n : ℕ) : sProp (MT nD τ sig Unit (Elt Ideal) ℕ (UR sig nD τ) ℕ) :=
  iprop(iprop((∃ d, ⌜held m c n d⌝ ∗ owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r))

/-- The pipeline's data with the output named. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t.val
  Φ t := carried m c t.val
  q w := Pipeline.shareOf spec0 w
  owed _ := 0

theorem vA_eq (c : Dev nD) (w : Fin cfg0.W) : (vdats m 0 c).A w = V m c (Pipeline.arrRef spec0 w) := by dsimp only [vdats]

theorem vafter0 (c : Dev nD) (t : Fin cfg0.N) : (vdats m 0 c).after 0 t = iblk m c 0 t := by dsimp only [vdats]
theorem vafter1 (c : Dev nD) (t : Fin cfg0.N) : (vdats m 0 c).after 1 t = iblk m c 1 t := by dsimp only [vdats]
theorem vafter2 (c : Dev nD) (t : Fin cfg0.N) : (vdats m 0 c).after 2 t = iblk m c 2 t := by dsimp only [vdats]
theorem vafter3 (c : Dev nD) (t : Fin cfg0.N) : (vdats m 0 c).after 3 t = iblk m c 3 t := by dsimp only [vdats]
theorem vafter4 (c : Dev nD) (t : Fin cfg0.N) : (vdats m 0 c).after 4 t = iblk m c 4 t := by dsimp only [vdats]
theorem vafter5 (c : Dev nD) (t : Fin cfg0.N) : (vdats m 0 c).after 5 t = iblk m c 5 t := by dsimp only [vdats]
theorem vafter6 (c : Dev nD) (t : Fin cfg0.N) : (vdats m 0 c).after 6 t = outBlk m c t.val := by dsimp only [vdats]
theorem vbefore0 (c : Dev nD) (t : Fin cfg0.N) (d) : (vdats m 0 c).before 0 t d = iblk m c 0 t :=
  before0_0_of m (vdats m 0 c) (vA_eq m c 0) (vafter0 m c) t d
theorem vbefore1 (c : Dev nD) (t : Fin cfg0.N) (d) : (vdats m 0 c).before 1 t d = iblk m c 1 t :=
  before0_1_of m (vdats m 0 c) (vA_eq m c 1) (vafter1 m c) t d
theorem vbefore2 (c : Dev nD) (t : Fin cfg0.N) (d) : (vdats m 0 c).before 2 t d = iblk m c 2 t :=
  before0_2_of m (vdats m 0 c) (vA_eq m c 2) (vafter2 m c) t d
theorem vbefore3 (c : Dev nD) (t : Fin cfg0.N) (d) : (vdats m 0 c).before 3 t d = iblk m c 3 t :=
  before0_3_of m (vdats m 0 c) (vA_eq m c 3) (vafter3 m c) t d
theorem vbefore4 (c : Dev nD) (t : Fin cfg0.N) (d) : (vdats m 0 c).before 4 t d = iblk m c 4 t :=
  before0_4_of m (vdats m 0 c) (vA_eq m c 4) (vafter4 m c) t d
theorem vbefore5 (c : Dev nD) (t : Fin cfg0.N) (d) : (vdats m 0 c).before 5 t d = iblk m c 5 t :=
  before0_5_of m (vdats m 0 c) (vA_eq m c 5) (vafter5 m c) t d

theorem carried_from (c : Dev nD) : (Pipeline.ΦA spec0 c : sProp (MT nD τ sig Unit (Elt Ideal) ℕ (UR sig nD τ) ℕ)) ⊢ carried m c 0 := by
  rw [rest_eq]; unfold carried
  iintro ⟨⟨⟨%d, S0⟩, S1, S2⟩, Hg⟩
  isplitl [S0 S1 S2]
  · isplitl [S0]
    · iexists d; isplitr
      · ipureintro; exact fun h => absurd rfl h
      iexact S0
    isplitl [S1]; · iexact S1
    iexact S2
  iexact Hg

theorem carried_to (c : Dev nD) (n : ℕ) : carried m c n ⊢ (Pipeline.ΦA spec0 c : sProp (MT nD τ sig Unit (Elt Ideal) ℕ (UR sig nD τ) ℕ)) := by
  rw [rest_eq]; unfold carried
  iintro ⟨⟨⟨%d, -, S0⟩, S1, S2⟩, Hg⟩
  isplitl [S0 S1 S2]
  · isplitl [S0]; · iexists d; iexact S0
    isplitl [S1]; · iexact S1
    iexact S2
  iexact Hg

variable (arg3 : Memref sig .tc .vmem S1x512x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x1x2x16x512 .f32) (harg6 : arg6.IsWhole)
  (arg7 : Memref sig .tc .vmem S2x4x256x256 .f32) (harg7 : arg7.IsWhole)
  (arg8 : Memref sig .tc .vmem S1x128 .f32) (harg8 : arg8.IsWhole)
  (arg9 : Memref sig .tc .vmem S1x512x128 .bf16) (harg9 : arg9.IsWhole)
  (arg10 : Memref sig .tc .vmem S16x2x80x256 .bf16) (harg10 : arg10.IsWhole)
  (arg11 : Memref sig .tc .vmem S4x16x256x256 .f32) (harg11 : arg11.IsWhole)
  (arg12 : Memref sig .tc .vmem S4x80x256 .f32) (harg12 : arg12.IsWhole)

/-- A block of the output from its elements. -/
theorem outBlk_of (c : Dev nD) (t : Fin cfg0.N) (o : FVec Ideal S1x512x128 .bf16)
    (h : ∀ j r l, o (ix3 0 (qry j r) l) = (pd m c t.val).out (t.val % 8) j r l) : o = outBlk m c t.val := by
  funext y
  have h1 : (y 1).val < 512 := (y 1).isLt
  have h0 : (y 0).val = 0 := by have : (y 0).val < 1 := (y 0).isLt; omega
  refine (congrArg o ?_).trans (h ⟨(y 1).val / 256, by omega⟩ ⟨(y 1).val % 256, by omega⟩ ⟨(y 2).val, (y 2).isLt⟩)
  funext a
  match a with
  | ⟨0, _⟩ => exact Fin.ext h0
  | ⟨1, _⟩ => exact Fin.ext (by show (y 1).val = 256 * ((y 1).val / 256) + (y 1).val % 256; omega)
  | ⟨2, _⟩ => rfl

/-- The transposed values a point leaves are those the next point finds. -/
theorem held_next (c : Dev nD) (t : Fin cfg0.N) (d : FVec Ideal S16x2x80x256 .bf16)
    (h : ∀ b h x κ, d (ix4 b h x κ) = VT (pd m c t.val).W b h x κ) : held m c (t.val + 1) d := by
  intro hn
  have e : (pd m c (t.val + 1)).W = (pd m c t.val).W := by
    funext a l
    show X0 m c _ = X0 m c _
    congr 1
    funext x
    match x with
    | ⟨0, _⟩ => exact Fin.ext (by show (t.val + 1) / 32 % 4 = t.val / 32 % 4; omega)
    | ⟨1, _⟩ => rfl
    | ⟨2, _⟩ => exact Fin.ext (by show 2560 + (128 * ((t.val + 1) / 8 % 4) + l.val) = 2560 + (128 * (t.val / 8 % 4) + l.val); omega)
  rw [e]; exact h

/-- The body between owned memrefs at grid point `t`: the output is the point's block. -/
theorem valueOwns (c : Dev nD) (t : Fin cfg0.N) (K : PUnit → sProp (MT nD τ sig Unit (Elt Ideal) ℕ (UR sig nD τ) ℕ)) :
    iprop(owns (c : Thread nD τ) arg3 fullShare (iblk m c 0 t : Vec Ideal S1x512x128 .bf16) ∗ owns (c : Thread nD τ) arg4 fullShare (iblk m c 1 t : Vec Ideal S1x4096x128 .bf16)
        ∗ owns (c : Thread nD τ) arg5 fullShare (iblk m c 2 t : Vec Ideal S1x4096x128 .bf16)
        ∗ owns (c : Thread nD τ) arg6 fullShare (iblk m c 3 t : Vec Ideal S1x1x2x16x512 .f32) ∗ owns (c : Thread nD τ) arg7 fullShare (iblk m c 4 t : Vec Ideal S2x4x256x256 .f32)
        ∗ owns (c : Thread nD τ) arg8 fullShare (iblk m c 5 t : Vec Ideal S1x128 .f32)
        ∗ (∃ d, owns (c : Thread nD τ) arg9 fullShare d) ∗ (∃ d, ⌜held m c t.val d⌝ ∗ owns (c : Thread nD τ) arg10 fullShare d)
        ∗ (∃ d, owns (c : Thread nD τ) arg11 fullShare d) ∗ (∃ d, owns (c : Thread nD τ) arg12 fullShare d)
        ∗ (iprop(owns (c : Thread nD τ) arg3 fullShare (iblk m c 0 t : Vec Ideal S1x512x128 .bf16) ∗ owns (c : Thread nD τ) arg4 fullShare (iblk m c 1 t : Vec Ideal S1x4096x128 .bf16)
          ∗ owns (c : Thread nD τ) arg5 fullShare (iblk m c 2 t : Vec Ideal S1x4096x128 .bf16)
          ∗ owns (c : Thread nD τ) arg6 fullShare (iblk m c 3 t : Vec Ideal S1x1x2x16x512 .f32) ∗ owns (c : Thread nD τ) arg7 fullShare (iblk m c 4 t : Vec Ideal S2x4x256x256 .f32)
          ∗ owns (c : Thread nD τ) arg8 fullShare (iblk m c 5 t : Vec Ideal S1x128 .f32)
          ∗ owns (c : Thread nD τ) arg9 fullShare (outBlk m c t.val) ∗ (∃ d, ⌜held m c (t.val + 1) d⌝ ∗ owns (c : Thread nD τ) arg10 fullShare d)
          ∗ (∃ d, owns (c : Thread nD τ) arg11 fullShare d) ∗ (∃ d, owns (c : Thread nD τ) arg12 fullShare d)) -∗ K ⟨⟩))
      ⊢ wp frame (wpE (defs₀ (F := Ideal)) Variants.none c none) Set.univ (cc0_moba_attention (F := Ideal) (grid0.coords t) arg3 harg3 arg4 harg4 arg5 harg5 arg6 harg6 arg7 harg7 arg8 harg8 arg9 harg9 arg10 harg10 arg11 harg11 arg12 harg12) K := by
  unfold owns
  iintro ⟨⟨%f3, %h3, H3⟩, ⟨%f4, %h4, H4⟩, ⟨%f5, %h5, H5⟩, ⟨%f6, %h6, H6⟩, ⟨%f7, %h7, H7⟩, ⟨%f8, %h8, H8⟩,
    ⟨%d9, %f9, -, H9⟩, ⟨%d10, %hd, %f10, %h10, H10⟩, ⟨%d11, %f11, -, H11⟩, ⟨%d12, %f12, -, H12⟩, Hk⟩
  iapply (valueRun arg3 harg3 arg4 harg4 arg5 harg5 arg6 harg6 arg7 harg7 arg8 harg8 arg9 harg9 arg10 harg10 arg11 harg11 arg12 harg12 c (grid0.coords t) (pd m c t.val) f3 f4 f5 f6 f7 f8
    (fun a l => (congrFun h3 _).trans (blk0 m c t a l)) (fun a l => (congrFun h4 _).trans (blk1 m c t a l)) (fun a l => (congrFun h5 _).trans (blk2 m c t a l))
    (fun h n a => (congrFun h6 _).trans (blk3 m c t h n a)) (fun h k κ r => (congrFun h7 _).trans (blk4 m c t h k κ r)) (fun l => (congrFun h8 _).trans (blk5 m c t l))
    f10 (fun hn n h d κ => (congrFun h10 _).trans (hd (by rw [coord2 t] at hn; exact hn) n h d κ)) K)
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexists _; iexact H11
  isplitl [H12]; · iexists _; iexact H12
  iintro ⟨H3, H4, H5, H6, H7, H8, ⟨%g9, %h9, H9⟩, ⟨%g10, %h10', H10⟩, ⟨%g11, H11⟩, ⟨%g12, H12⟩⟩
  iapply Hk
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  isplitl [H8]; · iexists f8; isplitr; · ipureintro; exact h8
                  iexact H8
  isplitl [H9]; · iexists g9; isplitr
                  · ipureintro; exact outBlk_of m c t _ (by rw [← coord2 t]; exact h9)
                  iexact H9
  isplitl [H10]; · iexists _; isplitr; · ipureintro; exact held_next m c t _ h10'
                   iexists g10; isplitr; · ipureintro; rfl
                   iexact H10
  isplitl [H11]; · iexists _, g11; isplitr; · ipureintro; rfl
                   iexact H11
  iexists _, g12; isplitr; · ipureintro; rfl
  iexact H12

/-- What the body is given at point `t`, -/
def vbodyPre (c : Dev nD) (t : Fin cfg0.N) : sProp (MT nD τ sig Unit (Elt Ideal) ℕ (UR sig nD τ) ℕ) :=
  iprop((vdats m 0 c).Φ t.castSucc ∗ (vdats m 0 c).owesAt () t.castSucc
    ∗ (∃ d, owns (c : Thread nD τ) (st0_0 t) fullShare ((vdats m 0 c).before 0 t d))
    ∗ (∃ d, owns (c : Thread nD τ) (st0_1 t) fullShare ((vdats m 0 c).before 1 t d))
    ∗ (∃ d, owns (c : Thread nD τ) (st0_2 t) fullShare ((vdats m 0 c).before 2 t d))
    ∗ (∃ d, owns (c : Thread nD τ) (st0_3 t) fullShare ((vdats m 0 c).before 3 t d))
    ∗ (∃ d, owns (c : Thread nD τ) (st0_4 t) fullShare ((vdats m 0 c).before 4 t d))
    ∗ (∃ d, owns (c : Thread nD τ) (st0_5 t) fullShare ((vdats m 0 c).before 5 t d))
    ∗ (∃ d, owns (c : Thread nD τ) (st0_6 t) fullShare ((vdats m 0 c).before 6 t d)))

/-- and what it gives back. -/
def vbodyPost (c : Dev nD) (t : Fin cfg0.N) : sProp (MT nD τ sig Unit (Elt Ideal) ℕ (UR sig nD τ) ℕ) :=
  iprop((vdats m 0 c).Φ t.succ ∗ (vdats m 0 c).owesAt () t.succ
    ∗ owns (c : Thread nD τ) (st0_0 t) fullShare ((vdats m 0 c).after 0 t)
    ∗ owns (c : Thread nD τ) (st0_1 t) fullShare ((vdats m 0 c).after 1 t)
    ∗ owns (c : Thread nD τ) (st0_2 t) fullShare ((vdats m 0 c).after 2 t)
    ∗ owns (c : Thread nD τ) (st0_3 t) fullShare ((vdats m 0 c).after 3 t)
    ∗ owns (c : Thread nD τ) (st0_4 t) fullShare ((vdats m 0 c).after 4 t)
    ∗ owns (c : Thread nD τ) (st0_5 t) fullShare ((vdats m 0 c).after 5 t)
    ∗ owns (c : Thread nD τ) (st0_6 t) fullShare ((vdats m 0 c).after 6 t))

theorem vsound_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  simp only [vbefore0, vbefore1, vbefore2, vbefore3, vbefore4, vbefore5]
  rw [show (vdats m 0 c).Φ t.succ = carried m c (t.val + 1) from rfl,
    show (vdats m 0 c).owesAt () t.succ = (vdats m 0 c).owesAt () t.castSucc from rfl,
    show (vdats m 0 c).Φ t.castSucc = carried m c t.val from rfl,
    vafter0, vafter1, vafter2, vafter3, vafter4, vafter5, vafter6]
  unfold carried
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩⟩
  iapply (valueOwns m _ _ _ _ _ _ _ _ _ _ _ _ _ _ _ _ _ _ _ _ c t _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem vbody_obligation (c : Dev nD) : BodyObligation (vdats m 0 c) (defs₀ (F := Ideal)) Variants.none () Set.univ := fun t => by
  rw [bigSep_W0, bigSep_W0, defs₀_row]
  exact triple_restated (vsound_body m c t) rfl .rfl fun _ => .rfl

set_option backward.isDefEq.respectTransparency.types false in
/-- Every run ends, the output array as the points' blocks leave it. -/
theorem vrun_main : θ_run defs (onTc (τ := τ) (main (F := Ideal))) (s₀ m ρ) (Pipeline.FramePost cfgs (vdats m) 0 (V m)) :=
  Pipeline.θ_run_frame_track_shared cfgs (vdats m) (0 : Fin 1) launch₀0 defs₀ Variants.none m ρ main
    (hbody := fun c => (vbody_obligation m c).loose) (hq := fun _ _ _ => rfl) (howed := fun _ _ => rfl) (V := V m)
    (hmain := hmain m Variants.none) (hA := vA_eq m) (hin := carried_from m) (hout := fun c => carried_to m c _)

/-- The result array, element by element. -/
def result (c : Dev nD) : FVec Ideal S4x4096x512 .bf16 := fun i =>
  outBlk m c (32 * (i 0).val + 8 * ((i 2).val / 128) + (i 1).val / 512)
    (ix3 0 ⟨(i 1).val % 512, by omega⟩ ⟨(i 2).val % 128, by omega⟩)

theorem vflushed (c : Dev nD) (t : Fin cfg0.N) : (vdats m 0 c).flushed 6 t = ((cfg0.win 6).blk t).view.read (Elt Ideal) (result m c) := by
  show (cfg0.win 6).cut (grid0.coords t) ((vdats m 0 c).after 6 t) = _
  rw [vafter6]
  funext y
  show outBlk m c t.val (y : S1x512x128.Idx) = result m c ((win0_6.rect t).emb y)
  have ht := lt_N t
  have h0 : (y 0).val < 1 := (y 0).isLt
  have h1 : (y 1).val < 512 := (y 1).isLt
  have h2 : (y 2).val < 128 := (y 2).isLt
  have e := idx6 t
  have e0 : ((win0_6.rect t).emb y 0).val = t.val / 32 % 4 := (win0_6.rect_emb_val t y 0).trans (by rw [e.1]; show t.val / 32 % 4 * 1 + (y 0).val = t.val / 32 % 4; omega)
  have e1 : ((win0_6.rect t).emb y 1).val = t.val % 8 * 512 + (y 1).val := (win0_6.rect_emb_val t y 1).trans (by rw [e.2.1]; rfl)
  have e2 : ((win0_6.rect t).emb y 2).val = t.val / 8 % 4 * 128 + (y 2).val := (win0_6.rect_emb_val t y 2).trans (by rw [e.2.2]; rfl)
  show _ = outBlk m c (32 * ((win0_6.rect t).emb y 0).val + 8 * (((win0_6.rect t).emb y 2).val / 128) + ((win0_6.rect t).emb y 1).val / 512) _
  have en : 32 * ((win0_6.rect t).emb y 0).val + 8 * (((win0_6.rect t).emb y 2).val / 128) + ((win0_6.rect t).emb y 1).val / 512 = t.val := by
    rw [e0, e1, e2]; omega
  rw [en]
  congr 1
  funext a
  apply Fin.ext
  match a with
  | ⟨0, _⟩ => show (y 0).val = 0; omega
  | ⟨1, _⟩ => show (y 1).val = ((win0_6.rect t).emb y 1).val % 512; rw [e1]; omega
  | ⟨2, _⟩ => show (y 2).val = ((win0_6.rect t).emb y 2).val % 128; rw [e2]; omega

theorem vcover (i : S4x4096x512.Idx) : ∃ t : Fin cfg0.N, (cfg0.win 6).flush t = true ∧ i ∈ ((cfg0.win 6).blk t).view.set := by
  have h0 : (i 0 : Nat) < 4 := (i 0).isLt
  have h1 : (i 1 : Nat) < 4096 := (i 1).isLt
  have h2 : (i 2 : Nat) < 512 := (i 2).isLt
  have hN : cfg0.N = 128 := N_0
  refine ⟨⟨32 * (i 0).val + 8 * ((i 2).val / 128) + (i 1).val / 512, by omega⟩, flush6 _, ?_⟩
  generalize ht : (⟨32 * (i 0).val + 8 * ((i 2).val / 128) + (i 1).val / 512, _⟩ : Fin cfg0.N) = t
  have htv : t.val = 32 * (i 0).val + 8 * ((i 2).val / 128) + (i 1).val / 512 := by rw [← ht]
  show i ∈ ((View.whole main_v1).slice (win0_6.rect t)).set
  rw [View.set_slice_whole, Rect.mem_set_unit]
  have e := idx6 t
  intro a
  match a with
  | ⟨0, _⟩ => show win0_6.index t 0 * 1 ≤ (i 0 : Nat) ∧ (i 0 : Nat) < win0_6.index t 0 * 1 + 1
              rw [e.1]; omega
  | ⟨1, _⟩ => show win0_6.index t 1 * 512 ≤ (i 1 : Nat) ∧ (i 1 : Nat) < win0_6.index t 1 * 512 + 512
              rw [e.2.1]; omega
  | ⟨2, _⟩ => show win0_6.index t 2 * 128 ≤ (i 2 : Nat) ∧ (i 2 : Nat) < win0_6.index t 2 * 128 + 128
              rw [e.2.2]; omega

/-- The launch ends with the result array at its elements and the arguments as found. -/
theorem vrun : θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 6).trans ((vdats m 0 c).arrAt_eq_of_cover 6 (result m c) (fun t _ => vflushed m c t) vcover),
      ((h c).1 2).trans (((vdats m 0 c).arrAt_in 2 rfl _).trans ((vA_eq m c 2).trans (V_main_arg0 m c))),
      ((h c).1 3).trans (((vdats m 0 c).arrAt_in 3 rfl _).trans ((vA_eq m c 3).trans (V_main_arg1 m c))),
      ((h c).1 4).trans (((vdats m 0 c).arrAt_in 4 rfl _).trans ((vA_eq m c 4).trans (V_main_arg2 m c))),
      ((h c).2 main_arg3 (Pipeline.mem_restRefs_of main_arg3 (by decide) (by decide))).trans (V_main_arg3 m c)⟩) (vrun_main m ρ)

end Cert.AttnIdeal.Hand

end
-- ==== Proof.AttnRefs.lean ====
module

public import proofs.«01_k».proof.Defs
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_no_future
public import proofs.«01_k».proof.Proof.AttnVals
public import proofs.«01_k».proof.Proof.GateRefs
public import Idealize.ShloMosaic.Lib.Pointwise
public import Idealize.ShloMosaic.Lib.StableHlo.ReadAt
public import Idealize.ShloMosaic.Lib.Quiescent

@[expose] public section

set_option maxRecDepth 16384
set_option maxHeartbeats 2000000

noncomputable section

/-! The attention of a query in the plain computation, element by element: its scores, their maximum, the weights, the
weighted mean of the values, and the mean's scaling. -/

namespace Cert.AttnRefIdeal.Hand

open Cert.AttnRefIdeal Cert.AttnRefIdeal.Gen Cert.AttnRefIdeal.Read
open Idealize.ShloMosaic Idealize.ShloMosaic.TcCoe Idealize.SL.Sem
open Cert.GateRefIdeal.Hand (select_iff)
open Cert.AttnIdeal.Hand (nrm bits_bot)

variable (x0 : FVec Ideal S4x4096x3072 .bf16) (x1 : FVec Ideal S4x4x2x16x4096 .f32) (x2 : FVec Ideal S8x4x256x256 .f32) (x3 : FVec Ideal S512 .f32)

/-- Column `64 h + d` past column `C`. -/
def at64 (C : ℕ) (hC : C ≤ 2560) (h : Fin 8) (d : Fin 64) : Fin 3072 := ⟨C + (64 * h.val + d.val), by omega⟩

theorem v3_apply (b : Fin 4) (h : Fin 8) (s : Fin 4096) (d : Fin 64) :
    val_main_v3 (F := Ideal) x0 (ix4 b h s d) = x0 (ix3 b s (at64 1536 (by omega) h d)) := by
  rw [val_main_v3_apply, val_main_v2_apply, val_main_v1_apply, val_main_v0_apply]
  show x0 _ = x0 _
  congr 1
  funext a
  match a with
  | ⟨0, _⟩ => exact Fin.ext (by show (((b.val * 4096 + s.val) * 8 + h.val) * 64 + d.val) / 2097152 = b.val; omega)
  | ⟨1, _⟩ => exact Fin.ext (by show (((b.val * 4096 + s.val) * 8 + h.val) * 64 + d.val) / 512 % 4096 = s.val; omega)
  | ⟨2, _⟩ => exact Fin.ext (by show 1536 + (((b.val * 4096 + s.val) * 8 + h.val) * 64 + d.val) % 512 = 1536 + (64 * h.val + d.val); omega)

theorem v7_apply (b : Fin 4) (h : Fin 8) (s : Fin 4096) (d : Fin 64) :
    val_main_v7 (F := Ideal) x0 (ix4 b h s d) = x0 (ix3 b s (at64 2048 (by omega) h d)) := by
  rw [val_main_v7_apply, val_main_v6_apply, val_main_v5_apply, val_main_v4_apply]
  show x0 _ = x0 _
  congr 1
  funext a
  match a with
  | ⟨0, _⟩ => exact Fin.ext (by show (((b.val * 4096 + s.val) * 8 + h.val) * 64 + d.val) / 2097152 = b.val; omega)
  | ⟨1, _⟩ => exact Fin.ext (by show (((b.val * 4096 + s.val) * 8 + h.val) * 64 + d.val) / 512 % 4096 = s.val; omega)
  | ⟨2, _⟩ => exact Fin.ext (by show 2048 + (((b.val * 4096 + s.val) * 8 + h.val) * 64 + d.val) % 512 = 2048 + (64 * h.val + d.val); omega)

theorem v11_apply (b : Fin 4) (h : Fin 8) (s : Fin 4096) (d : Fin 64) :
    val_main_v11 (F := Ideal) x0 (ix4 b h s d) = x0 (ix3 b s (at64 2560 (by omega) h d)) := by
  rw [val_main_v11_apply, val_main_v10_apply, val_main_v9_apply, val_main_v8_apply]
  show x0 _ = x0 _
  congr 1
  funext a
  match a with
  | ⟨0, _⟩ => exact Fin.ext (by show (((b.val * 4096 + s.val) * 8 + h.val) * 64 + d.val) / 2097152 = b.val; omega)
  | ⟨1, _⟩ => exact Fin.ext (by show (((b.val * 4096 + s.val) * 8 + h.val) * 64 + d.val) / 512 % 4096 = s.val; omega)
  | ⟨2, _⟩ => exact Fin.ext (by show 2560 + (((b.val * 4096 + s.val) * 8 + h.val) * 64 + d.val) % 512 = 2560 + (64 * h.val + d.val); omega)

/-- The tile of a key block `n` for a query block `j`: far, previous, own, future. -/
def tileOf (n j : ℕ) : Fin 4 := if j < n then 3 else if n = j then 2 else if n + 1 = j then 1 else 0

theorem gt_word : ∀ n j : Fin 16, IntOp.cmpi .sgt (BitVec.ofNat 32 n.val) (BitVec.ofNat 32 j.val) = 1#1 ↔ j.val < n.val := by decide +kernel
theorem eq_word : ∀ n j : Fin 16, IntOp.cmpi .eq (BitVec.ofNat 32 n.val) (BitVec.ofNat 32 j.val) = 1#1 ↔ n.val = j.val := by decide +kernel
theorem next_word : ∀ n j : Fin 16, IntOp.cmpi .eq (IntOp.addi (BitVec.ofNat 32 n.val) 1#32) (BitVec.ofNat 32 j.val) = 1#1 ↔ n.val + 1 = j.val := by decide +kernel

theorem v16_apply (h : Fin 8) (κ r : Fin 256) : val_main_v16 (F := Ideal) x2 (ix5 h 0 κ 0 r) = x2 (ix4 h 0 κ r) := by
  pointwise [val_main_v16, val_main_v15, val_main_v14]
theorem v19_apply (h : Fin 8) (κ r : Fin 256) : val_main_v19 (F := Ideal) x2 (ix5 h 0 κ 0 r) = x2 (ix4 h 1 κ r) := by
  pointwise [val_main_v19, val_main_v18, val_main_v17]
theorem v22_apply (h : Fin 8) (κ r : Fin 256) : val_main_v22 (F := Ideal) x2 (ix5 h 0 κ 0 r) = x2 (ix4 h 2 κ r) := by
  pointwise [val_main_v22, val_main_v21, val_main_v20]
theorem v25_apply (h : Fin 8) (κ r : Fin 256) : val_main_v25 (F := Ideal) x2 (ix5 h 0 κ 0 r) = x2 (ix4 h 3 κ r) := by
  pointwise [val_main_v25, val_main_v24, val_main_v23]

theorem v33_apply (h : Fin 8) (n : Fin 16) (κ : Fin 256) (j : Fin 16) (r : Fin 256) :
    val_main_v33 (F := Ideal) x2 (ix5 h n κ j r) = x2 (ix4 h (tileOf n.val j.val) κ r) := by
  have e0 : val_main_call0_v0 (F := Ideal) (ix5 h n κ j r) = 1#1 ↔ n.val + 1 = j.val := by
    rw [val_main_call0_v0_apply, val_main_v30_apply, val_main_v29_apply, val_main_v12_apply, val_main_v13_apply, val_main_v28_apply, val_main_c_apply]
    exact next_word n j
  have e1 : val_main_call1_v0 (F := Ideal) (ix5 h n κ j r) = 1#1 ↔ n.val = j.val := by
    rw [val_main_call1_v0_apply, val_main_v27_apply, val_main_v12_apply, val_main_v13_apply]
    exact eq_word n j
  have e2 : val_main_call2_v0 (F := Ideal) (ix5 h n κ j r) = 1#1 ↔ j.val < n.val := by
    rw [val_main_call2_v0_apply, val_main_v26_apply, val_main_v12_apply, val_main_v13_apply]
    exact gt_word n j
  have i (f : S8x16x256x16x256.Idx → S8x1x256x1x256.Idx) (hf : ∀ i a, (f i a).val = match a with
      | ⟨0, _⟩ => (i 0).val | ⟨1, _⟩ => 0 | ⟨2, _⟩ => (i 2).val | ⟨3, _⟩ => 0 | ⟨4, _⟩ => (i 4).val) : f (ix5 h n κ j r) = ix5 h 0 κ 0 r := by
    funext a
    refine Fin.ext ((hf _ a).trans ?_)
    match a with
    | ⟨0, _⟩ => rfl
    | ⟨1, _⟩ => rfl
    | ⟨2, _⟩ => rfl
    | ⟨3, _⟩ => rfl
    | ⟨4, _⟩ => rfl
  have f0 : val_main_call0_v2 (F := Ideal) x2 (ix5 h n κ j r) = x2 (ix4 h 0 κ r) := by
    rw [val_main_call0_v2_apply, i idx_main_call0_v2 (fun i a => by match a with | ⟨0, _⟩ => rfl | ⟨1, _⟩ => rfl | ⟨2, _⟩ => rfl | ⟨3, _⟩ => rfl | ⟨4, _⟩ => rfl), v16_apply]
  have f1 : val_main_call0_v1 (F := Ideal) x2 (ix5 h n κ j r) = x2 (ix4 h 1 κ r) := by
    rw [val_main_call0_v1_apply, i idx_main_call0_v1 (fun i a => by match a with | ⟨0, _⟩ => rfl | ⟨1, _⟩ => rfl | ⟨2, _⟩ => rfl | ⟨3, _⟩ => rfl | ⟨4, _⟩ => rfl), v19_apply]
  have f2 : val_main_call1_v1 (F := Ideal) x2 (ix5 h n κ j r) = x2 (ix4 h 2 κ r) := by
    rw [val_main_call1_v1_apply, i idx_main_call1_v1 (fun i a => by match a with | ⟨0, _⟩ => rfl | ⟨1, _⟩ => rfl | ⟨2, _⟩ => rfl | ⟨3, _⟩ => rfl | ⟨4, _⟩ => rfl), v22_apply]
  have f3 : val_main_call2_v1 (F := Ideal) x2 (ix5 h n κ j r) = x2 (ix4 h 3 κ r) := by
    rw [val_main_call2_v1_apply, i idx_main_call2_v1 (fun i a => by match a with | ⟨0, _⟩ => rfl | ⟨1, _⟩ => rfl | ⟨2, _⟩ => rfl | ⟨3, _⟩ => rfl | ⟨4, _⟩ => rfl), v25_apply]
  rw [val_main_v33_apply, val_main_v32_apply, val_main_v31_apply, select_iff e0, select_iff e1, select_iff e2, f0, f1, f2, f3]
  unfold tileOf
  split_ifs <;> rfl

/-- The score of key `k` for query `s`: their product, the tile's bias and the block's mask. -/
def lg (b : Fin 4) (h : Fin 8) (s k : Fin 4096) : EReal :=
  (∑ d : Fin 64, x0 (ix3 b k (at64 2048 (by omega) h d)) * x0 (ix3 b s (at64 1536 (by omega) h d)))
    + x2 (ix4 h (tileOf (k.val / 256) (s.val / 256)) ⟨k.val % 256, by omega⟩ ⟨s.val % 256, by omega⟩)
    + x1 (ix5 b ⟨h.val / 2, by omega⟩ ⟨h.val % 2, by omega⟩ ⟨k.val / 256, by omega⟩ s)

theorem v35_apply (b : Fin 4) (h : Fin 8) (k s : Fin 4096) : val_main_v35 (F := Ideal) x0 (ix4 b h k s)
    = ∑ d : Fin 64, x0 (ix3 b k (at64 2048 (by omega) h d)) * x0 (ix3 b s (at64 1536 (by omega) h d)) := by
  rw [val_main_v35_apply]
  refine Finset.sum_congr rfl fun d _ => ?_
  refine congrArg₂ (· * ·) ((congrArg _ ?_).trans (v7_apply x0 b h k d)) ((congrArg _ ?_).trans (v3_apply x0 b h s d))
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

theorem v37_apply (b : Fin 4) (h : Fin 8) (k s : Fin 4096) : val_main_v37 (F := Ideal) x2 (ix4 b h k s)
    = x2 (ix4 h (tileOf (k.val / 256) (s.val / 256)) ⟨k.val % 256, by omega⟩ ⟨s.val % 256, by omega⟩) := by
  rw [val_main_v37_apply, val_main_v36_apply]
  refine Eq.trans (congrArg _ ?_) (v33_apply x2 h ⟨k.val / 256, by omega⟩ ⟨k.val % 256, by omega⟩ ⟨s.val / 256, by omega⟩ ⟨s.val % 256, by omega⟩)
  funext a
  match a with
  | ⟨0, _⟩ => exact Fin.ext (by show (((0 * 8 + h.val) * 4096 + k.val) * 4096 + s.val) / 16777216 = h.val; omega)
  | ⟨1, _⟩ => exact Fin.ext (by show (((0 * 8 + h.val) * 4096 + k.val) * 4096 + s.val) / 1048576 % 16 = k.val / 256; omega)
  | ⟨2, _⟩ => exact Fin.ext (by show (((0 * 8 + h.val) * 4096 + k.val) * 4096 + s.val) / 4096 % 256 = k.val % 256; omega)
  | ⟨3, _⟩ => exact Fin.ext (by show (((0 * 8 + h.val) * 4096 + k.val) * 4096 + s.val) / 256 % 16 = s.val / 256; omega)
  | ⟨4, _⟩ => exact Fin.ext (by show (((0 * 8 + h.val) * 4096 + k.val) * 4096 + s.val) % 256 = s.val % 256; omega)

theorem v40_apply (b : Fin 4) (h : Fin 8) (n : Fin 16) (κ : Fin 256) (s : Fin 4096) : val_main_v40 (F := Ideal) x1 (ix5 b h n κ s)
    = x1 (ix5 b ⟨h.val / 2, by omega⟩ ⟨h.val % 2, by omega⟩ n s) := by
  rw [val_main_v40_apply, val_main_v34_apply]
  refine congrArg x1 ?_
  funext a
  match a with
  | ⟨0, _⟩ => exact Fin.ext (by show ((((b.val * 8 + h.val) * 16 + n.val) * 1 + 0) * 4096 + s.val) / 524288 = b.val; omega)
  | ⟨1, _⟩ => exact Fin.ext (by show ((((b.val * 8 + h.val) * 16 + n.val) * 1 + 0) * 4096 + s.val) / 131072 % 4 = h.val / 2; omega)
  | ⟨2, _⟩ => exact Fin.ext (by show ((((b.val * 8 + h.val) * 16 + n.val) * 1 + 0) * 4096 + s.val) / 65536 % 2 = h.val % 2; omega)
  | ⟨3, _⟩ => exact Fin.ext (by show ((((b.val * 8 + h.val) * 16 + n.val) * 1 + 0) * 4096 + s.val) / 4096 % 16 = n.val; omega)
  | ⟨4, _⟩ => exact Fin.ext (by show ((((b.val * 8 + h.val) * 16 + n.val) * 1 + 0) * 4096 + s.val) % 4096 = s.val; omega)

theorem v39_apply (b : Fin 4) (h : Fin 8) (k s : Fin 4096) :
    val_main_v39 (F := Ideal) x0 x2 (ix5 b h (⟨k.val / 256, by omega⟩ : Fin 16) (⟨k.val % 256, by omega⟩ : Fin 256) s) = val_main_v38 (F := Ideal) x0 x2 (ix4 b h k s) := by
  rw [val_main_v39_apply]
  refine congrArg _ ?_
  funext a
  match a with
  | ⟨0, _⟩ => exact Fin.ext (by show ((((b.val * 8 + h.val) * 16 + k.val / 256) * 256 + k.val % 256) * 4096 + s.val) / 134217728 = b.val; omega)
  | ⟨1, _⟩ => exact Fin.ext (by show ((((b.val * 8 + h.val) * 16 + k.val / 256) * 256 + k.val % 256) * 4096 + s.val) / 16777216 % 8 = h.val; omega)
  | ⟨2, _⟩ => exact Fin.ext (by show ((((b.val * 8 + h.val) * 16 + k.val / 256) * 256 + k.val % 256) * 4096 + s.val) / 4096 % 4096 = k.val; omega)
  | ⟨3, _⟩ => exact Fin.ext (by show ((((b.val * 8 + h.val) * 16 + k.val / 256) * 256 + k.val % 256) * 4096 + s.val) % 4096 = s.val; omega)

theorem v42_apply (b : Fin 4) (h : Fin 8) (k s : Fin 4096) : val_main_v42 (F := Ideal) x0 x1 x2 (ix4 b h k s) = lg x0 x1 x2 b h s k := by
  have e : idx_main_v42 (ix4 b h k s) = ix5 b h (⟨k.val / 256, by omega⟩ : Fin 16) (⟨k.val % 256, by omega⟩ : Fin 256) s := by
    funext a
    match a with
    | ⟨0, _⟩ => exact Fin.ext (by show (((b.val * 8 + h.val) * 4096 + k.val) * 4096 + s.val) / 134217728 = b.val; omega)
    | ⟨1, _⟩ => exact Fin.ext (by show (((b.val * 8 + h.val) * 4096 + k.val) * 4096 + s.val) / 16777216 % 8 = h.val; omega)
    | ⟨2, _⟩ => exact Fin.ext (by show (((b.val * 8 + h.val) * 4096 + k.val) * 4096 + s.val) / 1048576 % 16 = k.val / 256; omega)
    | ⟨3, _⟩ => exact Fin.ext (by show (((b.val * 8 + h.val) * 4096 + k.val) * 4096 + s.val) / 4096 % 256 = k.val % 256; omega)
    | ⟨4, _⟩ => exact Fin.ext (by show (((b.val * 8 + h.val) * 4096 + k.val) * 4096 + s.val) % 4096 = s.val; omega)
  rw [val_main_v42_apply, e, val_main_v41_apply, v39_apply, v40_apply, val_main_v38_apply, v35_apply, v37_apply]
  rfl

/-- The greatest score of a query. -/
def mx (b : Fin 4) (h : Fin 8) (s : Fin 4096) : EReal := Finset.fold max ⊥ (lg x0 x1 x2 b h s) Finset.univ

theorem v43_apply (b : Fin 4) (h : Fin 8) (s : Fin 4096) : val_main_v43 (F := Ideal) x0 x1 x2 (ix3 b h s) = mx x0 x1 x2 b h s := by
  pointwise [val_main_v43]
  show Finset.fold max (Ideal.ofBits FTy.f32 4286578688#32) _ _ = _
  rw [bits_bot]
  exact congrArg (fun f => Finset.fold max ⊥ f Finset.univ) (funext fun k => v42_apply x0 x1 x2 b h k s)

/-- A power of two is the same operation however it is written. -/
theorem pow_two (y : EReal) : Ideal.pow (Ideal.ofBits FTy.f32 0x40000000#32) y = Ideal.exp2 y := by
  have e : Ideal.ofBits FTy.f32 0x40000000#32 = ((2 : ℝ) : EReal) := by
    simp [Ideal.ofBits, Ideal.ieee]
    rw [← EReal.coe_mul]
    congr 1
    norm_num
  rw [e]
  induction y with
  | bot => show (if (2 : ℝ) < 0 then (⊥ : EReal) else if (1 : ℝ) < 2 then 0 else if (2 : ℝ) = 1 then 1 else ⊤) = 0
           norm_num
  | top => show (if (2 : ℝ) < 0 then (⊥ : EReal) else if (1 : ℝ) < 2 then ⊤ else if (2 : ℝ) = 1 then 1 else 0) = ⊤
           norm_num
  | coe y => rfl

/-- The weight of a key for a query. -/
def wgt (b : Fin 4) (h : Fin 8) (s k : Fin 4096) : EReal := Ideal.exp2 (lg x0 x1 x2 b h s k - mx x0 x1 x2 b h s)

theorem v48_apply (b : Fin 4) (h : Fin 8) (k s : Fin 4096) : val_main_v48 (F := Ideal) x0 x1 x2 (ix4 b h k s) = wgt x0 x1 x2 b h s k := by
  have e : val_main_v45 (F := Ideal) x0 x1 x2 (ix4 b h k s) = mx x0 x1 x2 b h s := by
    rw [val_main_v45_apply, val_main_v44_apply, ← v43_apply]
    refine congrArg _ ?_
    funext a; match a with | ⟨0, _⟩ => rfl | ⟨1, _⟩ => rfl | ⟨2, _⟩ => rfl
  rw [val_main_v48_apply, val_main_v47_apply, val_main_cst_0_apply, val_main_v46_apply, v42_apply, e]
  exact pow_two _

/-- A query's weighted sum of the values, -/
def num (b : Fin 4) (h : Fin 8) (s : Fin 4096) (d : Fin 64) : EReal := ∑ k, wgt x0 x1 x2 b h s k * x0 (ix3 b k (at64 2560 (by omega) h d))
/-- and the sum of its weights. -/
def den (b : Fin 4) (h : Fin 8) (s : Fin 4096) : EReal := ∑ k, wgt x0 x1 x2 b h s k

theorem v49_apply (b : Fin 4) (h : Fin 8) (s : Fin 4096) (d : Fin 64) : val_main_v49 (F := Ideal) x0 x1 x2 (ix4 b h s d) = num x0 x1 x2 b h s d := by
  rw [val_main_v49_apply]
  refine Finset.sum_congr rfl fun k _ => ?_
  refine congrArg₂ (· * ·) ((congrArg _ ?_).trans (v48_apply x0 x1 x2 b h k s)) ((congrArg _ ?_).trans (v11_apply x0 b h k d))
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

theorem zero_bits : (FloatOps.ofBits (F := Ideal) FTy.f32 0x00000000#32 : EReal) = 0 := by
  show Ideal.ofBits FTy.f32 0x00000000#32 = 0
  simp [Ideal.ofBits, Ideal.ieee]

theorem v50_apply (b : Fin 4) (h : Fin 8) (s : Fin 4096) : val_main_v50 (F := Ideal) x0 x1 x2 (ix3 b h s) = den x0 x1 x2 b h s := by
  rw [val_main_v50_apply, val_main_cst_1_apply, zero_bits, zero_add]
  refine Finset.sum_congr rfl fun k _ => ?_
  rw [← v48_apply]
  refine congrArg _ ?_
  funext a; match a with | ⟨0, _⟩ => rfl | ⟨1, _⟩ => rfl | ⟨2, _⟩ => rfl | ⟨3, _⟩ => rfl

theorem v53_apply (b : Fin 4) (h : Fin 8) (s : Fin 4096) (d : Fin 64) :
    val_main_v53 (F := Ideal) x0 x1 x2 (ix4 b h s d) = Ideal.div (num x0 x1 x2 b h s d) (den x0 x1 x2 b h s) := by
  have e : val_main_v52 (F := Ideal) x0 x1 x2 (ix4 b h s d) = den x0 x1 x2 b h s := by
    rw [val_main_v52_apply, val_main_v51_apply, ← v50_apply]
    refine congrArg _ ?_
    funext a; match a with | ⟨0, _⟩ => rfl | ⟨1, _⟩ => rfl | ⟨2, _⟩ => rfl
  rw [val_main_v53_apply, v49_apply, e]
  rfl

theorem v55_apply (b : Fin 4) (h : Fin 8) (s : Fin 4096) : val_main_v55 (F := Ideal) x0 x1 x2 (ix3 b h s)
    = ∑ d, Ideal.div (num x0 x1 x2 b h s d) (den x0 x1 x2 b h s) * Ideal.div (num x0 x1 x2 b h s d) (den x0 x1 x2 b h s) := by
  rw [val_main_v55_apply, val_main_cst_2_apply, zero_bits, zero_add]
  refine Finset.sum_congr rfl fun d _ => ?_
  rw [← v53_apply, val_main_v54_apply]
  have e : idx_main_v55 (ix3 b h s) d = ix4 b h s d := by
    funext a; match a with | ⟨0, _⟩ => rfl | ⟨1, _⟩ => rfl | ⟨2, _⟩ => rfl | ⟨3, _⟩ => rfl
  rw [e]
  rfl

theorem v63_apply (b : Fin 4) (h : Fin 8) (s : Fin 4096) (d : Fin 64) :
    val_main_v63 (F := Ideal) x0 x1 x2 (ix4 b h s d) = nrm (num x0 x1 x2 b h s) (den x0 x1 x2 b h s) d := by
  have e : val_main_v56 (F := Ideal) x0 x1 x2 (idx_main_v62 (ix4 b h s d)) = val_main_v55 (F := Ideal) x0 x1 x2 (ix3 b h s) := by
    rw [val_main_v56_apply]
    refine congrArg _ ?_
    funext a; match a with | ⟨0, _⟩ => rfl | ⟨1, _⟩ => rfl | ⟨2, _⟩ => rfl
  rw [val_main_v63_apply, v53_apply, val_main_v62_apply, val_main_v61_apply, val_main_v60_apply, val_main_v58_apply, e, v55_apply,
    val_main_v57_apply, val_main_cst_3_apply, val_main_v59_apply, val_main_cst_4_apply]
  rfl

/-- The result, element by element. -/
theorem v69_apply (b : Fin 4) (s : Fin 4096) (o : Fin 512) : val_main_v69 (F := Ideal) x0 x1 x2 x3 (ix3 b s o)
    = nrm (num x0 x1 x2 b ⟨o.val / 64, by omega⟩ s) (den x0 x1 x2 b ⟨o.val / 64, by omega⟩ s) ⟨o.val % 64, by omega⟩ * x3 (ix1 o) := by
  have e : idx_main_v64 (idx_main_v65 (ix3 b s o)) = ix4 b (⟨o.val / 64, by omega⟩ : Fin 8) s (⟨o.val % 64, by omega⟩ : Fin 64) := by
    funext a
    match a with
    | ⟨0, _⟩ => exact Fin.ext (by show ((b.val * 4096 + s.val) * 512 + o.val) / 2097152 = b.val; omega)
    | ⟨1, _⟩ => exact Fin.ext (by show ((b.val * 4096 + s.val) * 512 + o.val) / 64 % 8 = o.val / 64; omega)
    | ⟨2, _⟩ => exact Fin.ext (by show ((b.val * 4096 + s.val) * 512 + o.val) / 512 % 4096 = s.val; omega)
    | ⟨3, _⟩ => exact Fin.ext (by show ((b.val * 4096 + s.val) * 512 + o.val) % 64 = o.val % 64; omega)
  have e3 : idx_main_v66 (idx_main_v67 (ix3 b s o)) = ix1 o := by
    funext a; match a with | ⟨0, _⟩ => rfl
  rw [val_main_v69_apply, val_main_v68_apply, val_main_v65_apply, val_main_v64_apply, val_main_v67_apply, val_main_v66_apply, e, e3, v63_apply]
  rfl

end Cert.AttnRefIdeal.Hand

end
-- ==== Proof.Attn.lean ====
module

public import proofs.«01_k».proof.Proof.AttnLaunch
public import proofs.«01_k».proof.Proof.AttnRefs

@[expose] public section

set_option maxRecDepth 16384
set_option maxHeartbeats 2000000

noncomputable section

/-! The attention call against the plain attention: block by block over the keys, the maxima and the weighted sums are those over
all keys, as a key block past the query's own weighs nothing. -/

namespace Cert.AttnIdeal.Hand

open Cert.AttnIdeal Cert.AttnIdeal.Gen Cert.AttnIdeal.Run
open Idealize.ShloMosaic Idealize.ShloMosaic.TcCoe Idealize.SL.Sem
open Cert.AttnRefIdeal.Hand (at64 tileOf lg mx wgt)

/-! ### Sums and maxima over the keys -/

/-- A sum over the lanes of a pair of heads of which only one head's count. -/
theorem sum_head (h : Fin 2) (f q : Fin 128 → EReal) :
    ∑ l : Fin 128, f l * (if ch l = h then q l else 0)
      = ∑ d : Fin 64, f ⟨64 * h.val + d.val, by omega⟩ * q ⟨64 * h.val + d.val, by omega⟩ := by
  rw [Fin.sum_univ_add (a := 64) (b := 64) (fun l : Fin 128 => f l * (if ch l = h then q l else 0))]
  have c0 : ∀ d : Fin 64, ch (Fin.castAdd 64 d) = 0 := fun d => Fin.ext (by show d.val / 64 = 0; omega)
  have c1 : ∀ d : Fin 64, ch (Fin.natAdd 64 d) = 1 := fun d => Fin.ext (by show (64 + d.val) / 64 = 1; omega)
  simp only [c0, c1]
  match h with
  | 0 =>
    refine (congrArg₂ (fun x y : EReal => x + y) (Finset.sum_congr rfl fun d _ => ?_) (Finset.sum_eq_zero fun d _ => ?_)).trans (add_zero _)
    · rw [if_pos rfl]
      exact congrArg₂ (fun a b : Fin 128 => f a * q b) (Fin.ext (by show d.val = 64 * 0 + d.val; omega)) (Fin.ext (by show d.val = 64 * 0 + d.val; omega))
    · rw [if_neg (by decide), mul_zero]
  | 1 =>
    refine (congrArg₂ (fun x y : EReal => x + y) (Finset.sum_eq_zero fun d _ => ?_) (Finset.sum_congr rfl fun d _ => ?_)).trans (zero_add _)
    · rw [if_neg (by decide), mul_zero]
    · rw [if_pos rfl]
      exact congrArg₂ (fun a b : Fin 128 => f a * q b) (Fin.ext (by show 64 + d.val = 64 * 1 + d.val; omega)) (Fin.ext (by show 64 + d.val = 64 * 1 + d.val; omega))

/-- A sum over the keys, block by block. -/
theorem sum_keys (F : Fin 4096 → EReal) : ∑ k, F k = ∑ n : Fin 16, ∑ κ : Fin 256, F (key n κ) := by
  have e := (finProdFinEquiv (m := 16) (n := 256)).sum_comp (fun k : Fin (16 * 256) => F k)
  rw [Fintype.sum_prod_type] at e
  refine e.symm.trans (Finset.sum_congr rfl fun n _ => Finset.sum_congr rfl fun κ _ => congrArg F (Fin.ext ?_))
  show κ.val + 256 * n.val = 256 * n.val + κ.val
  omega

/-- A key is one of its block's. -/
theorem key_of (k : Fin 4096) : k = key ⟨k.val / 256, by omega⟩ ⟨k.val % 256, by omega⟩ :=
  Fin.ext (by show k.val = 256 * (k.val / 256) + k.val % 256; omega)

theorem top_le (I : Inp) (s : Fin 4) (r : Fin 256) (x : EReal) (m : ℕ) (hm : m ≤ 16) :
    top I s r m ≤ x ↔ ∀ n : Fin 16, n.val < m → ∀ κ, sc I s n κ r ≤ x := by
  induction m with
  | zero => exact ⟨fun _ n hn => absurd hn (Nat.not_lt_zero _), fun _ => (bot_le : (⊥ : EReal) ≤ x)⟩
  | succ m ih =>
    rw [top_succ (I := I) s r ⟨m, by omega⟩, max_le_iff, ih (by omega), Finset.fold_max_le]
    constructor
    · rintro ⟨h1, -, h2⟩ n hn κ
      rcases Nat.lt_succ_iff_lt_or_eq.mp hn with h | h
      · exact h1 n h κ
      · have : n = ⟨m, by omega⟩ := Fin.ext h
        rw [this]; exact h2 κ (Finset.mem_univ _)
    · intro h
      exact ⟨fun n hn κ => h n (by omega) κ, bot_le, fun κ _ => h ⟨m, by omega⟩ (Nat.lt_succ_self m) κ⟩

theorem accu_eq (I : Inp) (V : Fin 16 → Fin 2 → Fin 80 → Fin 256 → EReal) (μ : EReal) (s : Fin 4) (d : Fin 80) (r : Fin 256) (m : ℕ) (hm : m ≤ 16)
    (h0 : ∀ n : Fin 16, m ≤ n.val → ∀ κ, wt I μ s n κ r = 0) : accu I V μ s d r m = ∑ n : Fin 16, ∑ κ, V n (hd s) d κ * wt I μ s n κ r := by
  have e : ∀ m, m ≤ 16 → accu I V μ s d r m = ∑ n ∈ Finset.range m, if h : n < 16 then ∑ κ, V ⟨n, h⟩ (hd s) d κ * wt I μ s ⟨n, h⟩ κ r else 0 := by
    intro m
    induction m with
    | zero => exact fun _ => rfl
    | succ m ih =>
      intro hm
      rw [accu_succ I V μ s d r ⟨m, by omega⟩, ih (by omega), Finset.sum_range_succ, dif_pos (by omega)]
  rw [e m hm, Finset.sum_subset (Finset.range_subset_range.mpr hm), Finset.sum_range]
  · exact Finset.sum_congr rfl fun n _ => dif_pos n.isLt
  · intro n hn hm
    have h16 : n < 16 := Finset.mem_range.mp hn
    have hmn : m ≤ n := Nat.le_of_not_lt fun h => hm (Finset.mem_range.mpr h)
    rw [dif_pos h16]
    exact Finset.sum_eq_zero fun κ _ => by rw [h0 ⟨n, h16⟩ hmn κ, mul_zero]

/-! ### A grid point's scores, maxima and sums -/

variable (x0 : FVec Ideal S4x4096x3072 .bf16) (x1 : FVec Ideal S4x4x2x16x4096 .f32) (x2 : FVec Ideal S8x4x256x256 .f32) (x3 : FVec Ideal S512 .f32)
  (n : ℕ) (s : Fin 4) (r : Fin 256)

/-- The batch of grid point `n`, -/
def bt : Fin 4 := ⟨n / 32 % 4, by omega⟩
/-- the head of its slot `s`, -/
def hh : Fin 8 := ⟨2 * (n / 8 % 4) + (hd s).val, by omega⟩
/-- and the query `r` of that slot. -/
def qq : Fin 4096 := ⟨512 * (n % 8) + (256 * (jb s).val + r.val), by omega⟩

/-- The point's data. -/
abbrev dt : Data := part x0 x1 x2 x3 n

theorem kd_eq : ∀ k : Fin 16, ∀ b : Fin 16, kd k.val b.val = tileOf k.val b.val := by decide +kernel

theorem sc_eq (k : Fin 16) (κ : Fin 256) : sc ((dt x0 x1 x2 x3 n).inp (n % 8)) s k κ r = lg x0 x1 x2 (bt n) (hh n s) (qq n s r) (key k κ) := by
  unfold sc lg
  refine congrArg₂ (fun a b : EReal => a + b) (congrArg₂ (fun a b : EReal => a + b) ((sum_head (hd s) _ _).trans (Finset.sum_congr rfl fun d _ => ?_)) ?_) ?_
  · show x0 _ * x0 _ = x0 _ * x0 _
    refine congrArg₂ (fun a b => x0 a * x0 b) (congrArg (ix3 _ _) (Fin.ext ?_)) (congrArg (ix3 _ _) (Fin.ext ?_))
    · show 2048 + (128 * (n / 8 % 4) + (64 * (hd s).val + d.val)) = 2048 + (64 * (2 * (n / 8 % 4) + (hd s).val) + d.val); omega
    · show 1536 + (128 * (n / 8 % 4) + (64 * (hd s).val + d.val)) = 1536 + (64 * (2 * (n / 8 % 4) + (hd s).val) + d.val); omega
  · show x2 (ix4 _ (kd k.val (2 * (n % 8) + (jb s).val)) κ r) = x2 (ix4 _ _ _ _)
    have hj := (jb s).isLt
    have e1 : kd k.val (2 * (n % 8) + (jb s).val) = tileOf ((key k κ).val / 256) ((qq n s r).val / 256) := by
      refine (kd_eq k ⟨2 * (n % 8) + (jb s).val, by omega⟩).trans (congrArg₂ tileOf ?_ ?_)
      · show k.val = (256 * k.val + κ.val) / 256; omega
      · show 2 * (n % 8) + (jb s).val = (512 * (n % 8) + (256 * (jb s).val + r.val)) / 256; omega
    have e2 : κ = ⟨(key k κ).val % 256, by omega⟩ := Fin.ext (by show κ.val = (256 * k.val + κ.val) % 256; omega)
    have e3 : r = ⟨(qq n s r).val % 256, by omega⟩ := Fin.ext (by show r.val = (512 * (n % 8) + (256 * (jb s).val + r.val)) % 256; omega)
    rw [e1, ← e2, ← e3]
    rfl
  · show x1 (ix5 _ _ _ _ _) = x1 (ix5 _ _ _ _ _)
    have hs := (hd s).isLt
    refine congrArg x1 ?_
    funext a
    match a with
    | ⟨0, _⟩ => rfl
    | ⟨1, _⟩ => exact Fin.ext (by show n / 8 % 4 = (2 * (n / 8 % 4) + (hd s).val) / 2; omega)
    | ⟨2, _⟩ => exact Fin.ext (by show (hd s).val = (2 * (n / 8 % 4) + (hd s).val) % 2; omega)
    | ⟨3, _⟩ => exact Fin.ext (by show k.val = (256 * k.val + κ.val) / 256; omega)
    | ⟨4, _⟩ => rfl

/-- Future tiles hold the least number. -/
def NoFuture : Prop := ∀ h κ r, x2 (ix4 h 3 κ r) = (⊥ : EReal)

variable (hf : NoFuture x2)
include hf

/-- A key of a block past the query's own scores least. -/
theorem lg_future (k : Fin 16) (hk : 2 * (n % 8) + 2 ≤ k.val) (κ : Fin 256) : lg x0 x1 x2 (bt n) (hh n s) (qq n s r) (key k κ) = ⊥ := by
  unfold lg
  have hj := (jb s).isLt
  have e : tileOf ((key k κ).val / 256) ((qq n s r).val / 256) = 3 := by
    unfold tileOf
    refine if_pos ?_
    show (512 * (n % 8) + (256 * (jb s).val + r.val)) / 256 < (256 * k.val + κ.val) / 256
    omega
  rw [e, hf, EReal.add_bot, EReal.bot_add]

theorem mu_eq : (dt x0 x1 x2 x3 n).mu (n % 8) s r = mx x0 x1 x2 (bt n) (hh n s) (qq n s r) := by
  refine eq_of_forall_ge_iff fun x => ?_
  unfold Data.mu mx
  rw [top_le _ _ _ _ _ (by omega), Finset.fold_max_le]
  constructor
  · intro h
    refine ⟨bot_le, fun k _ => ?_⟩
    rw [key_of k]
    by_cases hk : k.val / 256 < 2 * (n % 8) + 2
    · rw [← sc_eq x0 x1 x2 x3]; exact h _ hk _
    · rw [lg_future x0 x1 x2 n s r hf _ (Nat.le_of_not_lt hk)]; exact bot_le
  · rintro ⟨-, h⟩ k _ κ
    rw [sc_eq]; exact h _ (Finset.mem_univ _)

theorem wt_eq (k : Fin 16) (κ : Fin 256) : wt ((dt x0 x1 x2 x3 n).inp (n % 8)) ((dt x0 x1 x2 x3 n).mu (n % 8) s r) s k κ r
    = wgt x0 x1 x2 (bt n) (hh n s) (qq n s r) (key k κ) := by
  unfold wt wgt
  rw [sc_eq, mu_eq x0 x1 x2 x3 n s r hf]
  rfl

theorem acc_eq (d : Fin 80) : (dt x0 x1 x2 x3 n).acc (n % 8) s d r
    = ∑ k : Fin 16, ∑ κ : Fin 256, VT (dt x0 x1 x2 x3 n).W k (hd s) d κ * wgt x0 x1 x2 (bt n) (hh n s) (qq n s r) (key k κ) := by
  unfold Data.acc
  rw [accu_eq _ _ _ _ _ _ _ (by omega)]
  · exact Finset.sum_congr rfl fun k _ => Finset.sum_congr rfl fun κ _ => by rw [wt_eq x0 x1 x2 x3 n s r hf]
  · intro k hk κ
    rw [wt_eq x0 x1 x2 x3 n s r hf]
    unfold wgt
    rw [lg_future x0 x1 x2 n s r hf k hk κ, EReal.bot_sub]
    rfl

theorem acc_num (d : Fin 64) : (dt x0 x1 x2 x3 n).acc (n % 8) s ⟨d.val, by omega⟩ r = Cert.AttnRefIdeal.Hand.num x0 x1 x2 (bt n) (hh n s) (qq n s r) d := by
  unfold Cert.AttnRefIdeal.Hand.num
  rw [acc_eq x0 x1 x2 x3 n s r hf, sum_keys]
  refine Finset.sum_congr rfl fun k _ => Finset.sum_congr rfl fun κ _ => ?_
  rw [mul_comm]
  refine congrArg (fun a : EReal => _ * a) ((dif_pos d.isLt).trans ?_)
  show x0 (ix3 _ _ _) = x0 (ix3 _ _ _)
  refine congrArg x0 (congrArg (ix3 _ _) (Fin.ext ?_))
  show 2560 + (128 * (n / 8 % 4) + (64 * (hd s).val + d.val)) = 2560 + (64 * (2 * (n / 8 % 4) + (hd s).val) + d.val)
  omega

theorem acc_den : (dt x0 x1 x2 x3 n).acc (n % 8) s 64 r = Cert.AttnRefIdeal.Hand.den x0 x1 x2 (bt n) (hh n s) (qq n s r) := by
  unfold Cert.AttnRefIdeal.Hand.den
  rw [acc_eq x0 x1 x2 x3 n s r hf, sum_keys]
  refine Finset.sum_congr rfl fun k _ => Finset.sum_congr rfl fun κ _ => ?_
  have e : VT (dt x0 x1 x2 x3 n).W k (hd s) 64 κ = 1 := (dif_neg (by decide)).trans (if_pos (by decide))
  rw [e, one_mul]

/-- What a grid point computes, from the plain attention's mean and its scaling. -/
theorem out_eq (j : Fin 2) (l : Fin 128) : (dt x0 x1 x2 x3 n).out (n % 8) j r l
    = nrm (Cert.AttnRefIdeal.Hand.num x0 x1 x2 (bt n) (hh n (slot j (ch l))) (qq n (slot j (ch l)) r)) (Cert.AttnRefIdeal.Hand.den x0 x1 x2 (bt n) (hh n (slot j (ch l))) (qq n (slot j (ch l)) r)) (cd l)
      * x3 (ix1 ⟨128 * (n / 8 % 4) + l.val, by omega⟩) := by
  show outv _ _ _ _ _ = _
  unfold outv
  rw [acc_den x0 x1 x2 x3 n (slot j (ch l)) r hf]
  refine congrArg (fun a : EReal => a * _) (congrArg (fun a => nrm a _ _) ?_)
  funext d
  exact acc_num x0 x1 x2 x3 n (slot j (ch l)) r hf d

omit hf

variable (m : (ℓ : Loc nD τ sig) → Buf (Elt Ideal) ℓ)

/-- The result array is the plain attention's. -/
theorem result_eq (c : Dev nD) (hf : NoFuture (X2 m c)) :
    result m c = Cert.AttnRefIdeal.Read.val_main_v69 (F := Ideal) (X0 m c) (X1 m c) (X2 m c) (X3 m c) := by
  funext i
  have h0 : (i 0).val < 4 := (i 0).isLt
  have h1 : (i 1).val < 4096 := (i 1).isLt
  have h2 : (i 2).val < 512 := (i 2).isLt
  have ei : i = ix3 (⟨(i 0).val, h0⟩ : Fin 4) (⟨(i 1).val, h1⟩ : Fin 4096) (⟨(i 2).val, h2⟩ : Fin 512) := by
    funext a; match a with | ⟨0, _⟩ => rfl | ⟨1, _⟩ => rfl | ⟨2, _⟩ => rfl
  generalize hb : (⟨(i 0).val, h0⟩ : Fin 4) = b at ei
  generalize hs : (⟨(i 1).val, h1⟩ : Fin 4096) = s at ei
  generalize ho : (⟨(i 2).val, h2⟩ : Fin 512) = o at ei
  clear hb hs ho
  subst ei
  rw [Cert.AttnRefIdeal.Hand.v69_apply]
  generalize hn : 32 * b.val + 8 * (o.val / 128) + s.val / 512 = n
  have e : result m c (ix3 b s o) = (dt (X0 m c) (X1 m c) (X2 m c) (X3 m c) n).out (n % 8) ⟨s.val % 512 / 256, by omega⟩ ⟨s.val % 512 % 256, by omega⟩ ⟨o.val % 128, by omega⟩ := by
    subst hn; rfl
  rw [e, out_eq _ _ _ _ n _ hf]
  have hcl : (ch (⟨o.val % 128, by omega⟩ : Fin 128)).val = o.val % 128 / 64 := rfl
  have hhd : (hd (slot ⟨s.val % 512 / 256, by omega⟩ (ch ⟨o.val % 128, by omega⟩))).val = o.val % 128 / 64 := by
    show (2 * (s.val % 512 / 256) + o.val % 128 / 64) % 2 = o.val % 128 / 64; omega
  have hjb : (jb (slot ⟨s.val % 512 / 256, by omega⟩ (ch ⟨o.val % 128, by omega⟩))).val = s.val % 512 / 256 := by
    show (2 * (s.val % 512 / 256) + o.val % 128 / 64) / 2 = s.val % 512 / 256; omega
  have e0 : bt n = b := Fin.ext (by show n / 32 % 4 = b.val; omega)
  have e1 : hh n (slot ⟨s.val % 512 / 256, by omega⟩ (ch ⟨o.val % 128, by omega⟩)) = ⟨o.val / 64, by omega⟩ :=
    Fin.ext (by show 2 * (n / 8 % 4) + (hd _).val = o.val / 64; rw [hhd]; omega)
  have e2 : qq n (slot ⟨s.val % 512 / 256, by omega⟩ (ch ⟨o.val % 128, by omega⟩)) ⟨s.val % 512 % 256, by omega⟩ = s :=
    Fin.ext (by show 512 * (n % 8) + (256 * (jb _).val + s.val % 512 % 256) = s.val; rw [hjb]; omega)
  have e3 : cd (⟨o.val % 128, by omega⟩ : Fin 128) = ⟨o.val % 64, by omega⟩ := Fin.ext (by show o.val % 128 % 64 = o.val % 64; omega)
  have e4 : (⟨128 * (n / 8 % 4) + o.val % 128, by omega⟩ : Fin 512) = o := Fin.ext (by show 128 * (n / 8 % 4) + o.val % 128 = o.val; omega)
  rw [e0, e1, e2, e3]
  exact congrArg (fun a : Fin 512 => _ * X3 m c (ix1 a)) e4

/-- The precondition says that the future tiles hold the least number. -/
theorem noFuture [Cert.Pre_no_future.Facts] (c : Dev nD) (h : Cert.Pre_no_future.fn (F := Ideal) (X0 m c) (X1 m c) (X2 m c) (X3 m c) = fun _ => 1#1) : NoFuture (X2 m c) := by
  intro h' κ r
  have hi := congrFun h (ix4 h' 3 κ r)
  have hor : ∀ a b : BitVec 1, IntOp.ori a b = 1#1 ↔ a = 1#1 ∨ b = 1#1 := by decide
  have hi' : IntOp.ori (IntOp.ori (BitVec.ofBool (decide ((X2 m c (ix4 h' 3 κ r) : EReal) < Ideal.ofBits FTy.f32 4286578688#32))) (BitVec.ofBool (decide ((X2 m c (ix4 h' 3 κ r) : EReal) = Ideal.ofBits FTy.f32 4286578688#32))))
      (IntOp.cmpi .slt (BitVec.ofNat 32 3) 3#32) = 1#1 := hi
  have hb : ∀ p : Prop, ∀ _ : Decidable p, BitVec.ofBool (decide p) = 1#1 ↔ p := by
    intro p _; by_cases h : p <;> simp [h]
  rw [hor, hor, hb, hb, bits_bot] at hi'
  rcases hi' with (h | h) | h
  · exact absurd h not_lt_bot
  · exact h
  · exact absurd h (by decide)

end Cert.AttnIdeal.Hand

namespace Cert.Proof.AttnClaims

open Idealize.ShloMosaic Idealize.ShloMosaic.TcCoe Idealize.SL.Sem

/-- The run of the reference leaves its arguments and declares no counter. -/
theorem frame_ref : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

/-- At the extended reals the attention call's array is the plain attention's, where the future tiles hold the least number. -/
theorem algebraic [Cert.Pre_no_future.Facts] : Cert.algebraic_AttnIdeal_AttnRefIdeal_pre_no_future := by
  intro m ρ m' ρ' hpre hagree
  refine ⟨fun c => Cert.AttnIdeal.Hand.result m c, ?_, ?_⟩
  · exact (θ_run Cert.AttnIdeal.defs _ _).mono (fun _ h c => h c) (Cert.AttnIdeal.Hand.vrun m ρ)
  · refine (θ_run Cert.AttnRefIdeal.defs _ _).mono (fun _ h c => ⟨(h c).1.trans ?_, (h c).2⟩)
      (Cert.AttnRefIdeal.Value.run (F := Ideal) m' ρ')
    refine (Cert.AttnRefIdeal.Read.val_main_v69_eq (F := Ideal) m' c).trans ?_
    refine Eq.trans ?_ (Cert.AttnIdeal.Hand.result_eq m c (Cert.AttnIdeal.Hand.noFuture m c (hpre c))).symm
    obtain ⟨e0, e1, e2, e3⟩ := hagree c
    rw [e0, e1, e2, e3]

end Cert.Proof.AttnClaims
end
-- ==== Proof.Mod.lean ====
module

public import proofs.«01_k».proof.Defs
public import proofs.«01_k».proof.Proof.Gen.ModIdeal.Value
public import proofs.«01_k».proof.Proof.Gen.ModRefIdeal.Run
public import proofs.«01_k».proof.Proof.Gen.ModRefIdeal.Read
public import Idealize.ShloMosaic.Lib.Pipeline.Value
public import Idealize.ShloMosaic.Lib.Pointwise
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ModIdeal.Hand

open Cert.ModIdeal Cert.ModIdeal.Gen

variable (m : (ℓ : Loc nD τ sig) → Buf (Elt Ideal) ℓ) (ρ : Dev nD → PrngReg)

/-- The gated linear unit of one entry: the entry times its logistic. -/
def silu (x : EReal) : EReal := x * Ideal.logistic x

/-- Below plus infinity the unit is a number. -/
theorem silu_real {x : EReal} (h : x ≠ ⊤) : ∃ a : ℝ, silu x = a := by
  unfold silu
  induction x with
  | bot => exact ⟨0, by rw [Ideal.logistic_bot, mul_zero, EReal.coe_zero]⟩
  | coe r => exact ⟨_, by rw [Ideal.logistic_coe, ← EReal.coe_mul]⟩
  | top => exact absurd rfl h

theorem silu_zero : silu 0 = 0 := zero_mul _

/-- A product is not changed by the product with the low part of a weight below plus infinity. -/
theorem low_weight (a : ℝ) {w : EReal} (h : w ≠ ⊤) : (a : EReal) * w + (a : EReal) * (w - w) = a * w := by
  induction w with
  | bot =>
    rw [EReal.bot_sub]
    rcases lt_trichotomy a 0 with ha | rfl | ha
    · rw [EReal.coe_mul_bot_of_neg ha]; rfl
    · simp
    · rw [EReal.coe_mul_bot_of_pos ha]; rfl
  | coe r => rw [← EReal.coe_sub, sub_self, EReal.coe_zero, mul_zero, add_zero]
  | top => exact absurd rfl h

/-- The three products of the high and low parts add up to the plain product. -/
theorem three (u w : Fin 1024 → EReal) (hu : ∀ k, u k ≠ ⊤) (hw : ∀ k, w k ≠ ⊤) :
    (∑ k, silu (u k) * w k + ∑ k, silu (u k) * (w k - w k)) + ∑ k, (silu (u k) - silu (u k)) * w k = ∑ k, silu (u k) * w k := by
  rw [← Finset.sum_add_distrib, ← Finset.sum_add_distrib]
  refine Finset.sum_congr rfl fun k _ => ?_
  obtain ⟨a, ha⟩ := silu_real (hu k)
  rw [ha, low_weight a (hw k), ← EReal.coe_sub, sub_self, EReal.coe_zero, zero_mul, add_zero]

/-- One element of what a grid point stores. -/
theorem pay_apply (v0 : Vec Ideal S8x1024 .f32) (v8 : Vec Ideal S1024x1536 .f32) (v19 : Vec Ideal S1x1536 .f32) (r : Fin 8) (l : Fin 1536) :
    k0_pay1 v0 v8 v19 (ix2 r l)
      = ((∑ k : Fin 1024, silu (v0 (ix2 r k)) * v8 (ix2 k l) + ∑ k : Fin 1024, silu (v0 (ix2 r k)) * HSub.hSub (α := EReal) (β := EReal) (v8 (ix2 k l)) (v8 (ix2 k l)))
          + ∑ k : Fin 1024, (silu (v0 (ix2 r k)) - silu (v0 (ix2 r k))) * v8 (ix2 k l)) + v19 (ix2 0 l) := by
  unfold silu
  pointwise [k0_pay1]

/-- The reference's product at an index. -/
theorem ref_dot (x0 : FVec Ideal S4x1024 .f32) (x1 : FVec Ideal S1x1024x6144 .f32) (r : Fin 4) (l : Fin 6144) :
    Cert.ModRefIdeal.Read.val_main_v2 (F := Ideal) x0 x1 (ix2 r l) = ∑ k : Fin 1024, silu (x0 (ix2 r k)) * x1 (ix3 0 k l) := by
  unfold silu Ideal.logistic
  pointwise [Cert.ModRefIdeal.Read.val_main_v2, Cert.ModRefIdeal.Read.val_main_v1, Cert.ModRefIdeal.Read.val_main_v0, Cert.ModRefIdeal.Read.val_main_call0_v5, Cert.ModRefIdeal.Read.val_main_call0_v4, Cert.ModRefIdeal.Read.val_main_call0_v3, Cert.ModRefIdeal.Read.val_main_call0_v2, Cert.ModRefIdeal.Read.val_main_call0_v1, Cert.ModRefIdeal.Read.val_main_call0_v0, Cert.ModRefIdeal.Read.val_main_call0_cst, Cert.ModRefIdeal.Read.val_main_call0_cst_0]

/-- The integer zero, read as a number. -/
theorem zero_word : FloatOps.sitofp (F := Ideal) FTy.f32 0#32 = (0 : EReal) := by
  show (((0#32 : BitVec 32).toInt : ℝ) : EReal) = 0
  simp

/-- A row of the padded condition: the condition's row, or zeros. -/
def row (x0 : FVec Ideal S4x1024 .f32) (r : Fin 8) (k : Fin 1024) : EReal :=
  if h : r.val < 4 then x0 (ix2 ⟨r.val, h⟩ k) else 0

/-- The reference's result at an index, from the padded condition. -/
theorem ref_apply (x0 : FVec Ideal S4x1024 .f32) (x1 : FVec Ideal S1x1024x6144 .f32) (x2 : FVec Ideal S1x6144 .f32) (r : Fin 8) (l : Fin 6144) :
    Cert.ModRefIdeal.Read.val_main_v7 (F := Ideal) x0 x1 x2 (ix2 r l)
      = HAdd.hAdd (α := EReal) (β := EReal) (∑ k : Fin 1024, silu (row x0 r k) * x1 (ix3 0 k l)) (x2 (ix2 0 l)) := by
  unfold row
  by_cases h : r.val < 4
  · simp only [dif_pos h]
    rw [← ref_dot]
    pointwise [Cert.ModRefIdeal.Read.val_main_v7, Cert.ModRefIdeal.Read.val_main_v6, Cert.ModRefIdeal.Read.val_main_v5, Cert.ModRefIdeal.Read.val_main_v4, Cert.ModRefIdeal.Read.val_main_v3]
    rw [dif_pos h]
  · simp only [dif_neg h, silu_zero, zero_mul, Finset.sum_const_zero]
    pointwise [Cert.ModRefIdeal.Read.val_main_v7, Cert.ModRefIdeal.Read.val_main_v6, Cert.ModRefIdeal.Read.val_main_v5, Cert.ModRefIdeal.Read.val_main_v4, Cert.ModRefIdeal.Read.val_main_v3, Cert.ModRefIdeal.Read.val_main_call1_v0, Cert.ModRefIdeal.Read.val_main_c]
    rw [dif_neg h, zero_word, zero_add]

abbrev X0 (c : Dev nD) : FVec Ideal S4x1024 .f32 := m ((c : Thread nD τ).loc main_arg0)
abbrev X1 (c : Dev nD) : FVec Ideal S1x1024x6144 .f32 := m ((c : Thread nD τ).loc main_arg1)
abbrev X2 (c : Dev nD) : FVec Ideal S1x6144 .f32 := m ((c : Thread nD τ).loc main_arg2)

/-- The padded condition's staged array. -/
theorem c_apply (c : Dev nD) (r : Fin 8) (k : Fin 1024) : (V m c main_v0 : FVec Ideal S8x1024 .f32) (ix2 r k) = row (X0 m c) r k := by
  unfold row
  unfold V
  after_reads_at
  rw [zero_word]

/-- The weight's staged array. -/
theorem w_apply (c : Dev nD) (k : Fin 1024) (l : Fin 6144) : (V m c main_v1 : FVec Ideal S1024x6144 .f32) (ix2 k l) = X1 m c (ix3 0 k l) := by
  unfold V
  after_reads_at

/-- The bias's staged array. -/
theorem b_apply (c : Dev nD) (l : Fin 6144) : (V m c main_v3 : FVec Ideal S1x6144 .f32) (ix2 0 l) = X2 m c (ix2 0 l) := by
  unfold V
  after_reads_at

theorem idx0 : ∀ t : Fin cfg0.N, win0_0.index t 0 = 0 ∧ win0_0.index t 1 = 0 := by decide +kernel
theorem idx1 : ∀ t : Fin cfg0.N, win0_1.index t 0 = 0 ∧ win0_1.index t 1 = t.val := by decide +kernel
theorem idx2 : ∀ t : Fin cfg0.N, win0_2.index t 0 = 0 ∧ win0_2.index t 1 = t.val := by decide +kernel
theorem idx3 : ∀ t : Fin cfg0.N, win0_3.index t 0 = 0 ∧ win0_3.index t 1 = t.val := by decide +kernel

theorem lt_N (t : Fin cfg0.N) : t.val < 4 := by have := t.isLt; have h : cfg0.N = 4 := N_0; omega

/-- The condition's block at every grid point is the whole padded condition. -/
theorem blk0 (c : Dev nD) (t : Fin cfg0.N) (r : Fin 8) (k : Fin 1024) :
    (iblk m c 0 t : FVec Ideal S8x1024 .f32) (ix2 r k) = row (X0 m c) r k := by
  refine Eq.trans ?_ (c_apply m c r k)
  show (V m c main_v0 : FVec Ideal S8x1024 .f32) ((win0_0.rect t).emb (ix2 r k)) = _
  congr 1
  funext a
  apply Fin.ext
  have e := idx0 t
  match a with
  | ⟨0, _⟩ => exact (win0_0.rect_emb_val t _ 0).trans (by rw [e.1]; show 0 * 8 + r.val = r.val; omega)
  | ⟨1, _⟩ => exact (win0_0.rect_emb_val t _ 1).trans (by rw [e.2]; show 0 * 1024 + k.val = k.val; omega)

/-- The weight's block at a grid point: its quarter of the columns. -/
theorem blk1 (c : Dev nD) (t : Fin cfg0.N) (k : Fin 1024) (l : Fin 1536) :
    (iblk m c 1 t : FVec Ideal S1024x1536 .f32) (ix2 k l) = X1 m c (ix3 0 k ⟨t.val * 1536 + l.val, by have := lt_N t; omega⟩) := by
  refine Eq.trans ?_ (w_apply m c k _)
  show (V m c main_v1 : FVec Ideal S1024x6144 .f32) ((win0_1.rect t).emb (ix2 k l)) = _
  congr 1
  funext a
  apply Fin.ext
  have e := idx1 t
  match a with
  | ⟨0, _⟩ => exact (win0_1.rect_emb_val t _ 0).trans (by rw [e.1]; show 0 * 1024 + k.val = k.val; omega)
  | ⟨1, _⟩ => exact (win0_1.rect_emb_val t _ 1).trans (by rw [e.2]; rfl)

/-- The bias's block at a grid point: its quarter of the columns. -/
theorem blk2 (c : Dev nD) (t : Fin cfg0.N) (l : Fin 1536) :
    (iblk m c 2 t : FVec Ideal S1x1536 .f32) (ix2 0 l) = X2 m c (ix2 0 ⟨t.val * 1536 + l.val, by have := lt_N t; omega⟩) := by
  refine Eq.trans ?_ (b_apply m c _)
  show (V m c main_v3 : FVec Ideal S1x6144 .f32) ((win0_2.rect t).emb (ix2 0 l)) = _
  congr 1
  funext a
  apply Fin.ext
  have e := idx2 t
  match a with
  | ⟨0, _⟩ => exact (win0_2.rect_emb_val t _ 0).trans (by rw [e.1]; rfl)
  | ⟨1, _⟩ => exact (win0_2.rect_emb_val t _ 1).trans (by rw [e.2]; rfl)

/-- The reference's result on the arguments of device `c`. -/
abbrev G (c : Dev nD) : FVec Ideal S8x6144 .f32 := Cert.ModRefIdeal.Read.val_main_v7 (F := Ideal) (X0 m c) (X1 m c) (X2 m c)

/-- No entry of the condition and of the weight is plus infinity. -/
def Below (c : Dev nD) : Prop := (∀ r k, X0 m c (ix2 r k) ≠ (⊤ : EReal)) ∧ ∀ k l, X1 m c (ix3 0 k l) ≠ (⊤ : EReal)

theorem row_ne_top (c : Dev nD) (h : Below m c) (r : Fin 8) (k : Fin 1024) : row (X0 m c) r k ≠ ⊤ := by
  unfold row
  split_ifs
  · exact h.1 _ _
  · exact EReal.coe_ne_top 0

/-- One element of what a grid point stores, as an element of the reference's result. -/
theorem out_apply (c : Dev nD) (h : Below m c) (t : Fin cfg0.N) (r : Fin 8) (l : Fin 1536) :
    out0_3 (iblk m c 0 t) (iblk m c 1 t) (iblk m c 2 t) (ix2 r l : S8x1536.Idx)
      = G m c (ix2 r ⟨t.val * 1536 + l.val, by have := lt_N t; omega⟩) := by
  unfold out0_3
  rw [View.canon_unit_zero (by funext a; fin_cases a <;> rfl)]
  refine (pay_apply _ _ _ r l).trans ?_
  refine Eq.trans ?_ (ref_apply _ _ _ _ _).symm
  have h0 := fun k : Fin 1024 => ((by pointwise [r0_0] : View.ld (iblk m c 0 t) r0_0 (ix2 r k) = iblk m c 0 t (ix2 r k : S8x1024.Idx))).trans (blk0 m c t r k)
  have h1 := fun k : Fin 1024 => ((by pointwise [r0_1] : View.ld (iblk m c 1 t) r0_1 (ix2 k l) = iblk m c 1 t (ix2 k l : S1024x1536.Idx))).trans (blk1 m c t k l)
  have h2 := ((by pointwise [r0_2] : View.ld (iblk m c 2 t) r0_2 (ix2 0 l) = iblk m c 2 t (ix2 0 l : S1x1536.Idx))).trans (blk2 m c t l)
  simp only [h0, h1, h2]
  exact congrArg (fun a : EReal => a + _) (three _ _ (fun k => row_ne_top m c h r k) (fun k => h.2 k _))

/-- What a grid point writes back is its block of the reference's result. -/
theorem flushed_eq (c : Dev nD) (h : Below m c) (t : Fin cfg0.N) :
    (dats m 0 c).flushed 3 t = ((cfg0.win 3).blk t).view.read (Elt Ideal) (G m c) := by
  rw [Value.flushed3]
  funext y
  show out0_3 (iblk m c 0 t) (iblk m c 1 t) (iblk m c 2 t) (y : S8x1536.Idx) = G m c ((win0_3.rect t).emb y)
  have hy : (y : S8x1536.Idx) = ix2 ⟨(y 0).val, (y 0).isLt⟩ ⟨(y 1).val, (y 1).isLt⟩ := by
    funext a
    match a with
    | ⟨0, _⟩ => rfl
    | ⟨1, _⟩ => rfl
  refine (congrArg _ hy).trans ((out_apply m c h t _ _).trans (congrArg (G m c) ?_))
  funext a
  apply Fin.ext
  have e := idx3 t
  match a with
  | ⟨0, _⟩ => exact ((win0_3.rect_emb_val t y 0).trans (by rw [e.1]; show 0 * 8 + (y 0).val = (y 0).val; omega)).symm
  | ⟨1, _⟩ => exact ((win0_3.rect_emb_val t y 1).trans (by rw [e.2]; rfl)).symm

/-- Every index of the result is in the block of the grid point of its quarter of the columns. -/
theorem cover (i : S8x6144.Idx) : ∃ t : Fin cfg0.N, (cfg0.win 3).flush t = true ∧ i ∈ ((cfg0.win 3).blk t).view.set := by
  have h0 : (i 0 : Nat) < 8 := (i 0).isLt
  have h1 : (i 1 : Nat) < 6144 := (i 1).isLt
  have hN : cfg0.N = 4 := N_0
  refine ⟨⟨(i 1 : Nat) / 1536, by omega⟩, flush0_3 _, ?_⟩
  generalize ht : (⟨(i 1 : Nat) / 1536, _⟩ : Fin cfg0.N) = t
  have htv : t.val = (i 1 : Nat) / 1536 := by rw [← ht]
  show i ∈ ((View.whole main_v4).slice (win0_3.rect t)).set
  rw [View.set_slice_whole, Rect.mem_set_unit]
  have e := idx3 t
  intro a
  match a with
  | ⟨0, _⟩ => show win0_3.index t 0 * 8 ≤ (i 0 : Nat) ∧ (i 0 : Nat) < win0_3.index t 0 * 8 + 8
              rw [e.1]; omega
  | ⟨1, _⟩ => show win0_3.index t 1 * 1536 ≤ (i 1 : Nat) ∧ (i 1 : Nat) < win0_3.index t 1 * 1536 + 1536
              rw [e.2]; omega

/-- The result array ends at the reference's result. -/
theorem final (c : Dev nD) (h : Below m c) : (dats m 0 c).arrAt 3 cfg0.N = G m c :=
  (dats m 0 c).arrAt_eq_of_cover 3 (G m c) (fun t _ => flushed_eq m c h t) cover

theorem bits_top : Ideal.ofBits FTy.f32 2139095040#32 = ⊤ := by
  simp [Ideal.ofBits, Ideal.ieee]

/-- The precondition says that no entry is plus infinity. -/
theorem below [Cert.Pre_below_inf.Facts] (c : Dev nD) (h : Cert.Pre_below_inf.fn (F := Ideal) (X0 m c) (X1 m c) (X2 m c) = fun _ => 1#1) : Below m c := by
  have hand : ∀ a b : BitVec 1, IntOp.andi a b = 1#1 ↔ a = 1#1 ∧ b = 1#1 := by decide
  have hb : ∀ p : Prop, ∀ _ : Decidable p, BitVec.ofBool (decide p) = 1#1 ↔ p := by
    intro p _; by_cases h : p <;> simp [h]
  have key : ∀ (r : Fin 4) (k : Fin 1024) (l : Fin 6144), (X0 m c (ix2 r k) : EReal) < ⊤ ∧ (X1 m c (ix3 0 k l) : EReal) < ⊤ := by
    intro r k l
    have hi := congrFun h (ix3 r k l)
    have e : Cert.Pre_below_inf.fn (F := Ideal) (X0 m c) (X1 m c) (X2 m c) (ix3 r k l)
        = IntOp.andi (BitVec.ofBool (decide ((X0 m c (ix2 r k) : EReal) < Ideal.ofBits FTy.f32 2139095040#32)))
            (BitVec.ofBool (decide ((X1 m c (ix3 0 k l) : EReal) < Ideal.ofBits FTy.f32 2139095040#32))) := by
      pointwise [Cert.Pre_below_inf.fn]
    rw [e, hand, hb, hb, bits_top] at hi
    exact hi
  exact ⟨fun r k => ne_of_lt (key r k 0).1, fun k l => ne_of_lt (key 0 k l).2⟩

end Cert.ModIdeal.Hand

namespace Cert.Proof.ModClaims

/-- The run of the reference leaves its arguments and declares no counter. -/
theorem frame_ref : Cert.quiescent_ModRefIdeal := fun m ρ _ =>
  (θ_run Cert.ModRefIdeal.defs _ _).mono (fun r h => ⟨fun c => (h c).2,
      Idealize.ShloMosaic.sem_eq_zero_of_no_sems (by decide) r.2⟩)
    (Cert.ModRefIdeal.Value.run (F := Ideal) m ρ)

/-- At the extended reals the modulation call's array is the reference's, where no entry of condition and weight is plus infinity. -/
theorem algebraic [Cert.Pre_below_inf.Facts] : Cert.algebraic_ModIdeal_ModRefIdeal_pre_below_inf := by
  intro m ρ m' ρ' hpre hagree
  refine ⟨fun c => Cert.ModIdeal.Hand.G m c, ?_, ?_⟩
  · exact (θ_run Cert.ModIdeal.defs _ _).mono
      (fun _ h c => ⟨(h c).1.trans (Cert.ModIdeal.Hand.final m c (Cert.ModIdeal.Hand.below m c (hpre c))), (h c).2⟩)
      (Cert.ModIdeal.Value.run_blocks (F := Ideal) m ρ)
  · refine (θ_run Cert.ModRefIdeal.defs _ _).mono (fun _ h c => ⟨(h c).1.trans ?_, (h c).2⟩)
      (Cert.ModRefIdeal.Value.run (F := Ideal) m' ρ')
    refine (Cert.ModRefIdeal.Read.val_main_v7_eq (F := Ideal) _ _ _).trans ?_
    unfold Cert.ModIdeal.Hand.G
    obtain ⟨e0, e1, e2⟩ := hagree c
    rw [e0, e1, e2]

end Cert.Proof.ModClaims
end
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Pre_finite
public import Idealize.ShloMosaic.Adequacy
public import proofs.«01_k».proof.Proof.Gen.MlpIdeal.Value
public import proofs.«01_k».proof.Proof.Gen.MlpRefIdeal.Run
public import proofs.«01_k».proof.Proof.Gen.MlpRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.GateIdeal.Value
public import proofs.«01_k».proof.Proof.Gen.GateRefIdeal.Run
public import proofs.«01_k».proof.Proof.Gen.GateRefIdeal.Read
public import proofs.«01_k».proof.Proof.Gen.ModIdeal.Value
public import proofs.«01_k».proof.Proof.Gen.ModRefIdeal.Run
public import proofs.«01_k».proof.Proof.Gen.ModRefIdeal.Read
public import Idealize.ShloMosaic.Init
public import proofs.«01_k».proof.Proof.InProj
public import proofs.«01_k».proof.Proof.Gate
public import proofs.«01_k».proof.Proof.AttnFrame
public import proofs.«01_k».proof.Proof.AttnIdealFrame
public import proofs.«01_k».proof.Proof.Mlp
public import proofs.«01_k».proof.Proof.Attn
public import proofs.«01_k».proof.Proof.Mod
public import proofs.«01_k».proof.Proof.Gen.Mod.Frame
public import proofs.«01_k».proof.Proof.Gen.ModIdeal.Frame
public import proofs.«01_k».proof.Proof.Gen.Pre_below_inf

@[expose] public section

noncomputable section

namespace Cert.Proof

open Idealize.ShloMosaic Idealize.SL.Sem

/-- Every claim of the certificate. -/
theorem claim : Cert.Claim :=
  ⟨Cert.Mlp.Gen.facts, Cert.MlpIdeal.Gen.facts, Cert.MlpRefIdeal.Gen.facts, Cert.InProj.Gen.facts, Cert.InProjIdeal.Gen.facts,
    Cert.InProjRefIdeal.Gen.facts, Cert.Gate.Gen.facts, Cert.GateIdeal.Gen.facts, Cert.GateRefIdeal.Gen.facts, Cert.Attn.Gen.facts,
    Cert.AttnIdeal.Gen.facts, Cert.AttnRefIdeal.Gen.facts, Cert.Mod.Gen.facts, Cert.ModIdeal.Gen.facts, Cert.ModRefIdeal.Gen.facts,
    Cert.Pre_finite.Gen.facts, Cert.Pre_no_future.Gen.facts, Cert.Pre_below_inf.Gen.facts,
    fun m ρ _ => Cert.Mlp.Gen.frame m ρ,
    fun m ρ _ => Cert.MlpIdeal.Gen.frame m ρ,
    MlpClaims.frame_ref,
    fun m ρ _ => Cert.InProj.Gen.frame m ρ,
    fun m ρ _ => Cert.InProjIdeal.Gen.frame m ρ,
    InProjClaims.frame_ref,
    fun m ρ _ => Cert.Gate.Gen.frame m ρ,
    fun m ρ _ => Cert.GateIdeal.Gen.frame m ρ,
    fun m ρ _ => Cert.GateIdeal.Gen.frame m ρ,
    GateClaims.frame_ref,
    fun m ρ _ => GateClaims.frame_ref m ρ trivial,
    fun m ρ _ => Cert.Attn.Run.frame m ρ,
    fun m ρ _ => Cert.AttnIdeal.Run.frame m ρ,
    fun m ρ _ => Cert.AttnIdeal.Run.frame m ρ,
    AttnClaims.frame_ref,
    fun m ρ _ => AttnClaims.frame_ref m ρ trivial,
    fun m ρ _ => Cert.Mod.Gen.frame m ρ,
    fun m ρ _ => Cert.ModIdeal.Gen.frame m ρ,
    fun m ρ _ => Cert.ModIdeal.Gen.frame m ρ,
    ModClaims.frame_ref,
    fun m ρ _ => ModClaims.frame_ref m ρ trivial,
    trivial,
    MlpClaims.algebraic,
    trivial,
    InProjClaims.algebraic,
    IdealRules.named_const.statement Cert.GateIdeal.κ "mask" .f32 0xF149F2CA#32 ⊥ rfl,
    GateClaims.algebraic,
    trivial,
    AttnClaims.algebraic,
    trivial,
    ModClaims.algebraic⟩

end Cert.Proof

end
